-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_v9) = v1 c
          ∧ r.2.mem ((c.tc : Thread Cert.Reference7Ideal.nD Cert.Reference7Ideal.τ).loc Cert.Reference7Ideal.main_v10) = v2 c
          ∧ r.2.mem ((c.tc : Thread Cert.Reference7Ideal.nD Cert.Reference7Ideal.τ).loc Cert.Reference7Ideal.main_v7) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v9) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v10) = v0 c
          ∧ r.2.mem ((c.tc : Thread Cert.Reference13Ideal.nD Cert.Reference13Ideal.τ).loc Cert.Reference13Ideal.main_v11) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_v11) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)) (v4 : (c : Dev Cert.Kernel15Ideal.nD) → Buf (Elt Ideal) ((c.tc : Thread Cert.Kernel15Ideal.nD Cert.Kernel15Ideal.τ).loc Cert.Kernel15Ideal.main_v0_4)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_v0_4) = v4 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v32) = v0 c
          ∧ r.2.mem ((c.tc : Thread Cert.Reference15Ideal.nD Cert.Reference15Ideal.τ).loc Cert.Reference15Ideal.main_v33) = v1 c
          ∧ r.2.mem ((c.tc : Thread Cert.Reference15Ideal.nD Cert.Reference15Ideal.τ).loc Cert.Reference15Ideal.main_v34) = v2 c
          ∧ r.2.mem ((c.tc : Thread Cert.Reference15Ideal.nD Cert.Reference15Ideal.τ).loc Cert.Reference15Ideal.main_v35) = v3 c
          ∧ r.2.mem ((c.tc : Thread Cert.Reference15Ideal.nD Cert.Reference15Ideal.τ).loc Cert.Reference15Ideal.main_v36) = v4 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_v4) = v1 c
          ∧ r.2.mem ((c.tc : Thread Cert.Reference25Ideal.nD Cert.Reference25Ideal.τ).loc Cert.Reference25Ideal.main_v10) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v35) = v0 c
          ∧ r.2.mem ((c.tc : Thread Cert.Reference26Ideal.nD Cert.Reference26Ideal.τ).loc Cert.Reference26Ideal.main_v18) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v12) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
-- ==== Kernel.lean ====
abbrev S8192x1536 : Shape := ⟨2, ![8192, 1536]⟩
abbrev S4x8x2048 : Shape := ⟨3, ![4, 8, 2048]⟩
abbrev S8192x512 : Shape := ⟨2, ![8192, 512]⟩
abbrev S8192x5376 : Shape := ⟨2, ![8192, 5376]⟩
abbrev S4x2048x4x3x2x64 : Shape := ⟨6, ![4, 2048, 4, 3, 2, 64]⟩
abbrev S3x4x4x2x2048x64 : Shape := ⟨6, ![3, 4, 4, 2, 2048, 64]⟩
abbrev S3x4x8x2048x64 : Shape := ⟨5, ![3, 4, 8, 2048, 64]⟩
abbrev S1x4x8x2048x64 : Shape := ⟨5, ![1, 4, 8, 2048, 64]⟩
abbrev S4x8x2048x64 : Shape := ⟨4, ![4, 8, 2048, 64]⟩
abbrev S_ : Shape := ⟨0, ![]⟩
abbrev S4x8x2048x2048 : Shape := ⟨4, ![4, 8, 2048, 2048]⟩
abbrev S4x8x1x2048 : Shape := ⟨4, ![4, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x8x2048x1 : Shape := ⟨4, ![4, 8, 2048, 1]⟩
abbrev S4x2048x8x64 : Shape := ⟨4, ![4, 2048, 8, 64]⟩
abbrev S4x4x2x2048 : Shape := ⟨4, ![4, 4, 2, 2048]⟩
abbrev S4x4x2048x2 : Shape := ⟨4, ![4, 4, 2048, 2]⟩
abbrev S4x8192x2 : Shape := ⟨3, ![4, 8192, 2]⟩
abbrev S2048x128 : Shape := ⟨2, ![2048, 128]⟩
abbrev S512x128 : Shape := ⟨2, ![512, 128]⟩
abbrev S1x2048x2 : Shape := ⟨3, ![1, 2048, 2]⟩
abbrev S1x1x2x2048 : Shape := ⟨4, ![1, 1, 2, 2048]⟩
abbrev S512x384 : Shape := ⟨2, ![512, 384]⟩
abbrev S1x1x2x512 : Shape := ⟨4, ![1, 1, 2, 512]⟩
abbrev S2x512 : Shape := ⟨2, ![2, 512]⟩
abbrev S1x128 : Shape := ⟨2, ![1, 128]⟩
abbrev S512x512 : Shape := ⟨2, ![512, 512]⟩
abbrev S2048x2 : Shape := ⟨2, ![2048, 2]⟩
abbrev S1x512x2 : Shape := ⟨3, ![1, 512, 2]⟩
abbrev S512x2 : Shape := ⟨2, ![512, 2]⟩
abbrev S512 : Shape := ⟨1, ![512]⟩
abbrev S512x1 : Shape := ⟨2, ![512, 1]⟩
abbrev S1x1x1x512 : Shape := ⟨4, ![1, 1, 1, 512]⟩
abbrev S1x512 : Shape := ⟨2, ![1, 512]⟩
abbrev S1x512x1 : Shape := ⟨3, ![1, 512, 1]⟩

abbrev nBuf : Space → Nat
  | .hbm => 56
  | .vmem => 24
  | .smem => 0
  | _ => 0

abbrev bufTy : (tb : Table) → Fin (tcTables nBuf tb) → BufTy
  | .hbm, ⟨0, _⟩ => ⟨S8192x1536, .bf16⟩
  | .hbm, ⟨1, _⟩ => ⟨S4x8x2048, .f32⟩
  | .hbm, ⟨2, _⟩ => ⟨S8192x512, .bf16⟩
  | .hbm, ⟨3, _⟩ => ⟨S8192x5376, .bf16⟩
  | .hbm, ⟨4, _⟩ => ⟨S8192x1536, .f32⟩
  | .hbm, ⟨5, _⟩ => ⟨S4x2048x4x3x2x64, .f32⟩
  | .hbm, ⟨6, _⟩ => ⟨S3x4x4x2x2048x64, .f32⟩
  | .hbm, ⟨7, _⟩ => ⟨S3x4x8x2048x64, .f32⟩
  | .hbm, ⟨8, _⟩ => ⟨S1x4x8x2048x64, .f32⟩
  | .hbm, ⟨9, _⟩ => ⟨S4x8x2048x64, .f32⟩
  | .hbm, ⟨10, _⟩ => ⟨S1x4x8x2048x64, .f32⟩
  | .hbm, ⟨11, _⟩ => ⟨S4x8x2048x64, .f32⟩
  | .hbm, ⟨12, _⟩ => ⟨S1x4x8x2048x64, .f32⟩
  | .hbm, ⟨13, _⟩ => ⟨S4x8x2048x64, .f32⟩
  | .hbm, ⟨14, _⟩ => ⟨S_, .f32⟩
  | .hbm, ⟨15, _⟩ => ⟨S4x8x2048x64, .f32⟩
  | .hbm, ⟨16, _⟩ => ⟨S4x8x2048x64, .f32⟩
  | .hbm, ⟨17, _⟩ => ⟨S4x8x2048x2048, .f32⟩
  | .hbm, ⟨18, _⟩ => ⟨S4x8x1x2048, .f32⟩
  | .hbm, ⟨19, _⟩ => ⟨S4x8x2048x2048, .f32⟩
  | .hbm, ⟨20, _⟩ => ⟨S4x8x2048x2048, .f32⟩
  | .hbm, ⟨21, _⟩ => ⟨S2048, .i32⟩
  | .hbm, ⟨22, _⟩ => ⟨S1x2048, .i32⟩
  | .hbm, ⟨23, _⟩ => ⟨S2048x1, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S_, .f32⟩
  | .hbm, ⟨28, _⟩ => ⟨S_, .f32⟩
  | .hbm, ⟨29, _⟩ => ⟨S4x8x2048x2048, .i1⟩
  | .hbm, ⟨30, _⟩ => ⟨S4x8x2048x2048, .f32⟩
  | .hbm, ⟨31, _⟩ => ⟨S4x8x2048x2048, .f32⟩
  | .hbm, ⟨32, _⟩ => ⟨S_, .f32⟩
  | .hbm, ⟨33, _⟩ => ⟨S4x8x2048, .f32⟩
  | .hbm, ⟨34, _⟩ => ⟨S4x8x2048x1, .f32⟩
  | .hbm, ⟨35, _⟩ => ⟨S4x8x2048x2048, .f32⟩
  | .hbm, ⟨36, _⟩ => ⟨S4x8x2048x2048, .f32⟩
  | .hbm, ⟨37, _⟩ => ⟨S4x8x2048x2048, .f32⟩
  | .hbm, ⟨38, _⟩ => ⟨S_, .f32⟩
  | .hbm, ⟨39, _⟩ => ⟨S4x8x2048, .f32⟩
  | .hbm, ⟨40, _⟩ => ⟨S4x8x2048x1, .f32⟩
  | .hbm, ⟨41, _⟩ => ⟨S4x8x2048x2048, .f32⟩
  | .hbm, ⟨42, _⟩ => ⟨S4x8x2048x2048, .f32⟩
  | .hbm, ⟨43, _⟩ => ⟨S4x8x2048x64, .f32⟩
  | .hbm, ⟨44, _⟩ => ⟨S4x2048x8x64, .f32⟩
  | .hbm, ⟨45, _⟩ => ⟨S8192x512, .f32⟩
  | .hbm, ⟨46, _⟩ => ⟨S8192x512, .bf16⟩
  | .hbm, ⟨47, _⟩ => ⟨S4x8x2048x1, .f32⟩
  | .hbm, ⟨48, _⟩ => ⟨S4x8x2048x1, .f32⟩
  | .hbm, ⟨49, _⟩ => ⟨S4x4x2x2048, .f32⟩
  | .hbm, ⟨50, _⟩ => ⟨S4x4x2048x2, .f32⟩
  | .hbm, ⟨51, _⟩ => ⟨S4x8192x2, .f32⟩
  | .hbm, ⟨52, _⟩ => ⟨S4x4x2x2048, .f32⟩
  | .hbm, ⟨53, _⟩ => ⟨S8192x5376, .bf16⟩
  | .hbm, ⟨54, _⟩ => ⟨S4x4x2x2048, .f32⟩
  | .hbm, ⟨55, _⟩ => ⟨S4x8192x2, .f32⟩
  | .local _ .vmem, ⟨0, _⟩ => ⟨S2048x128, .bf16⟩
  | .local _ .vmem, ⟨1, _⟩ => ⟨S2048x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S1x2048x2, .f32⟩
  | .local _ .vmem, ⟨11, _⟩ => ⟨S1x2048x2, .f32⟩
  | .local _ .vmem, ⟨12, _⟩ => ⟨S1x1x2x2048, .f32⟩
  | .local _ .vmem, ⟨13, _⟩ => ⟨S1x1x2x2048, .f32⟩
  | .local _ .vmem, ⟨14, _⟩ => ⟨S512x384, .bf16⟩
  | .local _ .vmem, ⟨15, _⟩ => ⟨S512x384, .bf16⟩
  | .local _ .vmem, ⟨16, _⟩ => ⟨S1x1x2x512, .f32⟩
  | .local _ .vmem, ⟨17, _⟩ => ⟨S1x1x2x512, .f32⟩
  | .local _ .vmem, ⟨18, _⟩ => ⟨S1x2048x2, .f32⟩
  | .local _ .vmem, ⟨19, _⟩ => ⟨S1x2048x2, .f32⟩
  | .local _ .vmem, ⟨20, _⟩ => ⟨S2048x128, .f32⟩
  | .local _ .vmem, ⟨21, _⟩ => ⟨S512x128, .f32⟩
  | .local _ .vmem, ⟨22, _⟩ => ⟨S512x128, .f32⟩
  | .local _ .vmem, ⟨23, _⟩ => ⟨S2x512, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42_0 : Ref sig .tc := ⟨.hbm, 53, rfl⟩
abbrev main_v42_1 : Ref sig .tc := ⟨.hbm, 54, rfl⟩
abbrev main_v42_2 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![4, 4, 4], ![false, false, false]⟩

def k0_mult1 (i : grid0.Coords) : BitVec 32 :=
  let arg2 : BitVec 32 := BitVec.ofNat 32 (i 2).val
  let c512_i32 : BitVec 32 := 512#32
  let v23 : BitVec 32 := Scalar.muli arg2 c512_i32
  v23
def k0_mult2 (i : grid0.Coords) : BitVec 32 :=
  let arg2 : BitVec 32 := BitVec.ofNat 32 (i 2).val
  let c512_i32_15 : BitVec 32 := 512#32
  let v35 : BitVec 32 := Scalar.muli arg2 c512_i32_15
  v35
def k0_off1 (i : grid0.Coords) : Fin 2 → Nat :=
  let arg2 : BitVec 32 := BitVec.ofNat 32 (i 2).val
  let c512_i32_15 : BitVec 32 := 512#32
  let v35 : BitVec 32 := Scalar.muli arg2 c512_i32_15
  let v36 : BitVec 32 := v35
  let v37 : Index := Scalar.indexCast v36
  let c0_16 : Index := 0#32
  ![v37.toNat, 0]
def k0_off2 (i : grid0.Coords) : Fin 3 → Nat :=
  let c0_20 : Index := 0#32
  let arg2 : BitVec 32 := BitVec.ofNat 32 (i 2).val
  let c512_i32_15 : BitVec 32 := 512#32
  let v35 : BitVec 32 := Scalar.muli arg2 c512_i32_15
  let v36 : BitVec 32 := v35
  let v49 : Index := Scalar.indexCast v36
  let c0_21 : Index := 0#32
  ![0, v49.toNat, 0]
def k0_off3 (i : grid0.Coords) : Fin 4 → Nat :=
  let c0_28 : Index := 0#32
  let c0_29 : Index := 0#32
  let c0_30 : Index := 0#32
  let arg2 : BitVec 32 := BitVec.ofNat 32 (i 2).val
  let c512_i32 : BitVec 32 := 512#32
  let v23 : BitVec 32 := Scalar.muli arg2 c512_i32
  let v24 : BitVec 32 := v23
  let v70 : Index := Scalar.indexCast v24
  ![0, 0, 0, v70.toNat]
def k0_off4 (i : grid0.Coords) : Fin 3 → Nat :=
  let c0_38 : Index := 0#32
  let arg2 : BitVec 32 := BitVec.ofNat 32 (i 2).val
  let c512_i32_15 : BitVec 32 := 512#32
  let v35 : BitVec 32 := Scalar.muli arg2 c512_i32_15
  let v36 : BitVec 32 := v35
  let v93 : Index := Scalar.indexCast v36
  let c0_39 : Index := 0#32
  ![0, v93.toNat, 0]
def k0_off5 (i : grid0.Coords) : Fin 4 → Nat :=
  let c0_59 : Index := 0#32
  let c0_60 : Index := 0#32
  let c1 : Index := 1#32
  let arg2 : BitVec 32 := BitVec.ofNat 32 (i 2).val
  let c512_i32 : BitVec 32 := 512#32
  let v23 : BitVec 32 := Scalar.muli arg2 c512_i32
  let v24 : BitVec 32 := v23
  let v136 : Index := Scalar.indexCast v24
  ![0, 0, 1, v136.toNat]
def k0_off6 (i : grid0.Coords) : Fin 3 → Nat :=
  let c0_68 : Index := 0#32
  let arg2 : BitVec 32 := BitVec.ofNat 32 (i 2).val
  let c512_i32_15 : BitVec 32 := 512#32
  let v35 : BitVec 32 := Scalar.muli arg2 c512_i32_15
  let v36 : BitVec 32 := v35
  let v159 : Index := Scalar.indexCast v36
  let c1_69 : Index := 1#32
  ![0, v159.toNat, 1]
@[reducible] def k0_t1_loop (i : grid0.Coords) : Scf.Loop 32 :=
  let arg2 : BitVec 32 := BitVec.ofNat 32 (i 2).val
  let c1_i32 : BitVec 32 := 1#32
  let v192 : BitVec 32 := Scalar.addi arg2 c1_i32
  let c4_i32 : BitVec 32 := 4#32
  let v193 : BitVec 32 := Scalar.subi c4_i32 v192
  let c1_i32_87 : BitVec 32 := 1#32
  let v195 : BitVec 32 := Scalar.divsi v193 c1_i32_87
  let v196 : BitVec 32 := Scalar.muli v195 c1_i32_87
  let v197 : BitVec 32 := Scalar.addi v192 v196
  let c1_i32_88 : BitVec 32 := 1#32
  ⟨v192, v197, c1_i32_88⟩
def k0_mult3 (i : grid0.Coords) (k0_t1 : Fin (k0_t1_loop i).trips) : BitVec 32 :=
  let arg2 : BitVec 32 := BitVec.ofNat 32 (i 2).val
  let c1_i32 : BitVec 32 := 1#32
  let v192 : BitVec 32 := Scalar.addi arg2 c1_i32
  let c1_i32_88 : BitVec 32 := 1#32
  let arg18 : BitVec 32 := Scf.iv v192 c1_i32_88 k0_t1
  let c512_i32_106 : BitVec 32 := 512#32
  let v214 : BitVec 32 := Scalar.muli arg18 c512_i32_106
  v214
def k0_off7 (i : grid0.Coords) (k0_t1 : Fin (k0_t1_loop i).trips) : Fin 2 → Nat :=
  let arg2 : BitVec 32 := BitVec.ofNat 32 (i 2).val
  let c1_i32 : BitVec 32 := 1#32
  let v192 : BitVec 32 := Scalar.addi arg2 c1_i32
  let c1_i32_88 : BitVec 32 := 1#32
  let arg18 : BitVec 32 := Scf.iv v192 c1_i32_88 k0_t1
  let c512_i32_106 : BitVec 32 := 512#32
  let v214 : BitVec 32 := Scalar.muli arg18 c512_i32_106
  let v215 : BitVec 32 := v214
  let v216 : Index := Scalar.indexCast v215
  let c0_107 : Index := 0#32
  ![v216.toNat, 0]
def k0_off8 (i : grid0.Coords) (k0_t1 : Fin (k0_t1_loop i).trips) : Fin 3 → Nat :=
  let c0_111 : Index := 0#32
  let arg2 : BitVec 32 := BitVec.ofNat 32 (i 2).val
  let c1_i32 : BitVec 32 := 1#32
  let v192 : BitVec 32 := Scalar.addi arg2 c1_i32
  let c1_i32_88 : BitVec 32 := 1#32
  let arg18 : BitVec 32 := Scf.iv v192 c1_i32_88 k0_t1
  let c512_i32_106 : BitVec 32 := 512#32
  let v214 : BitVec 32 := Scalar.muli arg18 c512_i32_106
  let v215 : BitVec 32 := v214
  let v228 : Index := Scalar.indexCast v215
  let c0_112 : Index := 0#32
  ![0, v228.toNat, 0]
def k0_off9 (i : grid0.Coords) : Fin 4 → Nat :=
  let c0_119 : Index := 0#32
  let c0_120 : Index := 0#32
  let c0_121 : Index := 0#32
  let arg2 : BitVec 32 := BitVec.ofNat 32 (i 2).val
  let c512_i32 : BitVec 32 := 512#32
  let v23 : BitVec 32 := Scalar.muli arg2 c512_i32
  let v24 : BitVec 32 := v23
  let v249 : Index := Scalar.indexCast v24
  ![0, 0, 0, v249.toNat]
def k0_off10 (i : grid0.Coords) (k0_t1 : Fin (k0_t1_loop i).trips) : Fin 3 → Nat :=
  let c0_128 : Index := 0#32
  let arg2 : BitVec 32 := BitVec.ofNat 32 (i 2).val
  let c1_i32 : BitVec 32 := 1#32
  let v192 : BitVec 32 := Scalar.addi arg2 c1_i32
  let c1_i32_88 : BitVec 32 := 1#32
  let arg18 : BitVec 32 := Scf.iv v192 c1_i32_88 k0_t1
  let c512_i32_106 : BitVec 32 := 512#32
  let v214 : BitVec 32 := Scalar.muli arg18 c512_i32_106
  let v215 : BitVec 32 := v214
  let v269 : Index := Scalar.indexCast v215
  let c0_129 : Index := 0#32
  ![0, v269.toNat, 0]
def k0_off11 (i : grid0.Coords) : Fin 4 → Nat :=
  let c0_149 : Index := 0#32
  let c0_150 : Index := 0#32
  let c1_151 : Index := 1#32
  let arg2 : BitVec 32 := BitVec.ofNat 32 (i 2).val
  let c512_i32 : BitVec 32 := 512#32
  let v23 : BitVec 32 := Scalar.muli arg2 c512_i32
  let v24 : BitVec 32 := v23
  let v312 : Index := Scalar.indexCast v24
  ![0, 0, 1, v312.toNat]
def k0_off12 (i : grid0.Coords) (k0_t1 : Fin (k0_t1_loop i).trips) : Fin 3 → Nat :=
  let c0_158 : Index := 0#32
  let arg2 : BitVec 32 := BitVec.ofNat 32 (i 2).val
  let c1_i32 : BitVec 32 := 1#32
  let v192 : BitVec 32 := Scalar.addi arg2 c1_i32
  let c1_i32_88 : BitVec 32 := 1#32
  let arg18 : BitVec 32 := Scf.iv v192 c1_i32_88 k0_t1
  let c512_i32_106 : BitVec 32 := 512#32
  let v214 : BitVec 32 := Scalar.muli arg18 c512_i32_106
  let v215 : BitVec 32 := v214
  let v332 : Index := Scalar.indexCast v215
  let c1_159 : Index := 1#32
  ![0, v332.toNat, 1]
@[reducible] def k0_t2_loop (i : grid0.Coords) : Scf.Loop 32 :=
  let arg2 : BitVec 32 := BitVec.ofNat 32 (i 2).val
  let c1_i32 : BitVec 32 := 1#32
  let v192 : BitVec 32 := Scalar.addi arg2 c1_i32
  let c4_i32 : BitVec 32 := 4#32
  let v193 : BitVec 32 := Scalar.subi c4_i32 v192
  let c1_i32_87 : BitVec 32 := 1#32
  let v195 : BitVec 32 := Scalar.divsi v193 c1_i32_87
  let v196 : BitVec 32 := Scalar.muli v195 c1_i32_87
  let v197 : BitVec 32 := Scalar.addi v192 v196
  let v194 : BitVec 32 := Scalar.addi v192 v193
  let c1_i32_89 : BitVec 32 := 1#32
  ⟨v197, v194, c1_i32_89⟩
def k0_mult4 (i : grid0.Coords) (k0_t2 : Fin (k0_t2_loop i).trips) : BitVec 32 :=
  let arg2 : BitVec 32 := BitVec.ofNat 32 (i 2).val
  let c1_i32 : BitVec 32 := 1#32
  let v192 : BitVec 32 := Scalar.addi arg2 c1_i32
  let c4_i32 : BitVec 32 := 4#32
  let v193 : BitVec 32 := Scalar.subi c4_i32 v192
  let c1_i32_87 : BitVec 32 := 1#32
  let v195 : BitVec 32 := Scalar.divsi v193 c1_i32_87
  let v196 : BitVec 32 := Scalar.muli v195 c1_i32_87
  let v197 : BitVec 32 := Scalar.addi v192 v196
  let c1_i32_89 : BitVec 32 := 1#32
  let arg18 : BitVec 32 := Scf.iv v197 c1_i32_89 k0_t2
  let c512_i32_106 : BitVec 32 := 512#32
  let v214 : BitVec 32 := Scalar.muli arg18 c512_i32_106
  v214
def k0_off13 (i : grid0.Coords) (k0_t2 : Fin (k0_t2_loop i).trips) : Fin 2 → Nat :=
  let arg2 : BitVec 32 := BitVec.ofNat 32 (i 2).val
  let c1_i32 : BitVec 32 := 1#32
  let v192 : BitVec 32 := Scalar.addi arg2 c1_i32
  let c4_i32 : BitVec 32 := 4#32
  let v193 : BitVec 32 := Scalar.subi c4_i32 v192
  let c1_i32_87 : BitVec 32 := 1#32
  let v195 : BitVec 32 := Scalar.divsi v193 c1_i32_87
  let v196 : BitVec 32 := Scalar.muli v195 c1_i32_87
  let v197 : BitVec 32 := Scalar.addi v192 v196
  let c1_i32_89 : BitVec 32 := 1#32
  let arg18 : BitVec 32 := Scf.iv v197 c1_i32_89 k0_t2
  let c512_i32_106 : BitVec 32 := 512#32
  let v214 : BitVec 32 := Scalar.muli arg18 c512_i32_106
  let v215 : BitVec 32 := v214
  let v216 : Index := Scalar.indexCast v215
  let c0_107 : Index := 0#32
  ![v216.toNat, 0]
def k0_off14 (i : grid0.Coords) (k0_t2 : Fin (k0_t2_loop i).trips) : Fin 3 → Nat :=
  let c0_111 : Index := 0#32
  let arg2 : BitVec 32 := BitVec.ofNat 32 (i 2).val
  let c1_i32 : BitVec 32 := 1#32
  let v192 : BitVec 32 := Scalar.addi arg2 c1_i32
  let c4_i32 : BitVec 32 := 4#32
  let v193 : BitVec 32 := Scalar.subi c4_i32 v192
  let c1_i32_87 : BitVec 32 := 1#32
  let v195 : BitVec 32 := Scalar.divsi v193 c1_i32_87
  let v196 : BitVec 32 := Scalar.muli v195 c1_i32_87
  let v197 : BitVec 32 := Scalar.addi v192 v196
  let c1_i32_89 : BitVec 32 := 1#32
  let arg18 : BitVec 32 := Scf.iv v197 c1_i32_89 k0_t2
  let c512_i32_106 : BitVec 32 := 512#32
  let v214 : BitVec 32 := Scalar.muli arg18 c512_i32_106
  let v215 : BitVec 32 := v214
  let v228 : Index := Scalar.indexCast v215
  let c0_112 : Index := 0#32
  ![0, v228.toNat, 0]
def k0_off15 (i : grid0.Coords) : Fin 4 → Nat :=
  let c0_119 : Index := 0#32
  let c0_120 : Index := 0#32
  let c0_121 : Index := 0#32
  let arg2 : BitVec 32 := BitVec.ofNat 32 (i 2).val
  let c512_i32 : BitVec 32 := 512#32
  let v23 : BitVec 32 := Scalar.muli arg2 c512_i32
  let v24 : BitVec 32 := v23
  let v249 : Index := Scalar.indexCast v24
  ![0, 0, 0, v249.toNat]
def k0_off16 (i : grid0.Coords) (k0_t2 : Fin (k0_t2_loop i).trips) : Fin 3 → Nat :=
  let c0_128 : Index := 0#32
  let arg2 : BitVec 32 := BitVec.ofNat 32 (i 2).val
  let c1_i32 : BitVec 32 := 1#32
  let v192 : BitVec 32 := Scalar.addi arg2 c1_i32
  let c4_i32 : BitVec 32 := 4#32
  let v193 : BitVec 32 := Scalar.subi c4_i32 v192
  let c1_i32_87 : BitVec 32 := 1#32
  let v195 : BitVec 32 := Scalar.divsi v193 c1_i32_87
  let v196 : BitVec 32 := Scalar.muli v195 c1_i32_87
  let v197 : BitVec 32 := Scalar.addi v192 v196
  let c1_i32_89 : BitVec 32 := 1#32
  let arg18 : BitVec 32 := Scf.iv v197 c1_i32_89 k0_t2
  let c512_i32_106 : BitVec 32 := 512#32
  let v214 : BitVec 32 := Scalar.muli arg18 c512_i32_106
  let v215 : BitVec 32 := v214
  let v269 : Index := Scalar.indexCast v215
  let c0_129 : Index := 0#32
  ![0, v269.toNat, 0]
def k0_off17 (i : grid0.Coords) : Fin 4 → Nat :=
  let c0_149 : Index := 0#32
  let c0_150 : Index := 0#32
  let c1_151 : Index := 1#32
  let arg2 : BitVec 32 := BitVec.ofNat 32 (i 2).val
  let c512_i32 : BitVec 32 := 512#32
  let v23 : BitVec 32 := Scalar.muli arg2 c512_i32
  let v24 : BitVec 32 := v23
  let v312 : Index := Scalar.indexCast v24
  ![0, 0, 1, v312.toNat]
def k0_off18 (i : grid0.Coords) (k0_t2 : Fin (k0_t2_loop i).trips) : Fin 3 → Nat :=
  let c0_158 : Index := 0#32
  let arg2 : BitVec 32 := BitVec.ofNat 32 (i 2).val
  let c1_i32 : BitVec 32 := 1#32
  let v192 : BitVec 32 := Scalar.addi arg2 c1_i32
  let c4_i32 : BitVec 32 := 4#32
  let v193 : BitVec 32 := Scalar.subi c4_i32 v192
  let c1_i32_87 : BitVec 32 := 1#32
  let v195 : BitVec 32 := Scalar.divsi v193 c1_i32_87
  let v196 : BitVec 32 := Scalar.muli v195 c1_i32_87
  let v197 : BitVec 32 := Scalar.addi v192 v196
  let c1_i32_89 : BitVec 32 := 1#32
  let arg18 : BitVec 32 := Scf.iv v197 c1_i32_89 k0_t2
  let c512_i32_106 : BitVec 32 := 512#32
  let v214 : BitVec 32 := Scalar.muli arg18 c512_i32_106
  let v215 : BitVec 32 := v214
  let v332 : Index := Scalar.indexCast v215
  let c1_159 : Index := 1#32
  ![0, v332.toNat, 1]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli c3_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c3_i32 : BitVec 32 := 3#32
  let v2 : BitVec 32 := Scalar.muli c3_i32 arg1
  let c1_i32 : BitVec 32 := 1#32
  let v3 : BitVec 32 := Scalar.addi v2 c1_i32
  let c0_i32 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c3_i32 : BitVec 32 := 3#32
  let v2 : BitVec 32 := Scalar.muli c3_i32 arg1
  let c2_i32 : BitVec 32 := 2#32
  let v3 : BitVec 32 := Scalar.addi v2 c2_i32
  let c0_i32 : BitVec 32 := 0#32
  ![v1.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c4_i32_0 : BitVec 32 := 4#32
  let v2 : BitVec 32 := Scalar.addi c4_i32_0 arg1
  let c0_i32 : BitVec 32 := 0#32
  ![v1.toNat, v2.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x2048x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x2x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x2x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x2048x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== ReferenceIdeal.lean ====
abbrev S8192x1536 : Shape := ⟨2, ![8192, 1536]⟩
abbrev S4x8x2048 : Shape := ⟨3, ![4, 8, 2048]⟩
abbrev S8192x512 : Shape := ⟨2, ![8192, 512]⟩
abbrev S8192x5376 : Shape := ⟨2, ![8192, 5376]⟩
abbrev S4x2048x4x3x2x64 : Shape := ⟨6, ![4, 2048, 4, 3, 2, 64]⟩
abbrev S3x4x4x2x2048x64 : Shape := ⟨6, ![3, 4, 4, 2, 2048, 64]⟩
abbrev S1x4x4x2x2048x64 : Shape := ⟨6, ![1, 4, 4, 2, 2048, 64]⟩
abbrev S4x4x2x2048x64 : Shape := ⟨5, ![4, 4, 2, 2048, 64]⟩
abbrev S4x8x2048x64 : Shape := ⟨4, ![4, 8, 2048, 64]⟩
abbrev S4x2048x8x64 : Shape := ⟨4, ![4, 2048, 8, 64]⟩
abbrev S_ : Shape := ⟨0, ![]⟩
abbrev S4x8x2048x2048 : Shape := ⟨4, ![4, 8, 2048, 2048]⟩
abbrev S4x8x2048x1 : Shape := ⟨4, ![4, 8, 2048, 1]⟩
abbrev S4x8x1x2048 : Shape := ⟨4, ![4, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x8x64x2048 : Shape := ⟨4, ![4, 8, 64, 2048]⟩
abbrev S1x4x8x2048x64 : Shape := ⟨5, ![1, 4, 8, 2048, 64]⟩
abbrev S3x4x8x2048x64 : Shape := ⟨5, ![3, 4, 8, 2048, 64]⟩
abbrev S8192x2304 : Shape := ⟨2, ![8192, 2304]⟩
abbrev S4x4x2x2048 : Shape := ⟨4, ![4, 4, 2, 2048]⟩
abbrev S4x4x2048x2 : Shape := ⟨4, ![4, 4, 2048, 2]⟩
abbrev S4x8192x2 : Shape := ⟨3, ![4, 8192, 2]⟩

abbrev nBuf : Space → Nat
  | .hbm => 133
  | .vmem => 0
  | .smem => 0
  | _ => 0

abbrev hbmTy0_0 (i : Nat) : BufTy := match i % 128 with
  | 0 => ⟨S8192x1536, .bf16⟩
  | 1 => ⟨S4x8x2048, .f32⟩
  | 2 => ⟨S8192x512, .bf16⟩
  | 3 => ⟨S8192x5376, .bf16⟩
  | 4 => ⟨S8192x1536, .f32⟩
  | 5 => ⟨S4x2048x4x3x2x64, .f32⟩
  | 6 => ⟨S3x4x4x2x2048x64, .f32⟩
  | 7 => ⟨S1x4x4x2x2048x64, .f32⟩
  | 8 => ⟨S4x4x2x2048x64, .f32⟩
  | 9 => ⟨S4x8x2048x64, .f32⟩
  | 10 => ⟨S1x4x4x2x2048x64, .f32⟩
  | 11 => ⟨S4x4x2x2048x64, .f32⟩
  | 12 => ⟨S4x8x2048x64, .f32⟩
  | 13 => ⟨S1x4x4x2x2048x64, .f32⟩
  | 14 => ⟨S4x4x2x2048x64, .f32⟩
  | 15 => ⟨S4x8x2048x64, .f32⟩
  | 16 => ⟨S8192x512, .f32⟩
  | 17 => ⟨S4x2048x8x64, .f32⟩
  | 18 => ⟨S4x8x2048x64, .f32⟩
  | 19 => ⟨S_, .f32⟩
  | 20 => ⟨S4x8x2048x64, .f32⟩
  | 21 => ⟨S4x8x2048x64, .f32⟩
  | 22 => ⟨S4x8x2048x2048, .f32⟩
  | 23 => ⟨S4x8x2048x1, .f32⟩
  | 24 => ⟨S4x8x2048x2048, .f32⟩
  | 25 => ⟨S4x8x2048x2048, .f32⟩
  | 26 => ⟨S4x8x1x2048, .f32⟩
  | 27 => ⟨S4x8x2048x2048, .f32⟩
  | 28 => ⟨S4x8x2048x2048, .f32⟩
  | 29 => ⟨S2048, .i32⟩
  | 30 => ⟨S1x2048, .i32⟩
  | 31 => ⟨S2048x1, .i32⟩
  | 32 => ⟨S2048x2048, .i32⟩
  | 33 => ⟨S2048x2048, .i32⟩
  | 34 => ⟨S2048x2048, .i1⟩
  | 35 => ⟨S_, .f32⟩
  | 36 => ⟨S_, .f32⟩
  | 37 => ⟨S4x8x2048x2048, .i1⟩
  | 38 => ⟨S4x8x2048x2048, .f32⟩
  | 39 => ⟨S4x8x2048x2048, .f32⟩
  | 40 => ⟨S_, .f32⟩
  | 41 => ⟨S4x8x2048x2048, .f32⟩
  | 42 => ⟨S_, .f32⟩
  | 43 => ⟨S4x8x2048, .f32⟩
  | 44 => ⟨S4x8x2048x1, .f32⟩
  | 45 => ⟨S4x8x2048x2048, .f32⟩
  | 46 => ⟨S4x8x2048x2048, .i1⟩
  | 47 => ⟨S4x8x2048x2048, .f32⟩
  | 48 => ⟨S_, .f32⟩
  | 49 => ⟨S4x8x2048, .f32⟩
  | 50 => ⟨S_, .f32⟩
  | 51 => ⟨S4x8x2048, .f32⟩
  | 52 => ⟨S4x8x2048, .f32⟩
  | 53 => ⟨S_, .f32⟩
  | 54 => ⟨S4x8x2048, .f32⟩
  | 55 => ⟨S4x8x2048, .i1⟩
  | 56 => ⟨S_, .f32⟩
  | 57 => ⟨S4x8x2048, .f32⟩
  | 58 => ⟨S4x8x2048, .i1⟩
  | 59 => ⟨S_, .f32⟩
  | 60 => ⟨S4x8x2048, .f32⟩
  | 61 => ⟨S_, .f32⟩
  | 62 => ⟨S4x8x2048, .f32⟩
  | 63 => ⟨S_, .f32⟩
  | 64 => ⟨S4x8x2048, .f32⟩
  | 65 => ⟨S4x8x2048, .f32⟩
  | 66 => ⟨S4x8x2048, .f32⟩
  | 67 => ⟨S4x8x2048x1, .f32⟩
  | 68 => ⟨S4x8x2048x2048, .f32⟩
  | 69 => ⟨S4x8x2048x2048, .f32⟩
  | 70 => ⟨S4x8x2048x2048, .f32⟩
  | 71 => ⟨S_, .f32⟩
  | 72 => ⟨S4x8x2048, .f32⟩
  | 73 => ⟨S4x8x2048x1, .f32⟩
  | 74 => ⟨S4x8x2048x2048, .f32⟩
  | 75 => ⟨S4x8x2048x2048, .f32⟩
  | 76 => ⟨S4x8x2048x1, .f32⟩
  | 77 => ⟨S_, .f32⟩
  | 78 => ⟨S4x8x2048x1, .f32⟩
  | 79 => ⟨S4x8x2048x1, .f32⟩
  | 80 => ⟨S4x8x2048x64, .f32⟩
  | 81 => ⟨S4x8x64x2048, .f32⟩
  | 82 => ⟨S4x8x2048x64, .f32⟩
  | 83 => ⟨S4x8x2048x2048, .f32⟩
  | 84 => ⟨S4x8x2048x2048, .f32⟩
  | 85 => ⟨S4x8x2048x2048, .f32⟩
  | 86 => ⟨S4x8x2048x2048, .f32⟩
  | 87 => ⟨S_, .f32⟩
  | 88 => ⟨S4x8x2048, .f32⟩
  | 89 => ⟨S4x8x2048x1, .f32⟩
  | 90 => ⟨S4x8x2048x1, .f32⟩
  | 91 => ⟨S4x8x2048x2048, .f32⟩
  | 92 => ⟨S4x8x2048x2048, .f32⟩
  | 93 => ⟨S_, .f32⟩
  | 94 => ⟨S4x8x2048, .f32⟩
  | 95 => ⟨S4x8x2048x2048, .f32⟩
  | 96 => ⟨S4x8x2048x2048, .f32⟩
  | 97 => ⟨S4x8x2048x2048, .f32⟩
  | 98 => ⟨S_, .f32⟩
  | 99 => ⟨S4x8x2048x2048, .f32⟩
  | 100 => ⟨S4x8x2048x2048, .f32⟩
  | 101 => ⟨S4x8x2048x2048, .f32⟩
  | 102 => ⟨S_, .f32⟩
  | 103 => ⟨S4x8x2048, .f32⟩
  | 104 => ⟨S4x8x1x2048, .f32⟩
  | 105 => ⟨S_, .f32⟩
  | 106 => ⟨S4x8x2048, .f32⟩
  | 107 => ⟨S_, .f32⟩
  | 108 => ⟨S4x8x2048, .f32⟩
  | 109 => ⟨S4x8x2048x1, .f32⟩
  | 110 => ⟨S_, .f32⟩
  | 111 => ⟨S4x8x2048, .f32⟩
  | 112 => ⟨S4x8x2048x64, .f32⟩
  | 113 => ⟨S4x8x2048x64, .f32⟩
  | 114 => ⟨S_, .f32⟩
  | 115 => ⟨S4x8x2048x64, .f32⟩
  | 116 => ⟨S4x8x2048x64, .f32⟩
  | 117 => ⟨S1x4x8x2048x64, .f32⟩
  | 118 => ⟨S1x4x8x2048x64, .f32⟩
  | 119 => ⟨S1x4x8x2048x64, .f32⟩
  | 120 => ⟨S3x4x8x2048x64, .f32⟩
  | 121 => ⟨S3x4x4x2x2048x64, .f32⟩
  | 122 => ⟨S4x2048x4x3x2x64, .f32⟩
  | 123 => ⟨S8192x1536, .f32⟩
  | 124 => ⟨S8192x1536, .bf16⟩
  | 125 => ⟨S8192x1536, .bf16⟩
  | 126 => ⟨S8192x2304, .bf16⟩
  | 127 => ⟨S8192x5376, .bf16⟩
  | _ => ⟨S8192x1536, .bf16⟩

abbrev hbmTy0_1 (i : Nat) : BufTy := match i % 128 with
  | 0 => ⟨S4x4x2x2048, .f32⟩
  | 1 => ⟨S4x4x2048x2, .f32⟩
  | 2 => ⟨S4x8192x2, .f32⟩
  | 3 => ⟨S4x4x2x2048, .f32⟩
  | 4 => ⟨S4x4x2x2048, .f32⟩
  | _ => ⟨S8192x1536, .bf16⟩

abbrev hbmTy (i : Nat) : BufTy := match i / 128 with
  | 0 => hbmTy0_0 i
  | 1 => hbmTy0_1 i
  | _ => ⟨S8192x1536, .bf16⟩

abbrev bufTy : (tb : Table) → Fin (tcTables nBuf tb) → BufTy
  | .hbm, ⟨i, _⟩ => hbmTy i
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_0 : Ref sig .tc := ⟨.hbm, 35, rfl⟩
abbrev main_call0_v0 : Ref sig .tc := ⟨.hbm, 36, rfl⟩
abbrev main_v30_1 : Ref sig .tc := ⟨.hbm, 37, rfl⟩
abbrev main_call0_v2 : Ref sig .tc := ⟨.hbm, 38, rfl⟩
abbrev main_v30_0 : Ref sig .tc := ⟨.hbm, 39, rfl⟩
abbrev main_call0_cst : Ref sig .tc := ⟨.hbm, 40, rfl⟩
abbrev main_v30_2 : Ref sig .tc := ⟨.hbm, 41, rfl⟩
abbrev main_cst_1 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_2 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_11 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_12 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_call1_cst : Ref sig .tc := ⟨.hbm, 98, rfl⟩
abbrev main_call1_v0 : Ref sig .tc := ⟨.hbm, 99, rfl⟩
abbrev main_v75 : Ref sig .tc := ⟨.hbm, 100, rfl⟩
abbrev main_v76 : Ref sig .tc := ⟨.hbm, 101, rfl⟩
abbrev main_cst_13 : Ref sig .tc := ⟨.hbm, 102, rfl⟩
abbrev main_v77 : Ref sig .tc := ⟨.hbm, 103, rfl⟩
abbrev main_v78 : Ref sig .tc := ⟨.hbm, 104, rfl⟩
abbrev main_cst_14 : Ref sig .tc := ⟨.hbm, 105, rfl⟩
abbrev main_v79 : Ref sig .tc := ⟨.hbm, 106, rfl⟩
abbrev main_cst_15 : Ref sig .tc := ⟨.hbm, 107, rfl⟩
abbrev main_v80 : Ref sig .tc := ⟨.hbm, 108, rfl⟩
abbrev main_v81 : Ref sig .tc := ⟨.hbm, 109, rfl⟩
abbrev main_cst_16 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_17 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩

abbrev nD : Nat := 1
abbrev τ : Topo := Topo.v7x

variable {F : FTy → Type} [FloatOps F]
-- ==== Kernel2.lean ====
abbrev S8192x2816 : Shape := ⟨2, ![8192, 2816]⟩
abbrev S1024x5632 : Shape := ⟨2, ![1024, 5632]⟩
abbrev S8192x1024 : Shape := ⟨2, ![8192, 1024]⟩
abbrev S512x2816 : Shape := ⟨2, ![512, 2816]⟩
abbrev S1024x2816 : Shape := ⟨2, ![1024, 2816]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x5632, .bf16⟩
  | .hbm, ⟨3, _⟩ => ⟨S8192x1024, .bf16⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S1024x2816, .bf16⟩
  | .local _ .vmem, ⟨5, _⟩ => ⟨S1024x2816, .bf16⟩
  | .local _ .vmem, ⟨6, _⟩ => ⟨S512x1024, .bf16⟩
  | .local _ .vmem, ⟨7, _⟩ => ⟨S512x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S8192x2816 : Shape := ⟨2, ![8192, 2816]⟩
abbrev S1024x5632 : Shape := ⟨2, ![1024, 5632]⟩
abbrev S8192x5632 : Shape := ⟨2, ![8192, 5632]⟩
abbrev S_ : Shape := ⟨0, ![]⟩
abbrev S8192x1024 : Shape := ⟨2, ![8192, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x5632, .bf16⟩
  | .hbm, ⟨3, _⟩ => ⟨S8192x5632, .bf16⟩
  | .hbm, ⟨4, _⟩ => ⟨S8192x5632, .f32⟩
  | .hbm, ⟨5, _⟩ => ⟨S_, .f32⟩
  | .hbm, ⟨6, _⟩ => ⟨S8192x1024, .f32⟩
  | .hbm, ⟨7, _⟩ => ⟨S1024x5632, .f32⟩
  | .hbm, ⟨8, _⟩ => ⟨S8192x5632, .f32⟩
  | .hbm, ⟨9, _⟩ => ⟨S8192x1024, .f32⟩
  | .hbm, ⟨10, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel3.lean ====
abbrev S8192x5376 : Shape := ⟨2, ![8192, 5376]⟩
abbrev S8192x1024 : Shape := ⟨2, ![8192, 1024]⟩
abbrev S5376x1024 : Shape := ⟨2, ![5376, 1024]⟩
abbrev S8192x256 : Shape := ⟨2, ![8192, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x5376, .bf16⟩
  | .hbm, ⟨1, _⟩ => ⟨S8192x1024, .bf16⟩
  | .hbm, ⟨2, _⟩ => ⟨S5376x1024, .f32⟩
  | .local _ .vmem, ⟨0, _⟩ => ⟨S8192x256, .bf16⟩
  | .local _ .vmem, ⟨1, _⟩ => ⟨S8192x256, .bf16⟩
  | .local _ .vmem, ⟨2, _⟩ => ⟨S8192x1024, .bf16⟩
  | .local _ .vmem, ⟨3, _⟩ => ⟨S256x1024, .f32⟩
  | .local _ .vmem, ⟨4, _⟩ => ⟨S256x1024, .f32⟩
  | _, _ => ⟨S8192x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![21, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x5376 : Shape := ⟨2, ![8192, 5376]⟩
abbrev S8192x1024 : Shape := ⟨2, ![8192, 1024]⟩
abbrev S_ : Shape := ⟨0, ![]⟩
abbrev S5376x1024 : Shape := ⟨2, ![5376, 1024]⟩
abbrev S1024x5376 : Shape := ⟨2, ![1024, 5376]⟩

abbrev nBuf : Space → Nat
  | .hbm => 11
  | .vmem => 0
  | .smem => 0
  | _ => 0

abbrev bufTy : (tb : Table) → Fin (tcTables nBuf tb) → BufTy
  | .hbm, ⟨0, _⟩ => ⟨S8192x5376, .bf16⟩
  | .hbm, ⟨1, _⟩ => ⟨S8192x1024, .bf16⟩
  | .hbm, ⟨2, _⟩ => ⟨S_, .f32⟩
  | .hbm, ⟨3, _⟩ => ⟨S5376x1024, .f32⟩
  | .hbm, ⟨4, _⟩ => ⟨S8192x1024, .f32⟩
  | .hbm, ⟨5, _⟩ => ⟨S1024x5376, .f32⟩
  | .hbm, ⟨6, _⟩ => ⟨S8192x5376, .f32⟩
  | .hbm, ⟨7, _⟩ => ⟨S8192x5376, .f32⟩
  | .hbm, ⟨8, _⟩ => ⟨S5376x1024, .f32⟩
  | .hbm, ⟨9, _⟩ => ⟨S1024x5376, .f32⟩
  | .hbm, ⟨10, _⟩ => ⟨S5376x1024, .f32⟩
  | _, _ => ⟨S8192x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S8192x5376 : Shape := ⟨2, ![8192, 5376]⟩
abbrev S5376x1024 : Shape := ⟨2, ![5376, 1024]⟩
abbrev S8192x1024 : Shape := ⟨2, ![8192, 1024]⟩
abbrev S512x5376 : Shape := ⟨2, ![512, 5376]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x5376, .bf16⟩
  | .hbm, ⟨1, _⟩ => ⟨S5376x1024, .bf16⟩
  | .hbm, ⟨2, _⟩ => ⟨S8192x1024, .bf16⟩
  | .local _ .vmem, ⟨0, _⟩ => ⟨S512x5376, .bf16⟩
  | .local _ .vmem, ⟨1, _⟩ => ⟨S512x5376, .bf16⟩
  | .local _ .vmem, ⟨2, _⟩ => ⟨S5376x1024, .bf16⟩
  | .local _ .vmem, ⟨3, _⟩ => ⟨S512x1024, .bf16⟩
  | .local _ .vmem, ⟨4, _⟩ => ⟨S512x1024, .bf16⟩
  | _, _ => ⟨S8192x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S512x5376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S5376x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x5376 : Shape := ⟨2, ![8192, 5376]⟩
abbrev S5376x1024 : Shape := ⟨2, ![5376, 1024]⟩
abbrev S_ : Shape := ⟨0, ![]⟩
abbrev S8192x1024 : Shape := ⟨2, ![8192, 1024]⟩
abbrev S1024x5376 : Shape := ⟨2, ![1024, 5376]⟩

abbrev nBuf : Space → Nat
  | .hbm => 10
  | .vmem => 0
  | .smem => 0
  | _ => 0

abbrev bufTy : (tb : Table) → Fin (tcTables nBuf tb) → BufTy
  | .hbm, ⟨0, _⟩ => ⟨S8192x5376, .bf16⟩
  | .hbm, ⟨1, _⟩ => ⟨S5376x1024, .bf16⟩
  | .hbm, ⟨2, _⟩ => ⟨S_, .f32⟩
  | .hbm, ⟨3, _⟩ => ⟨S8192x1024, .f32⟩
  | .hbm, ⟨4, _⟩ => ⟨S1024x5376, .bf16⟩
  | .hbm, ⟨5, _⟩ => ⟨S1024x5376, .f32⟩
  | .hbm, ⟨6, _⟩ => ⟨S8192x5376, .f32⟩
  | .hbm, ⟨7, _⟩ => ⟨S8192x5376, .f32⟩
  | .hbm, ⟨8, _⟩ => ⟨S8192x1024, .f32⟩
  | .hbm, ⟨9, _⟩ => ⟨S8192x1024, .bf16⟩
  | _, _ => ⟨S8192x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x2816 : Shape := ⟨2, ![8192, 2816]⟩
abbrev S8192x1024 : Shape := ⟨2, ![8192, 1024]⟩
abbrev S2816x1024 : Shape := ⟨2, ![2816, 1024]⟩
abbrev S8192x256 : Shape := ⟨2, ![8192, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S8192x256, .bf16⟩
  | .local _ .vmem, ⟨1, _⟩ => ⟨S8192x256, .bf16⟩
  | .local _ .vmem, ⟨2, _⟩ => ⟨S8192x1024, .bf16⟩
  | .local _ .vmem, ⟨3, _⟩ => ⟨S256x1024, .f32⟩
  | .local _ .vmem, ⟨4, _⟩ => ⟨S256x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S8192x1024 : Shape := ⟨2, ![8192, 1024]⟩
abbrev S5376x1024 : Shape := ⟨2, ![5376, 1024]⟩
abbrev S8192x1536 : Shape := ⟨2, ![8192, 1536]⟩
abbrev S8192x2048 : Shape := ⟨2, ![8192, 2048]⟩
abbrev S8192x256 : Shape := ⟨2, ![8192, 256]⟩
abbrev S512x1024 : Shape := ⟨2, ![512, 1024]⟩
abbrev S512x1536 : Shape := ⟨2, ![512, 1536]⟩
abbrev S512x2048 : Shape := ⟨2, ![512, 2048]⟩
abbrev S512x256 : Shape := ⟨2, ![512, 256]⟩
abbrev S1536x1024 : Shape := ⟨2, ![1536, 1024]⟩
abbrev S2048x1024 : Shape := ⟨2, ![2048, 1024]⟩
abbrev S256x1024 : Shape := ⟨2, ![256, 1024]⟩

abbrev nBuf : Space → Nat
  | .hbm => 6
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S5376x1024, .bf16⟩
  | .hbm, ⟨2, _⟩ => ⟨S8192x1536, .bf16⟩
  | .hbm, ⟨3, _⟩ => ⟨S8192x1536, .bf16⟩
  | .hbm, ⟨4, _⟩ => ⟨S8192x2048, .bf16⟩
  | .hbm, ⟨5, _⟩ => ⟨S8192x256, .f32⟩
  | .local _ .vmem, ⟨0, _⟩ => ⟨S512x1024, .bf16⟩
  | .local _ .vmem, ⟨1, _⟩ => ⟨S512x1024, .bf16⟩
  | .local _ .vmem, ⟨2, _⟩ => ⟨S5376x1024, .bf16⟩
  | .local _ .vmem, ⟨3, _⟩ => ⟨S512x1536, .bf16⟩
  | .local _ .vmem, ⟨4, _⟩ => ⟨S512x1536, .bf16⟩
  | .local _ .vmem, ⟨5, _⟩ => ⟨S512x1536, .bf16⟩
  | .local _ .vmem, ⟨6, _⟩ => ⟨S512x1536, .bf16⟩
  | .local _ .vmem, ⟨7, _⟩ => ⟨S512x2048, .bf16⟩
  | .local _ .vmem, ⟨8, _⟩ => ⟨S512x2048, .bf16⟩
  | .local _ .vmem, ⟨9, _⟩ => ⟨S512x256, .f32⟩
  | .local _ .vmem, ⟨10, _⟩ => ⟨S512x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5376x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S8192x1024 : Shape := ⟨2, ![8192, 1024]⟩
abbrev S5376x1024 : Shape := ⟨2, ![5376, 1024]⟩
abbrev S1024x5376 : Shape := ⟨2, ![1024, 5376]⟩
abbrev S8192x5376 : Shape := ⟨2, ![8192, 5376]⟩
abbrev S8192x1536 : Shape := ⟨2, ![8192, 1536]⟩
abbrev S8192x2048 : Shape := ⟨2, ![8192, 2048]⟩
abbrev S8192x256 : Shape := ⟨2, ![8192, 256]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S5376x1024, .bf16⟩
  | .hbm, ⟨2, _⟩ => ⟨S8192x1024, .f32⟩
  | .hbm, ⟨3, _⟩ => ⟨S1024x5376, .bf16⟩
  | .hbm, ⟨4, _⟩ => ⟨S1024x5376, .f32⟩
  | .hbm, ⟨5, _⟩ => ⟨S8192x5376, .f32⟩
  | .hbm, ⟨6, _⟩ => ⟨S8192x1536, .f32⟩
  | .hbm, ⟨7, _⟩ => ⟨S8192x1536, .f32⟩
  | .hbm, ⟨8, _⟩ => ⟨S8192x2048, .f32⟩
  | .hbm, ⟨9, _⟩ => ⟨S8192x256, .f32⟩
  | .hbm, ⟨10, _⟩ => ⟨S8192x1536, .bf16⟩
  | .hbm, ⟨11, _⟩ => ⟨S8192x1536, .bf16⟩
  | .hbm, ⟨12, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Kernel8.lean ====
abbrev S8192x1024 : Shape := ⟨2, ![8192, 1024]⟩
abbrev S8192x2816 : Shape := ⟨2, ![8192, 2816]⟩
abbrev S4x1024x1408 : Shape := ⟨3, ![4, 1024, 1408]⟩
abbrev S4096x512 : Shape := ⟨2, ![4096, 512]⟩
abbrev S4096x1408 : Shape := ⟨2, ![4096, 1408]⟩
abbrev S1x512x1408 : Shape := ⟨3, ![1, 512, 1408]⟩
abbrev S512x1408 : Shape := ⟨2, ![512, 1408]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S4x1024x1408, .f32⟩
  | .hbm, ⟨3, _⟩ => ⟨S4x1024x1408, .f32⟩
  | .local _ .vmem, ⟨0, _⟩ => ⟨S4096x512, .bf16⟩
  | .local _ .vmem, ⟨1, _⟩ => ⟨S4096x512, .bf16⟩
  | .local _ .vmem, ⟨2, _⟩ => ⟨S4096x1408, .bf16⟩
  | .local _ .vmem, ⟨3, _⟩ => ⟨S4096x1408, .bf16⟩
  | .local _ .vmem, ⟨4, _⟩ => ⟨S1x512x1408, .f32⟩
  | .local _ .vmem, ⟨5, _⟩ => ⟨S1x512x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![v0.toNat, arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S8192x2816 : Shape := ⟨2, ![8192, 2816]⟩
abbrev S4x1024x1408 : Shape := ⟨3, ![4, 1024, 1408]⟩
abbrev S_ : Shape := ⟨0, ![]⟩
abbrev S1024x2816 : Shape := ⟨2, ![1024, 2816]⟩
abbrev S2816x1024 : Shape := ⟨2, ![2816, 1024]⟩
abbrev S2x1024x1408 : Shape := ⟨3, ![2, 1024, 1408]⟩
abbrev S1024x2x1408 : Shape := ⟨3, ![1024, 2, 1408]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S4x1024x1408, .f32⟩
  | .hbm, ⟨3, _⟩ => ⟨S_, .f32⟩
  | .hbm, ⟨4, _⟩ => ⟨S1024x2816, .f32⟩
  | .hbm, ⟨5, _⟩ => ⟨S8192x1024, .f32⟩
  | .hbm, ⟨6, _⟩ => ⟨S8192x2816, .f32⟩
  | .hbm, ⟨7, _⟩ => ⟨S8192x2816, .f32⟩
  | .hbm, ⟨8, _⟩ => ⟨S2816x1024, .f32⟩
  | .hbm, ⟨9, _⟩ => ⟨S1024x2816, .f32⟩
  | .hbm, ⟨10, _⟩ => ⟨S2x1024x1408, .f32⟩
  | .hbm, ⟨11, _⟩ => ⟨S1024x2x1408, .f32⟩
  | .hbm, ⟨12, _⟩ => ⟨S2x1024x1408, .f32⟩
  | .hbm, ⟨13, _⟩ => ⟨S4x1024x1408, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S8192x512 : Shape := ⟨2, ![8192, 512]⟩
abbrev S512x1024 : Shape := ⟨2, ![512, 1024]⟩
abbrev S8192x2048 : Shape := ⟨2, ![8192, 2048]⟩
abbrev S1024x512 : Shape := ⟨2, ![1024, 512]⟩
abbrev S1024x2048 : Shape := ⟨2, ![1024, 2048]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x512, .bf16⟩
  | .hbm, ⟨3, _⟩ => ⟨S512x1024, .bf16⟩
  | .hbm, ⟨4, _⟩ => ⟨S8192x2048, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | .local _ .vmem, ⟨5, _⟩ => ⟨S512x1024, .bf16⟩
  | .local _ .vmem, ⟨6, _⟩ => ⟨S1024x2048, .bf16⟩
  | .local _ .vmem, ⟨7, _⟩ => ⟨S1024x2048, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference12Ideal.lean ====
abbrev S8192x512 : Shape := ⟨2, ![8192, 512]⟩
abbrev S512x1024 : Shape := ⟨2, ![512, 1024]⟩
abbrev S8192x1024 : Shape := ⟨2, ![8192, 1024]⟩
abbrev S8192x2048 : Shape := ⟨2, ![8192, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x512, .bf16⟩
  | .hbm, ⟨3, _⟩ => ⟨S512x1024, .bf16⟩
  | .hbm, ⟨4, _⟩ => ⟨S8192x512, .f32⟩
  | .hbm, ⟨5, _⟩ => ⟨S512x1024, .f32⟩
  | .hbm, ⟨6, _⟩ => ⟨S8192x1024, .f32⟩
  | .hbm, ⟨7, _⟩ => ⟨S8192x512, .f32⟩
  | .hbm, ⟨8, _⟩ => ⟨S512x1024, .f32⟩
  | .hbm, ⟨9, _⟩ => ⟨S8192x1024, .f32⟩
  | .hbm, ⟨10, _⟩ => ⟨S8192x2048, .f32⟩
  | .hbm, ⟨11, _⟩ => ⟨S8192x2048, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel13.lean ====
abbrev S8192x2048 : Shape := ⟨2, ![8192, 2048]⟩
abbrev S512x1024 : Shape := ⟨2, ![512, 1024]⟩
abbrev S8192x512 : Shape := ⟨2, ![8192, 512]⟩
abbrev S1024x2048 : Shape := ⟨2, ![1024, 2048]⟩
abbrev S1024x512 : Shape := ⟨2, ![1024, 512]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S512x1024, .bf16⟩
  | .hbm, ⟨2, _⟩ => ⟨S512x1024, .bf16⟩
  | .hbm, ⟨3, _⟩ => ⟨S8192x512, .bf16⟩
  | .hbm, ⟨4, _⟩ => ⟨S8192x512, .bf16⟩
  | .local _ .vmem, ⟨0, _⟩ => ⟨S1024x2048, .bf16⟩
  | .local _ .vmem, ⟨1, _⟩ => ⟨S1024x2048, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference13Ideal.lean ====
abbrev S8192x2048 : Shape := ⟨2, ![8192, 2048]⟩
abbrev S512x1024 : Shape := ⟨2, ![512, 1024]⟩
abbrev S_ : Shape := ⟨0, ![]⟩
abbrev S8192x512 : Shape := ⟨2, ![8192, 512]⟩
abbrev S8192x1024 : Shape := ⟨2, ![8192, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S512x1024, .bf16⟩
  | .hbm, ⟨2, _⟩ => ⟨S512x1024, .bf16⟩
  | .hbm, ⟨3, _⟩ => ⟨S8192x2048, .f32⟩
  | .hbm, ⟨4, _⟩ => ⟨S_, .f32⟩
  | .hbm, ⟨5, _⟩ => ⟨S8192x512, .f32⟩
  | .hbm, ⟨6, _⟩ => ⟨S512x1024, .f32⟩
  | .hbm, ⟨7, _⟩ => ⟨S8192x1024, .f32⟩
  | .hbm, ⟨8, _⟩ => ⟨S8192x1024, .f32⟩
  | .hbm, ⟨9, _⟩ => ⟨S8192x512, .f32⟩
  | .hbm, ⟨10, _⟩ => ⟨S512x1024, .f32⟩
  | .hbm, ⟨11, _⟩ => ⟨S8192x1024, .f32⟩
  | .hbm, ⟨12, _⟩ => ⟨S8192x1024, .f32⟩
  | .hbm, ⟨13, _⟩ => ⟨S8192x512, .f32⟩
  | .hbm, ⟨14, _⟩ => ⟨S8192x512, .bf16⟩
  | .hbm, ⟨15, _⟩ => ⟨S8192x512, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel14.lean ====
abbrev S8192x512 : Shape := ⟨2, ![8192, 512]⟩
abbrev S8192x2048 : Shape := ⟨2, ![8192, 2048]⟩
abbrev S512x1024 : Shape := ⟨2, ![512, 1024]⟩
abbrev S2048x512 : Shape := ⟨2, ![2048, 512]⟩
abbrev S2048x2048 : Shape := ⟨2, ![2048, 2048]⟩
abbrev S2048x1024 : Shape := ⟨2, ![2048, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x2048, .bf16⟩
  | .hbm, ⟨3, _⟩ => ⟨S512x1024, .f32⟩
  | .hbm, ⟨4, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x2048, .bf16⟩
  | .local _ .vmem, ⟨5, _⟩ => ⟨S2048x2048, .bf16⟩
  | .local _ .vmem, ⟨6, _⟩ => ⟨S512x1024, .f32⟩
  | .local _ .vmem, ⟨7, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference14Ideal.lean ====
abbrev S8192x512 : Shape := ⟨2, ![8192, 512]⟩
abbrev S8192x2048 : Shape := ⟨2, ![8192, 2048]⟩
abbrev S_ : Shape := ⟨0, ![]⟩
abbrev S512x1024 : Shape := ⟨2, ![512, 1024]⟩
abbrev S8192x1024 : Shape := ⟨2, ![8192, 1024]⟩
abbrev S1024x512 : Shape := ⟨2, ![1024, 512]⟩

abbrev nBuf : Space → Nat
  | .hbm => 16
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x2048, .bf16⟩
  | .hbm, ⟨3, _⟩ => ⟨S8192x2048, .f32⟩
  | .hbm, ⟨4, _⟩ => ⟨S_, .f32⟩
  | .hbm, ⟨5, _⟩ => ⟨S512x1024, .f32⟩
  | .hbm, ⟨6, _⟩ => ⟨S8192x512, .f32⟩
  | .hbm, ⟨7, _⟩ => ⟨S8192x1024, .f32⟩
  | .hbm, ⟨8, _⟩ => ⟨S8192x1024, .f32⟩
  | .hbm, ⟨9, _⟩ => ⟨S1024x512, .f32⟩
  | .hbm, ⟨10, _⟩ => ⟨S512x1024, .f32⟩
  | .hbm, ⟨11, _⟩ => ⟨S8192x512, .f32⟩
  | .hbm, ⟨12, _⟩ => ⟨S8192x1024, .f32⟩
  | .hbm, ⟨13, _⟩ => ⟨S8192x1024, .f32⟩
  | .hbm, ⟨14, _⟩ => ⟨S1024x512, .f32⟩
  | .hbm, ⟨15, _⟩ => ⟨S512x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel15.lean ====
abbrev S8192x1024 : Shape := ⟨2, ![8192, 1024]⟩
abbrev S1024x5632 : Shape := ⟨2, ![1024, 5632]⟩
abbrev S3x5632 : Shape := ⟨2, ![3, 5632]⟩
abbrev S8192x2816 : Shape := ⟨2, ![8192, 2816]⟩
abbrev S2048x1024 : Shape := ⟨2, ![2048, 1024]⟩
abbrev S1024x256 : Shape := ⟨2, ![1024, 256]⟩
abbrev S3x256 : Shape := ⟨2, ![3, 256]⟩
abbrev S2048x256 : Shape := ⟨2, ![2048, 256]⟩
abbrev S1x256 : Shape := ⟨2, ![1, 256]⟩

abbrev nBuf : Space → Nat
  | .hbm => 8
  | .vmem => 20
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S3x5632, .f32⟩
  | .hbm, ⟨3, _⟩ => ⟨S8192x2816, .bf16⟩
  | .hbm, ⟨4, _⟩ => ⟨S8192x2816, .bf16⟩
  | .hbm, ⟨5, _⟩ => ⟨S8192x2816, .bf16⟩
  | .hbm, ⟨6, _⟩ => ⟨S8192x2816, .bf16⟩
  | .hbm, ⟨7, _⟩ => ⟨S8192x2816, .bf16⟩
  | .local _ .vmem, ⟨0, _⟩ => ⟨S2048x1024, .bf16⟩
  | .local _ .vmem, ⟨1, _⟩ => ⟨S2048x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S3x256, .f32⟩
  | .local _ .vmem, ⟨7, _⟩ => ⟨S3x256, .f32⟩
  | .local _ .vmem, ⟨8, _⟩ => ⟨S3x256, .f32⟩
  | .local _ .vmem, ⟨9, _⟩ => ⟨S3x256, .f32⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference15Ideal.lean ====
abbrev S8192x1024 : Shape := ⟨2, ![8192, 1024]⟩
abbrev S1024x5632 : Shape := ⟨2, ![1024, 5632]⟩
abbrev S3x5632 : Shape := ⟨2, ![3, 5632]⟩
abbrev S8192x5632 : Shape := ⟨2, ![8192, 5632]⟩
abbrev S4x2048x5632 : Shape := ⟨3, ![4, 2048, 5632]⟩
abbrev S_ : Shape := ⟨0, ![]⟩
abbrev S4x2050x5632 : Shape := ⟨3, ![4, 2050, 5632]⟩
abbrev S1x5632 : Shape := ⟨2, ![1, 5632]⟩
abbrev S5632 : Shape := ⟨1, ![5632]⟩
abbrev S1x1x5632 : Shape := ⟨3, ![1, 1, 5632]⟩
abbrev S8192x2816 : Shape := ⟨2, ![8192, 2816]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S3x5632, .f32⟩
  | .hbm, ⟨3, _⟩ => ⟨S8192x1024, .f32⟩
  | .hbm, ⟨4, _⟩ => ⟨S1024x5632, .f32⟩
  | .hbm, ⟨5, _⟩ => ⟨S8192x5632, .f32⟩
  | .hbm, ⟨6, _⟩ => ⟨S4x2048x5632, .f32⟩
  | .hbm, ⟨7, _⟩ => ⟨S_, .i32⟩
  | .hbm, ⟨8, _⟩ => ⟨S_, .f32⟩
  | .hbm, ⟨9, _⟩ => ⟨S4x2050x5632, .f32⟩
  | .hbm, ⟨10, _⟩ => ⟨S4x2048x5632, .f32⟩
  | .hbm, ⟨11, _⟩ => ⟨S1x5632, .f32⟩
  | .hbm, ⟨12, _⟩ => ⟨S5632, .f32⟩
  | .hbm, ⟨13, _⟩ => ⟨S1x1x5632, .f32⟩
  | .hbm, ⟨14, _⟩ => ⟨S4x2048x5632, .f32⟩
  | .hbm, ⟨15, _⟩ => ⟨S4x2048x5632, .f32⟩
  | .hbm, ⟨16, _⟩ => ⟨S4x2048x5632, .f32⟩
  | .hbm, ⟨17, _⟩ => ⟨S1x5632, .f32⟩
  | .hbm, ⟨18, _⟩ => ⟨S5632, .f32⟩
  | .hbm, ⟨19, _⟩ => ⟨S1x1x5632, .f32⟩
  | .hbm, ⟨20, _⟩ => ⟨S4x2048x5632, .f32⟩
  | .hbm, ⟨21, _⟩ => ⟨S4x2048x5632, .f32⟩
  | .hbm, ⟨22, _⟩ => ⟨S4x2048x5632, .f32⟩
  | .hbm, ⟨23, _⟩ => ⟨S4x2048x5632, .f32⟩
  | .hbm, ⟨24, _⟩ => ⟨S1x5632, .f32⟩
  | .hbm, ⟨25, _⟩ => ⟨S5632, .f32⟩
  | .hbm, ⟨26, _⟩ => ⟨S1x1x5632, .f32⟩
  | .hbm, ⟨27, _⟩ => ⟨S4x2048x5632, .f32⟩
  | .hbm, ⟨28, _⟩ => ⟨S4x2048x5632, .f32⟩
  | .hbm, ⟨29, _⟩ => ⟨S4x2048x5632, .f32⟩
  | .hbm, ⟨30, _⟩ => ⟨S8192x5632, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .bf16⟩
  | .hbm, ⟨46, _⟩ => ⟨S8192x2816, .bf16⟩
  | .hbm, ⟨47, _⟩ => ⟨S8192x2816, .bf16⟩
  | .hbm, ⟨48, _⟩ => ⟨S8192x2816, .bf16⟩
  | .hbm, ⟨49, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel16.lean ====
abbrev S1282x1024 : Shape := ⟨2, ![1282, 1024]⟩
abbrev S1282x256 : Shape := ⟨2, ![1282, 256]⟩

abbrev nBuf : Space → Nat
  | .hbm => 7
  | .vmem => 14
  | .smem => 0
  | _ => 0

abbrev bufTy : (tb : Table) → Fin (tcTables nBuf tb) → BufTy
  | .hbm, ⟨0, _⟩ => ⟨S1282x1024, .f32⟩
  | .hbm, ⟨1, _⟩ => ⟨S1282x1024, .f32⟩
  | .hbm, ⟨2, _⟩ => ⟨S1282x1024, .f32⟩
  | .hbm, ⟨3, _⟩ => ⟨S1282x1024, .f32⟩
  | .hbm, ⟨4, _⟩ => ⟨S1282x1024, .f32⟩
  | .hbm, ⟨5, _⟩ => ⟨S1282x1024, .f32⟩
  | .hbm, ⟨6, _⟩ => ⟨S1282x1024, .f32⟩
  | .local _ .vmem, ⟨0, _⟩ => ⟨S1282x256, .f32⟩
  | .local _ .vmem, ⟨1, _⟩ => ⟨S1282x256, .f32⟩
  | .local _ .vmem, ⟨2, _⟩ => ⟨S1282x256, .f32⟩
  | .local _ .vmem, ⟨3, _⟩ => ⟨S1282x256, .f32⟩
  | .local _ .vmem, ⟨4, _⟩ => ⟨S1282x256, .f32⟩
  | .local _ .vmem, ⟨5, _⟩ => ⟨S1282x256, .f32⟩
  | .local _ .vmem, ⟨6, _⟩ => ⟨S1282x256, .f32⟩
  | .local _ .vmem, ⟨7, _⟩ => ⟨S1282x256, .f32⟩
  | .local _ .vmem, ⟨8, _⟩ => ⟨S1282x256, .f32⟩
  | .local _ .vmem, ⟨9, _⟩ => ⟨S1282x256, .f32⟩
  | .local _ .vmem, ⟨10, _⟩ => ⟨S1282x256, .f32⟩
  | .local _ .vmem, ⟨11, _⟩ => ⟨S1282x256, .f32⟩
  | .local _ .vmem, ⟨12, _⟩ => ⟨S1282x256, .f32⟩
  | .local _ .vmem, ⟨13, _⟩ => ⟨S1282x256, .f32⟩
  | _, _ => ⟨S1282x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1282x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1282x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1282x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1282x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1282x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1282x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1282x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel16Ideal.lean ====
abbrev S1282x1024 : Shape := ⟨2, ![1282, 1024]⟩
abbrev S1282x256 : Shape := ⟨2, ![1282, 256]⟩

abbrev nBuf : Space → Nat
  | .hbm => 7
  | .vmem => 14
  | .smem => 0
  | _ => 0

abbrev bufTy : (tb : Table) → Fin (tcTables nBuf tb) → BufTy
  | .hbm, ⟨0, _⟩ => ⟨S1282x1024, .f32⟩
  | .hbm, ⟨1, _⟩ => ⟨S1282x1024, .f32⟩
  | .hbm, ⟨2, _⟩ => ⟨S1282x1024, .f32⟩
  | .hbm, ⟨3, _⟩ => ⟨S1282x1024, .f32⟩
  | .hbm, ⟨4, _⟩ => ⟨S1282x1024, .f32⟩
  | .hbm, ⟨5, _⟩ => ⟨S1282x1024, .f32⟩
  | .hbm, ⟨6, _⟩ => ⟨S1282x1024, .f32⟩
  | .local _ .vmem, ⟨0, _⟩ => ⟨S1282x256, .f32⟩
  | .local _ .vmem, ⟨1, _⟩ => ⟨S1282x256, .f32⟩
  | .local _ .vmem, ⟨2, _⟩ => ⟨S1282x256, .f32⟩
  | .local _ .vmem, ⟨3, _⟩ => ⟨S1282x256, .f32⟩
  | .local _ .vmem, ⟨4, _⟩ => ⟨S1282x256, .f32⟩
  | .local _ .vmem, ⟨5, _⟩ => ⟨S1282x256, .f32⟩
  | .local _ .vmem, ⟨6, _⟩ => ⟨S1282x256, .f32⟩
  | .local _ .vmem, ⟨7, _⟩ => ⟨S1282x256, .f32⟩
  | .local _ .vmem, ⟨8, _⟩ => ⟨S1282x256, .f32⟩
  | .local _ .vmem, ⟨9, _⟩ => ⟨S1282x256, .f32⟩
  | .local _ .vmem, ⟨10, _⟩ => ⟨S1282x256, .f32⟩
  | .local _ .vmem, ⟨11, _⟩ => ⟨S1282x256, .f32⟩
  | .local _ .vmem, ⟨12, _⟩ => ⟨S1282x256, .f32⟩
  | .local _ .vmem, ⟨13, _⟩ => ⟨S1282x256, .f32⟩
  | _, _ => ⟨S1282x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1282x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1282x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1282x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1282x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1282x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1282x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1282x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference16Ideal.lean ====
abbrev S1282x1024 : Shape := ⟨2, ![1282, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1282x1024, .f32⟩
  | .hbm, ⟨1, _⟩ => ⟨S1282x1024, .f32⟩
  | .hbm, ⟨2, _⟩ => ⟨S1282x1024, .f32⟩
  | .hbm, ⟨3, _⟩ => ⟨S1282x1024, .f32⟩
  | .hbm, ⟨4, _⟩ => ⟨S_, .f32⟩
  | .hbm, ⟨5, _⟩ => ⟨S1282x1024, .f32⟩
  | .hbm, ⟨6, _⟩ => ⟨S1282x1024, .f32⟩
  | .hbm, ⟨7, _⟩ => ⟨S_, .f32⟩
  | .hbm, ⟨8, _⟩ => ⟨S1282x1024, .f32⟩
  | .hbm, ⟨9, _⟩ => ⟨S1282x1024, .f32⟩
  | .hbm, ⟨10, _⟩ => ⟨S1282x1024, .f32⟩
  | .hbm, ⟨11, _⟩ => ⟨S_, .f32⟩
  | .hbm, ⟨12, _⟩ => ⟨S1282x1024, .f32⟩
  | .hbm, ⟨13, _⟩ => ⟨S1282x1024, .f32⟩
  | .hbm, ⟨14, _⟩ => ⟨S1282x1024, .f32⟩
  | .hbm, ⟨15, _⟩ => ⟨S_, .f32⟩
  | .hbm, ⟨16, _⟩ => ⟨S1282x1024, .f32⟩
  | .hbm, ⟨17, _⟩ => ⟨S1282x1024, .f32⟩
  | .hbm, ⟨18, _⟩ => ⟨S1282x1024, .f32⟩
  | .hbm, ⟨19, _⟩ => ⟨S_, .f32⟩
  | .hbm, ⟨20, _⟩ => ⟨S1282x1024, .f32⟩
  | .hbm, ⟨21, _⟩ => ⟨S1282x1024, .f32⟩
  | .hbm, ⟨22, _⟩ => ⟨S_, .f32⟩
  | .hbm, ⟨23, _⟩ => ⟨S1282x1024, .f32⟩
  | .hbm, ⟨24, _⟩ => ⟨S1282x1024, .f32⟩
  | .hbm, ⟨25, _⟩ => ⟨S1282x1024, .f32⟩
  | .hbm, ⟨26, _⟩ => ⟨S_, .f32⟩
  | .hbm, ⟨27, _⟩ => ⟨S1282x1024, .f32⟩
  | .hbm, ⟨28, _⟩ => ⟨S1282x1024, .f32⟩
  | .hbm, ⟨29, _⟩ => ⟨S1282x1024, .f32⟩
  | .hbm, ⟨30, _⟩ => ⟨S_, .f32⟩
  | .hbm, ⟨31, _⟩ => ⟨S1282x1024, .f32⟩
  | .hbm, ⟨32, _⟩ => ⟨S1282x1024, .f32⟩
  | .hbm, ⟨33, _⟩ => ⟨S1282x1024, .f32⟩
  | .hbm, ⟨34, _⟩ => ⟨S_, .f32⟩
  | .hbm, ⟨35, _⟩ => ⟨S1282x1024, .f32⟩
  | .hbm, ⟨36, _⟩ => ⟨S1282x1024, .f32⟩
  | _, _ => ⟨S1282x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Kernel17Ideal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference17Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S1024x1408 : Shape := ⟨2, ![1024, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel18Ideal.lean ====
abbrev S1024x1408 : Shape := ⟨2, ![1024, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference18Ideal.lean ====
abbrev S1024x1408 : Shape := ⟨2, ![1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S_, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S704x1024 : Shape := ⟨2, ![704, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel19Ideal.lean ====
abbrev S704x1024 : Shape := ⟨2, ![704, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference19Ideal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S512x256 : Shape := ⟨2, ![512, 256]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel20Ideal.lean ====
abbrev S512x256 : Shape := ⟨2, ![512, 256]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference20Ideal.lean ====
abbrev S512x256 : Shape := ⟨2, ![512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S_, .f32⟩
  | .hbm, ⟨5, _⟩ => ⟨S512x256, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S_, .f32⟩
  | .hbm, ⟨12, _⟩ => ⟨S512x256, .f32⟩
  | .hbm, ⟨13, _⟩ => ⟨S512x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S512x256, .f32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S_, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S_, .f32⟩
  | .hbm, ⟨35, _⟩ => ⟨S512x256, .f32⟩
  | .hbm, ⟨36, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S3x1408 : Shape := ⟨2, ![3, 1408]⟩
abbrev S3x128 : Shape := ⟨2, ![3, 128]⟩

abbrev nBuf : Space → Nat
  | .hbm => 7
  | .vmem => 14
  | .smem => 0
  | _ => 0

abbrev bufTy : (tb : Table) → Fin (tcTables nBuf tb) → BufTy
  | .hbm, ⟨0, _⟩ => ⟨S3x1408, .f32⟩
  | .hbm, ⟨1, _⟩ => ⟨S3x1408, .f32⟩
  | .hbm, ⟨2, _⟩ => ⟨S3x1408, .f32⟩
  | .hbm, ⟨3, _⟩ => ⟨S3x1408, .f32⟩
  | .hbm, ⟨4, _⟩ => ⟨S3x1408, .f32⟩
  | .hbm, ⟨5, _⟩ => ⟨S3x1408, .f32⟩
  | .hbm, ⟨6, _⟩ => ⟨S3x1408, .f32⟩
  | .local _ .vmem, ⟨0, _⟩ => ⟨S3x128, .f32⟩
  | .local _ .vmem, ⟨1, _⟩ => ⟨S3x128, .f32⟩
  | .local _ .vmem, ⟨2, _⟩ => ⟨S3x128, .f32⟩
  | .local _ .vmem, ⟨3, _⟩ => ⟨S3x128, .f32⟩
  | .local _ .vmem, ⟨4, _⟩ => ⟨S3x128, .f32⟩
  | .local _ .vmem, ⟨5, _⟩ => ⟨S3x128, .f32⟩
  | .local _ .vmem, ⟨6, _⟩ => ⟨S3x128, .f32⟩
  | .local _ .vmem, ⟨7, _⟩ => ⟨S3x128, .f32⟩
  | .local _ .vmem, ⟨8, _⟩ => ⟨S3x128, .f32⟩
  | .local _ .vmem, ⟨9, _⟩ => ⟨S3x128, .f32⟩
  | .local _ .vmem, ⟨10, _⟩ => ⟨S3x128, .f32⟩
  | .local _ .vmem, ⟨11, _⟩ => ⟨S3x128, .f32⟩
  | .local _ .vmem, ⟨12, _⟩ => ⟨S3x128, .f32⟩
  | .local _ .vmem, ⟨13, _⟩ => ⟨S3x128, .f32⟩
  | _, _ => ⟨S3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S3x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel21Ideal.lean ====
abbrev S3x1408 : Shape := ⟨2, ![3, 1408]⟩
abbrev S3x128 : Shape := ⟨2, ![3, 128]⟩

abbrev nBuf : Space → Nat
  | .hbm => 7
  | .vmem => 14
  | .smem => 0
  | _ => 0

abbrev bufTy : (tb : Table) → Fin (tcTables nBuf tb) → BufTy
  | .hbm, ⟨0, _⟩ => ⟨S3x1408, .f32⟩
  | .hbm, ⟨1, _⟩ => ⟨S3x1408, .f32⟩
  | .hbm, ⟨2, _⟩ => ⟨S3x1408, .f32⟩
  | .hbm, ⟨3, _⟩ => ⟨S3x1408, .f32⟩
  | .hbm, ⟨4, _⟩ => ⟨S3x1408, .f32⟩
  | .hbm, ⟨5, _⟩ => ⟨S3x1408, .f32⟩
  | .hbm, ⟨6, _⟩ => ⟨S3x1408, .f32⟩
  | .local _ .vmem, ⟨0, _⟩ => ⟨S3x128, .f32⟩
  | .local _ .vmem, ⟨1, _⟩ => ⟨S3x128, .f32⟩
  | .local _ .vmem, ⟨2, _⟩ => ⟨S3x128, .f32⟩
  | .local _ .vmem, ⟨3, _⟩ => ⟨S3x128, .f32⟩
  | .local _ .vmem, ⟨4, _⟩ => ⟨S3x128, .f32⟩
  | .local _ .vmem, ⟨5, _⟩ => ⟨S3x128, .f32⟩
  | .local _ .vmem, ⟨6, _⟩ => ⟨S3x128, .f32⟩
  | .local _ .vmem, ⟨7, _⟩ => ⟨S3x128, .f32⟩
  | .local _ .vmem, ⟨8, _⟩ => ⟨S3x128, .f32⟩
  | .local _ .vmem, ⟨9, _⟩ => ⟨S3x128, .f32⟩
  | .local _ .vmem, ⟨10, _⟩ => ⟨S3x128, .f32⟩
  | .local _ .vmem, ⟨11, _⟩ => ⟨S3x128, .f32⟩
  | .local _ .vmem, ⟨12, _⟩ => ⟨S3x128, .f32⟩
  | .local _ .vmem, ⟨13, _⟩ => ⟨S3x128, .f32⟩
  | _, _ => ⟨S3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S3x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference21Ideal.lean ====
abbrev S3x1408 : Shape := ⟨2, ![3, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x1408, .f32⟩
  | .hbm, ⟨1, _⟩ => ⟨S3x1408, .f32⟩
  | .hbm, ⟨2, _⟩ => ⟨S3x1408, .f32⟩
  | .hbm, ⟨3, _⟩ => ⟨S3x1408, .f32⟩
  | .hbm, ⟨4, _⟩ => ⟨S_, .f32⟩
  | .hbm, ⟨5, _⟩ => ⟨S3x1408, .f32⟩
  | .hbm, ⟨6, _⟩ => ⟨S3x1408, .f32⟩
  | .hbm, ⟨7, _⟩ => ⟨S_, .f32⟩
  | .hbm, ⟨8, _⟩ => ⟨S3x1408, .f32⟩
  | .hbm, ⟨9, _⟩ => ⟨S3x1408, .f32⟩
  | .hbm, ⟨10, _⟩ => ⟨S3x1408, .f32⟩
  | .hbm, ⟨11, _⟩ => ⟨S_, .f32⟩
  | .hbm, ⟨12, _⟩ => ⟨S3x1408, .f32⟩
  | .hbm, ⟨13, _⟩ => ⟨S3x1408, .f32⟩
  | .hbm, ⟨14, _⟩ => ⟨S3x1408, .f32⟩
  | .hbm, ⟨15, _⟩ => ⟨S_, .f32⟩
  | .hbm, ⟨16, _⟩ => ⟨S3x1408, .f32⟩
  | .hbm, ⟨17, _⟩ => ⟨S3x1408, .f32⟩
  | .hbm, ⟨18, _⟩ => ⟨S3x1408, .f32⟩
  | .hbm, ⟨19, _⟩ => ⟨S_, .f32⟩
  | .hbm, ⟨20, _⟩ => ⟨S3x1408, .f32⟩
  | .hbm, ⟨21, _⟩ => ⟨S3x1408, .f32⟩
  | .hbm, ⟨22, _⟩ => ⟨S_, .f32⟩
  | .hbm, ⟨23, _⟩ => ⟨S3x1408, .f32⟩
  | .hbm, ⟨24, _⟩ => ⟨S3x1408, .f32⟩
  | .hbm, ⟨25, _⟩ => ⟨S3x1408, .f32⟩
  | .hbm, ⟨26, _⟩ => ⟨S_, .f32⟩
  | .hbm, ⟨27, _⟩ => ⟨S3x1408, .f32⟩
  | .hbm, ⟨28, _⟩ => ⟨S3x1408, .f32⟩
  | .hbm, ⟨29, _⟩ => ⟨S3x1408, .f32⟩
  | .hbm, ⟨30, _⟩ => ⟨S_, .f32⟩
  | .hbm, ⟨31, _⟩ => ⟨S3x1408, .f32⟩
  | .hbm, ⟨32, _⟩ => ⟨S3x1408, .f32⟩
  | .hbm, ⟨33, _⟩ => ⟨S3x1408, .f32⟩
  | .hbm, ⟨34, _⟩ => ⟨S_, .f32⟩
  | .hbm, ⟨35, _⟩ => ⟨S3x1408, .f32⟩
  | .hbm, ⟨36, _⟩ => ⟨S3x1408, .f32⟩
  | _, _ => ⟨S3x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S3x128 : Shape := ⟨2, ![3, 128]⟩

abbrev nBuf : Space → Nat
  | .hbm => 7
  | .vmem => 7
  | .smem => 0
  | _ => 0

abbrev bufTy : (tb : Table) → Fin (tcTables nBuf tb) → BufTy
  | .hbm, ⟨0, _⟩ => ⟨S3x128, .f32⟩
  | .hbm, ⟨1, _⟩ => ⟨S3x128, .f32⟩
  | .hbm, ⟨2, _⟩ => ⟨S3x128, .f32⟩
  | .hbm, ⟨3, _⟩ => ⟨S3x128, .f32⟩
  | .hbm, ⟨4, _⟩ => ⟨S3x128, .f32⟩
  | .hbm, ⟨5, _⟩ => ⟨S3x128, .f32⟩
  | .hbm, ⟨6, _⟩ => ⟨S3x128, .f32⟩
  | .local _ .vmem, ⟨0, _⟩ => ⟨S3x128, .f32⟩
  | .local _ .vmem, ⟨1, _⟩ => ⟨S3x128, .f32⟩
  | .local _ .vmem, ⟨2, _⟩ => ⟨S3x128, .f32⟩
  | .local _ .vmem, ⟨3, _⟩ => ⟨S3x128, .f32⟩
  | .local _ .vmem, ⟨4, _⟩ => ⟨S3x128, .f32⟩
  | .local _ .vmem, ⟨5, _⟩ => ⟨S3x128, .f32⟩
  | .local _ .vmem, ⟨6, _⟩ => ⟨S3x128, .f32⟩
  | _, _ => ⟨S3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S3x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S3x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Kernel22Ideal.lean ====
abbrev S3x128 : Shape := ⟨2, ![3, 128]⟩

abbrev nBuf : Space → Nat
  | .hbm => 7
  | .vmem => 7
  | .smem => 0
  | _ => 0

abbrev bufTy : (tb : Table) → Fin (tcTables nBuf tb) → BufTy
  | .hbm, ⟨0, _⟩ => ⟨S3x128, .f32⟩
  | .hbm, ⟨1, _⟩ => ⟨S3x128, .f32⟩
  | .hbm, ⟨2, _⟩ => ⟨S3x128, .f32⟩
  | .hbm, ⟨3, _⟩ => ⟨S3x128, .f32⟩
  | .hbm, ⟨4, _⟩ => ⟨S3x128, .f32⟩
  | .hbm, ⟨5, _⟩ => ⟨S3x128, .f32⟩
  | .hbm, ⟨6, _⟩ => ⟨S3x128, .f32⟩
  | .local _ .vmem, ⟨0, _⟩ => ⟨S3x128, .f32⟩
  | .local _ .vmem, ⟨1, _⟩ => ⟨S3x128, .f32⟩
  | .local _ .vmem, ⟨2, _⟩ => ⟨S3x128, .f32⟩
  | .local _ .vmem, ⟨3, _⟩ => ⟨S3x128, .f32⟩
  | .local _ .vmem, ⟨4, _⟩ => ⟨S3x128, .f32⟩
  | .local _ .vmem, ⟨5, _⟩ => ⟨S3x128, .f32⟩
  | .local _ .vmem, ⟨6, _⟩ => ⟨S3x128, .f32⟩
  | _, _ => ⟨S3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S3x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S3x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference22Ideal.lean ====
abbrev S3x128 : Shape := ⟨2, ![3, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x128, .f32⟩
  | .hbm, ⟨1, _⟩ => ⟨S3x128, .f32⟩
  | .hbm, ⟨2, _⟩ => ⟨S3x128, .f32⟩
  | .hbm, ⟨3, _⟩ => ⟨S3x128, .f32⟩
  | .hbm, ⟨4, _⟩ => ⟨S_, .f32⟩
  | .hbm, ⟨5, _⟩ => ⟨S3x128, .f32⟩
  | .hbm, ⟨6, _⟩ => ⟨S3x128, .f32⟩
  | .hbm, ⟨7, _⟩ => ⟨S_, .f32⟩
  | .hbm, ⟨8, _⟩ => ⟨S3x128, .f32⟩
  | .hbm, ⟨9, _⟩ => ⟨S3x128, .f32⟩
  | .hbm, ⟨10, _⟩ => ⟨S3x128, .f32⟩
  | .hbm, ⟨11, _⟩ => ⟨S_, .f32⟩
  | .hbm, ⟨12, _⟩ => ⟨S3x128, .f32⟩
  | .hbm, ⟨13, _⟩ => ⟨S3x128, .f32⟩
  | .hbm, ⟨14, _⟩ => ⟨S3x128, .f32⟩
  | .hbm, ⟨15, _⟩ => ⟨S_, .f32⟩
  | .hbm, ⟨16, _⟩ => ⟨S3x128, .f32⟩
  | .hbm, ⟨17, _⟩ => ⟨S3x128, .f32⟩
  | .hbm, ⟨18, _⟩ => ⟨S3x128, .f32⟩
  | .hbm, ⟨19, _⟩ => ⟨S_, .f32⟩
  | .hbm, ⟨20, _⟩ => ⟨S3x128, .f32⟩
  | .hbm, ⟨21, _⟩ => ⟨S3x128, .f32⟩
  | .hbm, ⟨22, _⟩ => ⟨S_, .f32⟩
  | .hbm, ⟨23, _⟩ => ⟨S3x128, .f32⟩
  | .hbm, ⟨24, _⟩ => ⟨S3x128, .f32⟩
  | .hbm, ⟨25, _⟩ => ⟨S3x128, .f32⟩
  | .hbm, ⟨26, _⟩ => ⟨S_, .f32⟩
  | .hbm, ⟨27, _⟩ => ⟨S3x128, .f32⟩
  | .hbm, ⟨28, _⟩ => ⟨S3x128, .f32⟩
  | .hbm, ⟨29, _⟩ => ⟨S3x128, .f32⟩
  | .hbm, ⟨30, _⟩ => ⟨S_, .f32⟩
  | .hbm, ⟨31, _⟩ => ⟨S3x128, .f32⟩
  | .hbm, ⟨32, _⟩ => ⟨S3x128, .f32⟩
  | .hbm, ⟨33, _⟩ => ⟨S3x128, .f32⟩
  | .hbm, ⟨34, _⟩ => ⟨S_, .f32⟩
  | .hbm, ⟨35, _⟩ => ⟨S3x128, .f32⟩
  | .hbm, ⟨36, _⟩ => ⟨S3x128, .f32⟩
  | _, _ => ⟨S3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S1x1024 : Shape := ⟨2, ![1, 1024]⟩
abbrev S1x256 : Shape := ⟨2, ![1, 256]⟩

abbrev nBuf : Space → Nat
  | .hbm => 7
  | .vmem => 14
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel23Ideal.lean ====
abbrev S1x1024 : Shape := ⟨2, ![1, 1024]⟩
abbrev S1x256 : Shape := ⟨2, ![1, 256]⟩

abbrev nBuf : Space → Nat
  | .hbm => 7
  | .vmem => 14
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference23Ideal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S1x2048 : Shape := ⟨2, ![1, 2048]⟩
abbrev S1x256 : Shape := ⟨2, ![1, 256]⟩

abbrev nBuf : Space → Nat
  | .hbm => 7
  | .vmem => 14
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel24Ideal.lean ====
abbrev S1x2048 : Shape := ⟨2, ![1, 2048]⟩
abbrev S1x256 : Shape := ⟨2, ![1, 256]⟩

abbrev nBuf : Space → Nat
  | .hbm => 7
  | .vmem => 14
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference24Ideal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S1x8 : Shape := ⟨2, ![1, 8]⟩

abbrev nBuf : Space → Nat
  | .hbm => 7
  | .vmem => 7
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S1x8, .f32⟩
  | .hbm, ⟨5, _⟩ => ⟨S1x8, .f32⟩
  | .hbm, ⟨6, _⟩ => ⟨S1x8, .f32⟩
  | .local _ .vmem, ⟨0, _⟩ => ⟨S1x8, .f32⟩
  | .local _ .vmem, ⟨1, _⟩ => ⟨S1x8, .f32⟩
  | .local _ .vmem, ⟨2, _⟩ => ⟨S1x8, .f32⟩
  | .local _ .vmem, ⟨3, _⟩ => ⟨S1x8, .f32⟩
  | .local _ .vmem, ⟨4, _⟩ => ⟨S1x8, .f32⟩
  | .local _ .vmem, ⟨5, _⟩ => ⟨S1x8, .f32⟩
  | .local _ .vmem, ⟨6, _⟩ => ⟨S1x8, .f32⟩
  | _, _ => ⟨S1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference25Ideal.lean ====
abbrev S1x8 : Shape := ⟨2, ![1, 8]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S_, .f32⟩
  | .hbm, ⟨5, _⟩ => ⟨S1x8, .f32⟩
  | .hbm, ⟨6, _⟩ => ⟨S1x8, .f32⟩
  | .hbm, ⟨7, _⟩ => ⟨S_, .f32⟩
  | .hbm, ⟨8, _⟩ => ⟨S1x8, .f32⟩
  | .hbm, ⟨9, _⟩ => ⟨S1x8, .f32⟩
  | .hbm, ⟨10, _⟩ => ⟨S1x8, .f32⟩
  | .hbm, ⟨11, _⟩ => ⟨S_, .f32⟩
  | .hbm, ⟨12, _⟩ => ⟨S1x8, .f32⟩
  | .hbm, ⟨13, _⟩ => ⟨S1x8, .f32⟩
  | .hbm, ⟨14, _⟩ => ⟨S1x8, .f32⟩
  | .hbm, ⟨15, _⟩ => ⟨S_, .f32⟩
  | .hbm, ⟨16, _⟩ => ⟨S1x8, .f32⟩
  | .hbm, ⟨17, _⟩ => ⟨S1x8, .f32⟩
  | .hbm, ⟨18, _⟩ => ⟨S1x8, .f32⟩
  | .hbm, ⟨19, _⟩ => ⟨S_, .f32⟩
  | .hbm, ⟨20, _⟩ => ⟨S1x8, .f32⟩
  | .hbm, ⟨21, _⟩ => ⟨S1x8, .f32⟩
  | .hbm, ⟨22, _⟩ => ⟨S_, .f32⟩
  | .hbm, ⟨23, _⟩ => ⟨S1x8, .f32⟩
  | .hbm, ⟨24, _⟩ => ⟨S1x8, .f32⟩
  | .hbm, ⟨25, _⟩ => ⟨S1x8, .f32⟩
  | .hbm, ⟨26, _⟩ => ⟨S_, .f32⟩
  | .hbm, ⟨27, _⟩ => ⟨S1x8, .f32⟩
  | .hbm, ⟨28, _⟩ => ⟨S1x8, .f32⟩
  | .hbm, ⟨29, _⟩ => ⟨S1x8, .f32⟩
  | .hbm, ⟨30, _⟩ => ⟨S_, .f32⟩
  | .hbm, ⟨31, _⟩ => ⟨S1x8, .f32⟩
  | .hbm, ⟨32, _⟩ => ⟨S1x8, .f32⟩
  | .hbm, ⟨33, _⟩ => ⟨S1x8, .f32⟩
  | .hbm, ⟨34, _⟩ => ⟨S_, .f32⟩
  | .hbm, ⟨35, _⟩ => ⟨S1x8, .f32⟩
  | .hbm, ⟨36, _⟩ => ⟨S1x8, .f32⟩
  | _, _ => ⟨S1x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference26Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel27.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference27Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Model.lean ====
module

public import proofs.«01_k».proof.Proof.Gen.KernelIdeal.Skeleton
public import Idealize.ShloMosaic.Lib.VecWindow

@[expose] public section

/-!
The body of the attention gradient as a function of vectors. `diag` is the step on the diagonal block, `trip` one
trip of the loop over the later query blocks, `iter` the loop, and `body` what one grid point leaves in its windows:
the block of dq, dk and dv, the row sums of the key bias, the column sums of the query bias, and the running dq.
-/

set_option maxRecDepth 16384

noncomputable section

namespace Cert.KernelIdeal

open Idealize.ShloMosaic Idealize.ShloMosaic.TcCoe
open Cert.KernelIdeal.Gen

variable {F : FTy → Type} [FloatOps F]

/-- The buffers a grid point adds to: the query bias `a13`, the running dq `a14`, dk `a15`, dv `a16`, the key bias `a17`. -/
structure St (F : FTy → Type) where
  a13 : Vec F S1x2048x2 .f32
  a14 : Vec F S2048x128 .f32
  a15 : Vec F S512x128 .f32
  a16 : Vec F S512x128 .f32
  a17 : Vec F S2x512 .f32

/-- The seven blocks a grid point reads: q, k, v, the cotangent, the output, the log sum and the bias. -/
structure Ins (F : FTy → Type) where
  x3 : Vec F S2048x128 .bf16
  x4 : Vec F S512x128 .bf16
  x5 : Vec F S512x128 .bf16
  x6 : Vec F S2048x128 .bf16
  x7 : Vec F S2048x128 .bf16
  x8 : Vec F S1x2048x2 .f32
  x9 : Vec F S1x1x2x2048 .f32

/-- The rows as numbers. -/
def rowIota : IVec S512x512 32 := iota .tc S512x512 32 [0] iota_S512x512_d0_w32
/-- The columns as numbers. -/
def colIota : IVec S512x512 32 := iota .tc S512x512 32 [1] iota_S512x512_d1_w32

/-- The first row of the key bias. -/
def row0 (x : Vec F S2x512 .f32) : Vec F S1x512 .f32 := VecWindow.window x ![0, 0] S1x512.size inb_S2x512_S1x512_0_0
/-- The second row of the key bias. -/
def row1 (x : Vec F S2x512 .f32) : Vec F S1x512 .f32 := VecWindow.window x ![1, 0] S1x512.size inb_S2x512_S1x512_1_0
/-- The key bias with another first row. -/
def putRow0 (x : Vec F S2x512 .f32) (w : Vec F S1x512 .f32) : Vec F S2x512 .f32 := VecWindow.put x ![0, 0] S1x512.size w
/-- The key bias with another second row. -/
def putRow1 (x : Vec F S2x512 .f32) (w : Vec F S1x512 .f32) : Vec F S2x512 .f32 := VecWindow.put x ![1, 0] S1x512.size w

/-- The second row is apart from the first. -/
theorem row1_putRow0 (x : Vec F S2x512 .f32) (w : Vec F S1x512 .f32) : row1 (putRow0 x w) = row1 x :=
  VecWindow.window_put_of_disjoint x _ _ _ _ _ w (0 : Fin 2) (.inr (le_refl 1))

/-- The rows of the query bias in the first column at the diagonal block. -/
def col_d0 (i : grid0.Coords) (x : Vec F S1x2048x2 .f32) : Vec F S1x512x1 .f32 := VecWindow.window x (k0_off4 i) S1x512x1.size (k0_off4_inb i)
/-- The query bias with other rows in the first column at the diagonal block. -/
def putCol_d0 (i : grid0.Coords) (x : Vec F S1x2048x2 .f32) (w : Vec F S1x512x1 .f32) : Vec F S1x2048x2 .f32 := VecWindow.put x (k0_off4 i) S1x512x1.size w
/-- The rows of the query bias in the second column at the diagonal block. -/
def col_d1 (i : grid0.Coords) (x : Vec F S1x2048x2 .f32) : Vec F S1x512x1 .f32 := VecWindow.window x (k0_off6 i) S1x512x1.size (k0_off6_inb i)
/-- The query bias with other rows in the second column at the diagonal block. -/
def putCol_d1 (i : grid0.Coords) (x : Vec F S1x2048x2 .f32) (w : Vec F S1x512x1 .f32) : Vec F S1x2048x2 .f32 := VecWindow.put x (k0_off6 i) S1x512x1.size w
/-- The rows of the query bias in the first column at a later block. -/
def col_t0 (i : grid0.Coords) (k : Fin (k0_t1_loop i).trips) (x : Vec F S1x2048x2 .f32) : Vec F S1x512x1 .f32 := VecWindow.window x (k0_off10 i k) S1x512x1.size (k0_off10_inb i k)
/-- The query bias with other rows in the first column at a later block. -/
def putCol_t0 (i : grid0.Coords) (k : Fin (k0_t1_loop i).trips) (x : Vec F S1x2048x2 .f32) (w : Vec F S1x512x1 .f32) : Vec F S1x2048x2 .f32 := VecWindow.put x (k0_off10 i k) S1x512x1.size w
/-- The rows of the query bias in the second column at a later block. -/
def col_t1 (i : grid0.Coords) (k : Fin (k0_t1_loop i).trips) (x : Vec F S1x2048x2 .f32) : Vec F S1x512x1 .f32 := VecWindow.window x (k0_off12 i k) S1x512x1.size (k0_off12_inb i k)
/-- The query bias with other rows in the second column at a later block. -/
def putCol_t1 (i : grid0.Coords) (k : Fin (k0_t1_loop i).trips) (x : Vec F S1x2048x2 .f32) (w : Vec F S1x512x1 .f32) : Vec F S1x2048x2 .f32 := VecWindow.put x (k0_off12 i k) S1x512x1.size w

/-- The second column is apart from the first. -/
theorem col_d1_put (i : grid0.Coords) (x : Vec F S1x2048x2 .f32) (w : Vec F S1x512x1 .f32) : col_d1 i (putCol_d0 i x w) = col_d1 i x :=
  VecWindow.window_put_of_disjoint x _ _ _ _ _ w (2 : Fin 3) (.inr (le_refl 1))

/-- The second column is apart from the first. -/
theorem col_t1_put (i : grid0.Coords) (k : Fin (k0_t1_loop i).trips) (x : Vec F S1x2048x2 .f32) (w : Vec F S1x512x1 .f32) : col_t1 i k (putCol_t0 i k x w) = col_t1 i k x :=
  VecWindow.window_put_of_disjoint x _ _ _ _ _ w (2 : Fin 3) (.inr (le_refl 1))

/-- The key block scaled. -/
def kScaled (X : Ins F) : Vec F S512x128 .bf16 := k0_pay67 X.x4 k0_pay65 k0_pay66

/-- Head 0 of the diagonal block: the biases, dk and dv. -/
def diag0 (i : grid0.Coords) (X : Ins F) (s : St F) : St F :=
  let v38 : Vec F S512x128 .bf16 := VecWindow.window X.x3 (k0_off1 i) S512x128.size (k0_off1_inb i)
  let v42 : Vec F S512x128 .bf16 := VecWindow.window X.x6 (k0_off1 i) S512x128.size (k0_off1_inb i)
  let v45 : Vec F S512x128 .bf16 := VecWindow.window X.x7 (k0_off1 i) S512x128.size (k0_off1_inb i)
  let v50 : Vec F S1x512x2 .f32 := VecWindow.window X.x8 (k0_off2 i) S1x512x2.size (k0_off2_inb i)
  let v71 : Vec F S1x1x1x512 .f32 := VecWindow.window X.x9 (k0_off3 i) S1x1x1x512.size (k0_off3_inb i)
  let v57 := k0_pay72 k0_pay57 v38
  let v62 := k0_pay73 k0_pay57 v42
  let v68 := k0_pay74 k0_pay57 v42 v45
  let v74 := k0_pay75 k0_pay57 X.x4 v38 v71
  let v76 := k0_pay76 v50
  { a17 := putRow0 s.a17 (k0_pay79 rowIota colIota X.x5 v62 v68 v74 v76 (row0 s.a17))
    a13 := putCol_d0 i s.a13 (k0_pay80 rowIota colIota X.x5 v62 v68 v74 v76 (col_d0 i s.a13))
    a16 := k0_pay82 rowIota colIota v62 v74 v76 s.a16
    a15 := k0_pay84 (k0_pay83 rowIota colIota X.x5 v57 v62 v68 v74 v76 s.a15)
    a14 := s.a14 }

/-- Head 0's share of dq on the diagonal block. -/
def diagDq0 (i : grid0.Coords) (X : Ins F) : FVec F S512x128 .f32 :=
  let v38 : Vec F S512x128 .bf16 := VecWindow.window X.x3 (k0_off1 i) S512x128.size (k0_off1_inb i)
  let v42 : Vec F S512x128 .bf16 := VecWindow.window X.x6 (k0_off1 i) S512x128.size (k0_off1_inb i)
  let v45 : Vec F S512x128 .bf16 := VecWindow.window X.x7 (k0_off1 i) S512x128.size (k0_off1_inb i)
  let v50 : Vec F S1x512x2 .f32 := VecWindow.window X.x8 (k0_off2 i) S1x512x2.size (k0_off2_inb i)
  let v71 : Vec F S1x1x1x512 .f32 := VecWindow.window X.x9 (k0_off3 i) S1x1x1x512.size (k0_off3_inb i)
  k0_pay85 (k0_pay64 X.x4) k0_pay71 (k0_pay81 rowIota colIota X.x5 (k0_pay73 k0_pay57 v42) (k0_pay74 k0_pay57 v42 v45) (k0_pay75 k0_pay57 X.x4 v38 v71) (k0_pay76 v50))

/-- Head 1 of the diagonal block, which also adds both heads' dq. -/
def diag1 (i : grid0.Coords) (X : Ins F) (s : St F) : St F :=
  let v38 : Vec F S512x128 .bf16 := VecWindow.window X.x3 (k0_off1 i) S512x128.size (k0_off1_inb i)
  let v42 : Vec F S512x128 .bf16 := VecWindow.window X.x6 (k0_off1 i) S512x128.size (k0_off1_inb i)
  let v45 : Vec F S512x128 .bf16 := VecWindow.window X.x7 (k0_off1 i) S512x128.size (k0_off1_inb i)
  let v50 : Vec F S1x512x2 .f32 := VecWindow.window X.x8 (k0_off2 i) S1x512x2.size (k0_off2_inb i)
  let v137 : Vec F S1x1x1x512 .f32 := VecWindow.window X.x9 (k0_off5 i) S1x1x1x512.size (k0_off5_inb i)
  let v40 := k0_pay68 v38
  let v48 := k0_pay69 v42 v45
  let v51 := k0_pay70 v50
  let v123 := k0_pay86 k0_pay58 v40
  let v128 := k0_pay87 k0_pay58 v42
  let v147 := k0_pay88 k0_pay58 rowIota colIota X.x4 v40 v51 v137
  let v151 := k0_pay89 k0_pay58 rowIota colIota X.x4 X.x5 v40 v42 v48 v51 v137
  { a17 := putRow1 s.a17 (k0_pay91 (k0_pay90 k0_pay58 rowIota colIota X.x4 X.x5 v40 v42 v48 v51 v137 (row1 s.a17)))
    a13 := putCol_d1 i s.a13 (k0_pay92 v151 (col_d1 i s.a13))
    a16 := k0_pay94 v128 v147 s.a16
    a15 := k0_pay95 v123 v151 s.a15
    a14 := VecWindow.put s.a14 (k0_off1 i) S512x128.size (k0_pay96 (kScaled X) (diagDq0 i X) v151 (VecWindow.window s.a14 (k0_off1 i) S512x128.size (k0_off1_inb i))) }

/-- The diagonal block. -/
def diag (i : grid0.Coords) (X : Ins F) (s : St F) : St F := diag1 i X (diag0 i X s)

/-- Head 0 of a later query block: the biases, dk and dv. -/
def trip0 (i : grid0.Coords) (k : Fin (k0_t1_loop i).trips) (X : Ins F) (s : St F) : St F :=
  let v217 : Vec F S512x128 .bf16 := VecWindow.window X.x3 (k0_off7 i k) S512x128.size (k0_off7_inb i k)
  let v221 : Vec F S512x128 .bf16 := VecWindow.window X.x6 (k0_off7 i k) S512x128.size (k0_off7_inb i k)
  let v224 : Vec F S512x128 .bf16 := VecWindow.window X.x7 (k0_off7 i k) S512x128.size (k0_off7_inb i k)
  let v229 : Vec F S1x512x2 .f32 := VecWindow.window X.x8 (k0_off8 i k) S1x512x2.size (k0_off8_inb i k)
  let v250 : Vec F S1x1x1x512 .f32 := VecWindow.window X.x9 (k0_off9 i) S1x1x1x512.size (k0_off9_inb i)
  let v236 := k0_pay19 k0_pay57 v217
  let v241 := k0_pay20 k0_pay57 v221
  let v247 := k0_pay21 k0_pay57 v221 v224
  let v256 := k0_pay22 k0_pay57 X.x4 v217 v229 v250
  { a17 := putRow0 s.a17 (k0_pay25 X.x5 v241 v247 v256 (row0 s.a17))
    a13 := putCol_t0 i k s.a13 (k0_pay26 X.x5 v241 v247 v256 (col_t0 i k s.a13))
    a16 := k0_pay28 v241 v256 s.a16
    a15 := k0_pay29 X.x5 v236 v241 v247 v256 s.a15
    a14 := s.a14 }

/-- Head 0's share of dq on a later query block. -/
def tripDq0 (i : grid0.Coords) (k : Fin (k0_t1_loop i).trips) (X : Ins F) : FVec F S512x128 .f32 :=
  let v217 : Vec F S512x128 .bf16 := VecWindow.window X.x3 (k0_off7 i k) S512x128.size (k0_off7_inb i k)
  let v221 : Vec F S512x128 .bf16 := VecWindow.window X.x6 (k0_off7 i k) S512x128.size (k0_off7_inb i k)
  let v224 : Vec F S512x128 .bf16 := VecWindow.window X.x7 (k0_off7 i k) S512x128.size (k0_off7_inb i k)
  let v229 : Vec F S1x512x2 .f32 := VecWindow.window X.x8 (k0_off8 i k) S1x512x2.size (k0_off8_inb i k)
  let v250 : Vec F S1x1x1x512 .f32 := VecWindow.window X.x9 (k0_off9 i) S1x1x1x512.size (k0_off9_inb i)
  k0_pay30 (k0_pay64 X.x4) k0_pay18 (k0_pay27 X.x5 (k0_pay20 k0_pay57 v221) (k0_pay21 k0_pay57 v221 v224) (k0_pay22 k0_pay57 X.x4 v217 v229 v250))

/-- Head 1 of a later query block, which also adds both heads' dq. -/
def trip1 (i : grid0.Coords) (k : Fin (k0_t1_loop i).trips) (X : Ins F) (s : St F) : St F :=
  let v217 : Vec F S512x128 .bf16 := VecWindow.window X.x3 (k0_off7 i k) S512x128.size (k0_off7_inb i k)
  let v221 : Vec F S512x128 .bf16 := VecWindow.window X.x6 (k0_off7 i k) S512x128.size (k0_off7_inb i k)
  let v224 : Vec F S512x128 .bf16 := VecWindow.window X.x7 (k0_off7 i k) S512x128.size (k0_off7_inb i k)
  let v229 : Vec F S1x512x2 .f32 := VecWindow.window X.x8 (k0_off8 i k) S1x512x2.size (k0_off8_inb i k)
  let v313 : Vec F S1x1x1x512 .f32 := VecWindow.window X.x9 (k0_off11 i) S1x1x1x512.size (k0_off11_inb i)
  let v219 := k0_pay15 v217
  let v227 := k0_pay16 v221 v224
  let v230 := k0_pay17 v229
  let v299 := k0_pay31 k0_pay58 v219
  let v304 := k0_pay32 k0_pay58 v221
  let v320 := k0_pay33 k0_pay58 X.x4 v219 v230 v313
  let v324 := k0_pay34 k0_pay58 X.x4 X.x5 v219 v221 v227 v230 v313
  { a17 := putRow1 s.a17 (k0_pay35 k0_pay58 X.x4 X.x5 v219 v221 v227 v230 v313 (row1 s.a17))
    a13 := putCol_t1 i k s.a13 (k0_pay1 v324 (col_t1 i k s.a13))
    a16 := k0_pay3 v304 v320 s.a16
    a15 := k0_pay4 v299 v324 s.a15
    a14 := VecWindow.put s.a14 (k0_off7 i k) S512x128.size (k0_pay5 (kScaled X) (tripDq0 i k X) v324 (VecWindow.window s.a14 (k0_off7 i k) S512x128.size (k0_off7_inb i k))) }

/-- One trip of the loop. -/
def trip (i : grid0.Coords) (k : Fin (k0_t1_loop i).trips) (X : Ins F) (s : St F) : St F := trip1 i k X (trip0 i k X s)

/-- The first `n` trips of the loop. -/
def iter (i : grid0.Coords) (X : Ins F) (s : St F) : ℕ → St F
  | 0 => s
  | n + 1 => if h : n < (k0_t1_loop i).trips then trip i ⟨n, h⟩ X (iter i X s n) else iter i X s n

/-- The buffers at the end of a grid point that met the query bias `y13` and the running dq `y14`. -/
def fin (i : grid0.Coords) (X : Ins F) (y13 : Vec F S1x2048x2 .f32) (y14 : Vec F S2048x128 .f32) : St F :=
  iter i X (diag i X ⟨y13, y14, k0_pay61, k0_pay62, k0_pay63⟩) (k0_t1_loop i).trips

/-- The block of dq, dk and dv written out. -/
def out11 (i : grid0.Coords) (s : St F) : Vec F S512x384 .bf16 :=
  VecWindow.put (VecWindow.put (VecWindow.put (fun _ => (Scalar.ofBits .bf16 0#16 : F .bf16)) ![0, 0] S512x128.size (k0_pay11 (VecWindow.window s.a14 (k0_off1 i) S512x128.size (k0_off1_inb i)))) ![0, 128] S512x128.size (k0_pay12 s.a15)) ![0, 256] S512x128.size (k0_pay13 s.a16)

end Cert.KernelIdeal
-- ==== Proof.Data.lean ====
module

public import proofs.«01_k».proof.Proof.Model
public import proofs.«01_k».proof.Proof.Gen.KernelIdeal.Frame

@[expose] public section

/-!
What the buffers hold at each point of the grid. The query bias and the running dq are carried from one key block to
the next and start at zero with the first; the rest is made anew at every point.
-/

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The seven blocks read at a point. -/
def ins (c : Dev nD) (t : Fin cfg0.N) : Ins F :=
  ⟨iblk m c 0 t, iblk m c 1 t, iblk m c 2 t, iblk m c 3 t, iblk m c 4 t, iblk m c 5 t, iblk m c 6 t⟩

/-- The buffers at the end of a point. -/
def at_ (c : Dev nD) : (n : ℕ) → n < cfg0.N → St F
  | 0, hn => fin (grid0.coords ⟨0, hn⟩) (ins m c ⟨0, hn⟩) k0_pay60 k0_pay59
  | n + 1, hn =>
    if (n + 1) % 4 = 0 then fin (grid0.coords ⟨n + 1, hn⟩) (ins m c ⟨n + 1, hn⟩) k0_pay60 k0_pay59
    else fin (grid0.coords ⟨n + 1, hn⟩) (ins m c ⟨n + 1, hn⟩) (at_ c n (Nat.lt_of_succ_lt hn)).a13 (at_ c n (Nat.lt_of_succ_lt hn)).a14

/-- At the first key block the sums start at zero. -/
theorem at_A (c : Dev nD) (t : Fin cfg0.N) (h0 : t.val % 4 = 0) :
    at_ m c t.val t.isLt = fin (grid0.coords t) (ins m c t) k0_pay60 k0_pay59 := by
  obtain ⟨n, hn⟩ := t
  cases n with
  | zero => rfl
  | succ n => exact if_pos h0

/-- At a later key block they go on from the point before. -/
theorem at_B (c : Dev nD) (t : Fin cfg0.N) (h0 : ¬t.val % 4 = 0) :
    at_ m c t.val t.isLt = fin (grid0.coords t) (ins m c t) (at_ m c (t.val - 1) (Nat.lt_of_le_of_lt (Nat.sub_le _ _) t.isLt)).a13
      (at_ m c (t.val - 1) (Nat.lt_of_le_of_lt (Nat.sub_le _ _) t.isLt)).a14 := by
  obtain ⟨n, hn⟩ := t
  cases n with
  | zero => exact absurd rfl h0
  | succ n => exact if_neg h0

/-- The running dq between two points. -/
def dqInv (c : Dev nD) (n : ℕ) (hn : n ≤ cfg0.N) : sProp 𝕄 :=
  if h : n % 4 = 0 then iprop(∃ d, owns (c : Thread nD τ) (Memref.whole cc0_scratch0) fullShare d)
  else owns (c : Thread nD τ) (Memref.whole cc0_scratch0) fullShare
    (at_ m c (n - 1) (Nat.lt_of_lt_of_le (Nat.sub_lt (Nat.pos_of_ne_zero fun e => h (by rw [e])) Nat.one_pos) hn)).a14

/-- Before a first key block it holds anything. -/
theorem dqInv_zero (c : Dev nD) (n : ℕ) (hn : n ≤ cfg0.N) (h : n % 4 = 0) :
    dqInv m c n hn = iprop(∃ d, owns (c : Thread nD τ) (Memref.whole cc0_scratch0) fullShare d) := dif_pos h

/-- Behind a point it holds what the point left. -/
theorem dqInv_pos (c : Dev nD) (n : ℕ) (hn : n + 1 ≤ cfg0.N) (h : ¬(n + 1) % 4 = 0) :
    dqInv m c (n + 1) hn = owns (c : Thread nD τ) (Memref.whole cc0_scratch0) fullShare (at_ m c n hn).a14 := dif_neg h

/-- Before a later key block it holds what the point before left. -/
theorem dqInv_pred (c : Dev nD) (t : Fin cfg0.N) (h : ¬t.val % 4 = 0) :
    dqInv m c t.val t.isLt.le = owns (c : Thread nD τ) (Memref.whole cc0_scratch0) fullShare
      (at_ m c (t.val - 1) (Nat.lt_of_le_of_lt (Nat.sub_le _ _) t.isLt)).a14 := dif_neg h

/-- The other scratch buffers and the generator register. -/
def restInv (c : Dev nD) : sProp 𝕄 :=
  iprop((∃ d, owns (c : Thread nD τ) (Memref.whole cc0_scratch1) fullShare d) ∗ (∃ d, owns (c : Thread nD τ) (Memref.whole cc0_scratch2) fullShare d)
    ∗ (∃ d, owns (c : Thread nD τ) (Memref.whole cc0_scratch3) fullShare d) ∗ ∃ r, prngReg c r)

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out11 (grid0.coords t) (at_ m c t.val t.isLt)
    | ⟨8, _⟩ => k0_pay14 (at_ m c t.val t.isLt).a17
    | ⟨9, _⟩ => (at_ m c t.val t.isLt).a13
  Φ t := iprop(dqInv m c t.val (Nat.le_of_lt_succ t.isLt) ∗ restInv c)
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out11 (grid0.coords t) (at_ m c t.val t.isLt) := by dsimp only [dats]
theorem after0_8 (c : Dev nD) (t : Fin cfg0.N) : (dats m 0 c).after 8 t = k0_pay14 (at_ m c t.val t.isLt).a17 := by dsimp only [dats]
theorem after0_9 (c : Dev nD) (t : Fin cfg0.N) : (dats m 0 c).after 9 t = (at_ m c t.val t.isLt).a13 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- At a later key block the query bias holds what the point before left. -/
theorem before0_9_B (c : Dev nD) (t : Fin cfg0.N) (h0 : ¬t.val % 4 = 0) (d) :
    (dats m 0 c).before 9 t d = (at_ m c (t.val - 1) (Nat.lt_of_le_of_lt (Nat.sub_le _ _) t.isLt)).a13 := by
  rw [Dat.before_out_kept _ 9 rfl t (by omega) (Bool.eq_false_iff.mpr fun h => by have := (flush0_9 _).mp h; dsimp only at this; omega)
    (fun _ => rfl) (fun _ _ => rfl)]
  dsimp only [dats]

end Cert.KernelIdeal
-- ==== Proof.Body.lean ====
module

public import proofs.«01_k».proof.Proof.Gen.KernelIdeal.Frame
public import proofs.«01_k».proof.Proof.Gen.KernelIdeal.Loops
public import proofs.«01_k».proof.Proof.Gen.KernelIdeal.Points

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition under which the body clears its running sums: the last grid coordinate is zero. -/
abbrev cond0_0 (i : grid0.Coords) : Prop := (Scalar.cmpi .ne (Scalar.extui (Scalar.cmpi .eq (BitVec.ofNat 32 (i 2).val) 0#32)) 0#32) = 1#1

set_option maxHeartbeats 4000000

noncomputable def bodyRunA (c : Dev nD) (i : grid0.Coords) (arg3 : Memref sig .tc .vmem S2048x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S1x2048x2 .f32) (harg8 : arg8.IsWhole) (arg9 : Memref sig .tc .vmem S1x1x2x2048 .f32) (harg9 : arg9.IsWhole) (arg10 : Memref sig .tc .hbm S8192x5376 .bf16) (harg10 : arg10.IsWhole) (arg11 : Memref sig .tc .vmem S512x384 .bf16) (harg11 : arg11.IsWhole) (arg12 : Memref sig .tc .vmem S1x1x2x512 .f32) (harg12 : arg12.IsWhole) (arg13 : Memref sig .tc .vmem S1x2048x2 .f32) (harg13 : arg13.IsWhole) (arg14 : Memref sig .tc .vmem S2048x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S2x512 .f32) (harg17 : arg17.IsWhole) (hc0 : cond0_0 i)
    (x3 : Vec F S2048x128 .bf16) (x4 : Vec F S512x128 .bf16) (x5 : Vec F S512x128 .bf16) (x6 : Vec F S2048x128 .bf16) (x7 : Vec F S2048x128 .bf16) (x8 : Vec F S1x2048x2 .f32) (x9 : Vec F S1x1x2x2048 .f32) :
    Σ' (L11 : List (View.Piece (Elt F) S512x384 .bf16)), Σ' (L12 : List (View.Piece (Elt F) S1x1x2x512 .f32)), Σ' (L13 : List (View.Piece (Elt F) S1x2048x2 .f32)), { L14 : List (View.Piece (Elt F) S2048x128 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, fun E K => ?run⟩
  case run =>
    simp only [cc0_attn_bwd_eq_skeleton]; unfold cc0_attn_bwd_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | sl_exact hc0)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H11]; · iexists _; iexact H11
    isplitl [H12]; · iexists _; iexact H12
    isplitl [H13]; · iexists _; iexact H13
    isplitl [H14]; · iexists _; iexact H14
    isplitl [H15]
    · iexists _; iexists _; isplitr; swap; iexact H15; ipureintro; rfl
    isplitl [H16]
    · iexists _; iexists _; isplitr; swap; iexact H16; ipureintro; rfl
    iexists _; iexists _; isplitr; swap; iexact H17; ipureintro; rfl

noncomputable def bodyRunB (c : Dev nD) (i : grid0.Coords) (arg3 : Memref sig .tc .vmem S2048x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S1x2048x2 .f32) (harg8 : arg8.IsWhole) (arg9 : Memref sig .tc .vmem S1x1x2x2048 .f32) (harg9 : arg9.IsWhole) (arg10 : Memref sig .tc .hbm S8192x5376 .bf16) (harg10 : arg10.IsWhole) (arg11 : Memref sig .tc .vmem S512x384 .bf16) (harg11 : arg11.IsWhole) (arg12 : Memref sig .tc .vmem S1x1x2x512 .f32) (harg12 : arg12.IsWhole) (arg13 : Memref sig .tc .vmem S1x2048x2 .f32) (harg13 : arg13.IsWhole) (arg14 : Memref sig .tc .vmem S2048x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S2x512 .f32) (harg17 : arg17.IsWhole) (hc0 : ¬cond0_0 i)
    (x3 : Vec F S2048x128 .bf16) (x4 : Vec F S512x128 .bf16) (x5 : Vec F S512x128 .bf16) (x6 : Vec F S2048x128 .bf16) (x7 : Vec F S2048x128 .bf16) (x8 : Vec F S1x2048x2 .f32) (x9 : Vec F S1x1x2x2048 .f32) (y13 : Vec F S1x2048x2 .f32) (y14 : Vec F S2048x128 .f32) :
    Σ' (L11 : List (View.Piece (Elt F) S512x384 .bf16)), Σ' (L12 : List (View.Piece (Elt F) S1x1x2x512 .f32)), Σ' (L13 : List (View.Piece (Elt F) S1x2048x2 .f32)), { L14 : List (View.Piece (Elt F) S2048x128 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg11 fullShare d) ∗ (∃ d, owns (c : Thread nD τ) arg12 fullShare d) ∗ owns (c : Thread nD τ) arg13 fullShare y13 ∗ owns (c : Thread nD τ) arg14 fullShare y14 ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (arg13.view.loc (c : Thread nD τ) ↦[arg13.view.set]{fullShare} arg13.view.writes (Elt F) (harg13.unread y13) L13) ∗ (arg14.view.loc (c : Thread nD τ) ↦[arg14.view.set]{fullShare} arg14.view.writes (Elt F) (harg14.unread y14) L14) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, fun E K => ?run⟩
  case run =>
    simp only [cc0_attn_bwd_eq_skeleton]; unfold cc0_attn_bwd_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d11, %f11, -, H11⟩, ⟨%d12, %f12, -, H12⟩, ⟨%f13, %hf13, H13⟩, ⟨%f14, %hf14, H14⟩, ⟨%d15, %f15, -, H15⟩, ⟨%d16, %f16, -, H16⟩, ⟨%d17, %f17, -, H17⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg13.eq_unread hf13; obtain rfl := harg14.eq_unread hf14
    sl_exec (disch := first | sl_exact hc0)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H11]; · iexists _; iexact H11
    isplitl [H12]; · iexists _; iexact H12
    isplitl [H13]; · iexact H13
    isplitl [H14]; · iexact H14
    isplitl [H15]
    · iexists _; iexists _; isplitr; swap; iexact H15; ipureintro; rfl
    isplitl [H16]
    · iexists _; iexists _; isplitr; swap; iexact H16; ipureintro; rfl
    iexists _; iexists _; isplitr; swap; iexact H17; ipureintro; rfl

end Cert.KernelIdeal.Gen
-- ==== Proof.Trip.lean ====
module

public import proofs.«01_k».proof.Proof.Gen.KernelIdeal.Loops
public import proofs.«01_k».proof.Proof.Model

@[expose] public section

/-!
The loop over the later query blocks, read through its buffers: after `n` trips the five buffers hold `iter n`.
-/

set_option maxRecDepth 16384

noncomputable section

namespace Cert.KernelIdeal

open Idealize.ShloMosaic Idealize.ShloMosaic.TcCoe Idealize.ShloMosaic.Tactic
open Cert.KernelIdeal.Gen

variable {F : FTy → Type} [FloatOps F]

section

variable {sig : RefSig} {κ : Kind} {sp : Space} {s : Shape} {e : EltTy}

/-- A load of a window reads that window of the buffer. -/
theorem readAt_win (v : View sig κ sp s e) (f : v.ty.Contents (Elt F)) (off size : Fin s.rank → ℕ) (inb : ∀ a, off a + size a ≤ s.size a) :
    v.readAt (Elt F) (Rect.unit off size inb).toLoadRect f = VecWindow.window (v.read (Elt F) f) off size inb :=
  View.readAt_unit v f inb rfl inb

/-- A store of a window puts the payload over that window of the buffer. -/
theorem read_put (v : View sig κ sp s e) (f : v.ty.Contents (Elt F)) (off size : Fin s.rank → ℕ) (inb : ∀ a, off a + size a ≤ s.size a)
    (w : (Rect.unit off size inb).shape.Idx → Elt F e) (L : List (View.Piece (Elt F) s e)) :
    v.read (Elt F) (v.writes (Elt F) f (⟨Rect.unit off size inb, w⟩ :: L)) = VecWindow.put (v.read (Elt F) (v.writes (Elt F) f L)) off size w :=
  View.read_writes_cons_put v f inb w L rfl

/-- A store of the whole buffer leaves the payload. -/
theorem read_full_512 (v : View sig κ sp S512x128 e) (f : v.ty.Contents (Elt F)) (inb : ∀ a, (![0, 0] : Fin S512x128.rank → ℕ) a + (![512, 128] : Fin S512x128.rank → ℕ) a ≤ S512x128.size a)
    (w : (Rect.unit (s := S512x128) ![0, 0] ![512, 128] inb).shape.Idx → Elt F e) (L : List (View.Piece (Elt F) S512x128 e)) :
    v.read (Elt F) (v.writes (Elt F) f (⟨Rect.unit (s := S512x128) ![0, 0] ![512, 128] inb, w⟩ :: L)) = w :=
  View.read_writes_full v f inb w L

/-- A load of the whole buffer reads it. -/
theorem readAt_full_512 (v : View sig κ sp S512x128 e) (f : v.ty.Contents (Elt F)) (inb : ∀ a, (![0, 0] : Fin S512x128.rank → ℕ) a + (![512, 128] : Fin S512x128.rank → ℕ) a ≤ S512x128.size a) :
    v.readAt (Elt F) (Rect.unit (s := S512x128) ![0, 0] ![512, 128] inb).toLoadRect f = v.read (Elt F) f :=
  View.readAt_full v f inb

/-- A store of the whole buffer leaves the payload. -/
theorem read_full_2048 (v : View sig κ sp S2048x128 e) (f : v.ty.Contents (Elt F)) (inb : ∀ a, (![0, 0] : Fin S2048x128.rank → ℕ) a + (![2048, 128] : Fin S2048x128.rank → ℕ) a ≤ S2048x128.size a)
    (w : (Rect.unit (s := S2048x128) ![0, 0] ![2048, 128] inb).shape.Idx → Elt F e) (L : List (View.Piece (Elt F) S2048x128 e)) :
    v.read (Elt F) (v.writes (Elt F) f (⟨Rect.unit (s := S2048x128) ![0, 0] ![2048, 128] inb, w⟩ :: L)) = w :=
  View.read_writes_full v f inb w L

/-- A load of the whole buffer reads it. -/
theorem readAt_full_2048 (v : View sig κ sp S2048x128 e) (f : v.ty.Contents (Elt F)) (inb : ∀ a, (![0, 0] : Fin S2048x128.rank → ℕ) a + (![2048, 128] : Fin S2048x128.rank → ℕ) a ≤ S2048x128.size a) :
    v.readAt (Elt F) (Rect.unit (s := S2048x128) ![0, 0] ![2048, 128] inb).toLoadRect f = v.read (Elt F) f :=
  View.readAt_full v f inb

/-- A store of the whole buffer leaves the payload. -/
theorem read_full_row (v : View sig κ sp S2x512 e) (f : v.ty.Contents (Elt F)) (inb : ∀ a, (![0, 0] : Fin S2x512.rank → ℕ) a + (![2, 512] : Fin S2x512.rank → ℕ) a ≤ S2x512.size a)
    (w : (Rect.unit (s := S2x512) ![0, 0] ![2, 512] inb).shape.Idx → Elt F e) (L : List (View.Piece (Elt F) S2x512 e)) :
    v.read (Elt F) (v.writes (Elt F) f (⟨Rect.unit (s := S2x512) ![0, 0] ![2, 512] inb, w⟩ :: L)) = w :=
  View.read_writes_full v f inb w L

/-- A load of the whole buffer reads it. -/
theorem readAt_full_row (v : View sig κ sp S2x512 e) (f : v.ty.Contents (Elt F)) (inb : ∀ a, (![0, 0] : Fin S2x512.rank → ℕ) a + (![2, 512] : Fin S2x512.rank → ℕ) a ≤ S2x512.size a) :
    v.readAt (Elt F) (Rect.unit (s := S2x512) ![0, 0] ![2, 512] inb).toLoadRect f = v.read (Elt F) f :=
  View.readAt_full v f inb

/-- A store of the whole buffer leaves the payload. -/
theorem read_full_col (v : View sig κ sp S1x2048x2 e) (f : v.ty.Contents (Elt F)) (inb : ∀ a, (![0, 0, 0] : Fin S1x2048x2.rank → ℕ) a + (![1, 2048, 2] : Fin S1x2048x2.rank → ℕ) a ≤ S1x2048x2.size a)
    (w : (Rect.unit (s := S1x2048x2) ![0, 0, 0] ![1, 2048, 2] inb).shape.Idx → Elt F e) (L : List (View.Piece (Elt F) S1x2048x2 e)) :
    v.read (Elt F) (v.writes (Elt F) f (⟨Rect.unit (s := S1x2048x2) ![0, 0, 0] ![1, 2048, 2] inb, w⟩ :: L)) = w :=
  View.read_writes_full v f inb w L

/-- A load of the whole buffer reads it. -/
theorem readAt_full_col (v : View sig κ sp S1x2048x2 e) (f : v.ty.Contents (Elt F)) (inb : ∀ a, (![0, 0, 0] : Fin S1x2048x2.rank → ℕ) a + (![1, 2048, 2] : Fin S1x2048x2.rank → ℕ) a ≤ S1x2048x2.size a) :
    v.readAt (Elt F) (Rect.unit (s := S1x2048x2) ![0, 0, 0] ![1, 2048, 2] inb).toLoadRect f = v.read (Elt F) f :=
  View.readAt_full v f inb

/-- Nothing stored leaves the buffer. -/
theorem writes_none (v : View sig κ sp s e) (f : v.ty.Contents (Elt F)) : v.writes (Elt F) f [] = f := rfl

end

set_option maxHeartbeats 4000000

/-- One trip carries the five buffers as `trip` does. -/
theorem trip_read (𝒱 : Variants) (c : Dev nD) (bd : Option 𝒱.V) (i : grid0.Coords) (arg3 : Memref sig .tc .vmem S2048x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S1x2048x2 .f32) (harg8 : arg8.IsWhole) (arg9 : Memref sig .tc .vmem S1x1x2x2048 .f32) (harg9 : arg9.IsWhole) (arg10 : Memref sig .tc .hbm S8192x5376 .bf16) (harg10 : arg10.IsWhole) (arg11 : Memref sig .tc .vmem S512x384 .bf16) (harg11 : arg11.IsWhole) (arg12 : Memref sig .tc .vmem S1x1x2x512 .f32) (harg12 : arg12.IsWhole) (arg13 : Memref sig .tc .vmem S1x2048x2 .f32) (harg13 : arg13.IsWhole) (arg14 : Memref sig .tc .vmem S2048x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S2x512 .f32) (harg17 : arg17.IsWhole) (v24 v192 : BitVec 32) (X3 : BufTy.Contents (Elt F) arg3.view.ty) (X6 : BufTy.Contents (Elt F) arg6.view.ty) (X7 : BufTy.Contents (Elt F) arg7.view.ty) (X8 : BufTy.Contents (Elt F) arg8.view.ty) (X9 : BufTy.Contents (Elt F) arg9.view.ty) (X : Ins F) (h3 : arg3.view.read (Elt F) X3 = X.x3) (h6 : arg6.view.read (Elt F) X6 = X.x6) (h7 : arg7.view.read (Elt F) X7 = X.x7) (h8 : arg8.view.read (Elt F) X8 = X.x8) (h9 : arg9.view.read (Elt F) X9 = X.x9)
    (k : Fin (k0_t1_loop i).trips) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (s : St F) (h13 : arg13.view.read (Elt F) f13 = s.a13) (h14 : arg14.view.read (Elt F) f14 = s.a14) (h15 : arg15.view.read (Elt F) f15 = s.a15) (h16 : arg16.view.read (Elt F) f16 = s.a16) (h17 : arg17.view.read (Elt F) f17 = s.a17) :
    arg13.view.read (Elt F) (arg13.view.writes (Elt F) f13 (tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay57 k0_pay58 X.x4 X.x5 v24 (k0_pay64 X.x4) (kScaled X) v192 X3 X6 X7 X8 X9 k f13 f14 f15 f16 f17).1) = (trip i k X s).a13
      ∧ arg14.view.read (Elt F) (arg14.view.writes (Elt F) f14 (tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay57 k0_pay58 X.x4 X.x5 v24 (k0_pay64 X.x4) (kScaled X) v192 X3 X6 X7 X8 X9 k f13 f14 f15 f16 f17).2.1) = (trip i k X s).a14
      ∧ arg15.view.read (Elt F) (arg15.view.writes (Elt F) f15 (tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay57 k0_pay58 X.x4 X.x5 v24 (k0_pay64 X.x4) (kScaled X) v192 X3 X6 X7 X8 X9 k f13 f14 f15 f16 f17).2.2.1) = (trip i k X s).a15
      ∧ arg16.view.read (Elt F) (arg16.view.writes (Elt F) f16 (tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay57 k0_pay58 X.x4 X.x5 v24 (k0_pay64 X.x4) (kScaled X) v192 X3 X6 X7 X8 X9 k f13 f14 f15 f16 f17).2.2.2.1) = (trip i k X s).a16
      ∧ arg17.view.read (Elt F) (arg17.view.writes (Elt F) f17 (tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay57 k0_pay58 X.x4 X.x5 v24 (k0_pay64 X.x4) (kScaled X) v192 X3 X6 X7 X8 X9 k f13 f14 f15 f16 f17).2.2.2.2) = (trip i k X s).a17 := by
  unfold tripL_k0_t1 trip_k0_t1
  dsimp only
  simp only [trip_k0_t1.sl.HW_arg15_1, trip_k0_t1.sl.HW_arg16_1, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.v325, trip_k0_t1.sl.v333, trip_k0_t1.sl.v343, trip_k0_t1.sl.v350, View.readCov]
  simp only [readAt_full_512, read_full_512]
  simp only [read_put, readAt_win, writes_none, h3, h6, h7, h8, h9, h13, h14, h15, h16, h17]
  unfold trip trip0 trip1 tripDq0
  dsimp only
  simp only [col_t1_put, row1_putRow0]
  refine ⟨?_, ?_, ?_, ?_, ?_⟩ <;> first | trivial | rfl

/-- The first `n` trips carry the five buffers as `iter` does. -/
theorem loop_read (𝒱 : Variants) (c : Dev nD) (bd : Option 𝒱.V) (i : grid0.Coords) (arg3 : Memref sig .tc .vmem S2048x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S1x2048x2 .f32) (harg8 : arg8.IsWhole) (arg9 : Memref sig .tc .vmem S1x1x2x2048 .f32) (harg9 : arg9.IsWhole) (arg10 : Memref sig .tc .hbm S8192x5376 .bf16) (harg10 : arg10.IsWhole) (arg11 : Memref sig .tc .vmem S512x384 .bf16) (harg11 : arg11.IsWhole) (arg12 : Memref sig .tc .vmem S1x1x2x512 .f32) (harg12 : arg12.IsWhole) (arg13 : Memref sig .tc .vmem S1x2048x2 .f32) (harg13 : arg13.IsWhole) (arg14 : Memref sig .tc .vmem S2048x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S2x512 .f32) (harg17 : arg17.IsWhole) (v24 v192 : BitVec 32) (X3 : BufTy.Contents (Elt F) arg3.view.ty) (X6 : BufTy.Contents (Elt F) arg6.view.ty) (X7 : BufTy.Contents (Elt F) arg7.view.ty) (X8 : BufTy.Contents (Elt F) arg8.view.ty) (X9 : BufTy.Contents (Elt F) arg9.view.ty) (X : Ins F) (h3 : arg3.view.read (Elt F) X3 = X.x3) (h6 : arg6.view.read (Elt F) X6 = X.x6) (h7 : arg7.view.read (Elt F) X7 = X.x7) (h8 : arg8.view.read (Elt F) X8 = X.x8) (h9 : arg9.view.read (Elt F) X9 = X.x9)
    (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (s : St F) (h13 : arg13.view.read (Elt F) f13 = s.a13) (h14 : arg14.view.read (Elt F) f14 = s.a14) (h15 : arg15.view.read (Elt F) f15 = s.a15) (h16 : arg16.view.read (Elt F) f16 = s.a16) (h17 : arg17.view.read (Elt F) f17 = s.a17) (n : ℕ) (hn : n ≤ (k0_t1_loop i).trips) :
    arg13.view.read (Elt F) (arg13.view.writes (Elt F) f13 (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay57 k0_pay58 X.x4 X.x5 v24 (k0_pay64 X.x4) (kScaled X) v192 X3 X6 X7 X8 X9 f13 f14 f15 f16 f17 n).1) = (iter i X s n).a13
      ∧ arg14.view.read (Elt F) (arg14.view.writes (Elt F) f14 (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay57 k0_pay58 X.x4 X.x5 v24 (k0_pay64 X.x4) (kScaled X) v192 X3 X6 X7 X8 X9 f13 f14 f15 f16 f17 n).2.1) = (iter i X s n).a14
      ∧ arg15.view.read (Elt F) (arg15.view.writes (Elt F) f15 (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay57 k0_pay58 X.x4 X.x5 v24 (k0_pay64 X.x4) (kScaled X) v192 X3 X6 X7 X8 X9 f13 f14 f15 f16 f17 n).2.2.1) = (iter i X s n).a15
      ∧ arg16.view.read (Elt F) (arg16.view.writes (Elt F) f16 (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay57 k0_pay58 X.x4 X.x5 v24 (k0_pay64 X.x4) (kScaled X) v192 X3 X6 X7 X8 X9 f13 f14 f15 f16 f17 n).2.2.2.1) = (iter i X s n).a16
      ∧ arg17.view.read (Elt F) (arg17.view.writes (Elt F) f17 (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay57 k0_pay58 X.x4 X.x5 v24 (k0_pay64 X.x4) (kScaled X) v192 X3 X6 X7 X8 X9 f13 f14 f15 f16 f17 n).2.2.2.2) = (iter i X s n).a17 := by
  induction n with
  | zero => exact ⟨h13, h14, h15, h16, h17⟩
  | succ n ih =>
    obtain ⟨e13, e14, e15, e16, e17⟩ := ih (Nat.le_of_succ_le hn)
    have hlt : n < (k0_t1_loop i).trips := hn
    have es : iter i X s (n + 1) = trip i ⟨n, hlt⟩ X (iter i X s n) := dif_pos hlt
    have step := pb_k0_t1_succ (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay57 k0_pay58 X.x4 X.x5 v24 (k0_pay64 X.x4) (kScaled X) v192 X3 X6 X7 X8 X9 f13 f14 f15 f16 f17 ⟨n, hlt⟩
    dsimp only at step
    rw [step, es]
    obtain ⟨t13, t14, t15, t16, t17⟩ := trip_read (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v24 v192 X3 X6 X7 X8 X9 X h3 h6 h7 h8 h9 ⟨n, hlt⟩ _ _ _ _ _ (iter i X s n) e13 e14 e15 e16 e17
    refine ⟨?_, ?_, ?_, ?_, ?_⟩
    · dsimp only; rw [View.writes_append]; exact t13
    · dsimp only; rw [View.writes_append]; exact t14
    · dsimp only; rw [View.writes_append]; exact t15
    · dsimp only; rw [View.writes_append]; exact t16
    · dsimp only; rw [View.writes_append]; exact t17

end Cert.KernelIdeal
-- ==== Proof.Cover.lean ====
module

public import proofs.«01_k».proof.Proof.Body
public import proofs.«01_k».proof.Proof.Trip

@[expose] public section

/-!
What one grid point leaves in its buffers, read through the buffers: the functions of Model.
-/

set_option maxRecDepth 16384

noncomputable section

namespace Cert.KernelIdeal

open Idealize.ShloMosaic Idealize.ShloMosaic.TcCoe Idealize.ShloMosaic.Tactic
open Cert.KernelIdeal.Gen

variable {F : FTy → Type} [FloatOps F]

/-- The second loop, which takes up what a loop unrolled in larger steps would leave, makes no trip. -/
theorem trips2 (i : grid0.Coords) : (k0_t2_loop i).trips = 0 := by
  have key : ∀ j : Fin 4, Scf.trips
      (Scalar.addi (Scalar.addi (BitVec.ofNat 32 j.val) 1#32) (Scalar.muli (Scalar.divsi (Scalar.subi (4#32) (Scalar.addi (BitVec.ofNat 32 j.val) 1#32)) 1#32) 1#32))
      (Scalar.addi (Scalar.addi (BitVec.ofNat 32 j.val) 1#32) (Scalar.subi (4#32) (Scalar.addi (BitVec.ofNat 32 j.val) 1#32))) 1#32 = 0 := by decide +kernel
  exact key (i 2)

/-- Putting a whole buffer leaves the payload. -/
theorem put_full {s : Shape} {α : Type} (x : s.Idx → α) (off : Fin s.rank → ℕ) (inb : ∀ a, off a + s.size a ≤ s.size a) (w : s.Idx → α) :
    VecWindow.put x off s.size w = w := by
  have h := VecWindow.window_put_same x off s.size inb w
  funext y
  have := congrFun h y
  rw [← this]
  exact congrArg _ (Rect.emb_unit_full inb y).symm

theorem put_full_row (x w : Vec F S2x512 .f32) : VecWindow.put (s := S2x512) x (![0, 0] : Fin S2x512.rank → ℕ) (![2, 512] : Fin S2x512.rank → ℕ) w = w :=
  put_full x _ inb_S2x512_S2x512_0_0 w
theorem put_full_col (x w : Vec F S1x2048x2 .f32) : VecWindow.put (s := S1x2048x2) x (![0, 0, 0] : Fin S1x2048x2.rank → ℕ) (![1, 2048, 2] : Fin S1x2048x2.rank → ℕ) w = w :=
  put_full x _ inb_S1x2048x2_S1x2048x2_0_0_0 w
theorem put_full_dq (x w : Vec F S2048x128 .f32) : VecWindow.put (s := S2048x128) x (![0, 0] : Fin S2048x128.rank → ℕ) (![2048, 128] : Fin S2048x128.rank → ℕ) w = w :=
  put_full x _ inb_S2048x128_S2048x128_0_0 w

/-- The three column ranges of a block, written over whatever the block held. -/
def three (a b d : Vec F S512x128 .bf16) : Vec F S512x384 .bf16 :=
  VecWindow.put (VecWindow.put (VecWindow.put (fun _ => (Scalar.ofBits .bf16 0#16 : F .bf16)) ![0, 0] S512x128.size a) ![0, 128] S512x128.size b) ![0, 256] S512x128.size d

/-- Three stores that cover the block read as the three column ranges. -/
theorem read_three {κ : Kind} {sp : Space} (v : View sig κ sp S512x384 .bf16) (f : v.ty.Contents (Elt F))
    (h0 : ∀ a, (![0, 0] : Fin S512x384.rank → ℕ) a + S512x128.size a ≤ S512x384.size a) (h1 : ∀ a, (![0, 128] : Fin S512x384.rank → ℕ) a + S512x128.size a ≤ S512x384.size a)
    (h2 : ∀ a, (![0, 256] : Fin S512x384.rank → ℕ) a + S512x128.size a ≤ S512x384.size a) (a b d : Vec F S512x128 .bf16) :
    v.read (Elt F) (v.writes (Elt F) f [⟨Rect.unit (s := S512x384) ![0, 256] S512x128.size h2, d⟩, ⟨Rect.unit (s := S512x384) ![0, 128] S512x128.size h1, b⟩, ⟨Rect.unit (s := S512x384) ![0, 0] S512x128.size h0, a⟩])
      = three a b d := by
  rw [read_put, read_put, read_put, writes_none]
  unfold three
  funext y
  have hr : (y 0).val < 512 := (y 0).isLt
  have hc : (y 1).val < 384 := (y 1).isLt
  unfold VecWindow.put
  by_cases c2 : 256 ≤ (y 1).val
  · have : ∀ t : Fin S512x384.rank, (![0, 256] : Fin S512x384.rank → ℕ) t ≤ (y t).val ∧ (y t).val < (![0, 256] : Fin S512x384.rank → ℕ) t + S512x128.size t := by
      intro t; fin_cases t
      · exact ⟨Nat.zero_le _, by show (y 0).val < 0 + 512; omega⟩
      · exact ⟨c2, by show (y 1).val < 256 + 128; omega⟩
    rw [dif_pos this, dif_pos this]
  · have n2 : ¬ ∀ t : Fin S512x384.rank, (![0, 256] : Fin S512x384.rank → ℕ) t ≤ (y t).val ∧ (y t).val < (![0, 256] : Fin S512x384.rank → ℕ) t + S512x128.size t :=
      fun h => c2 (h 1).1
    rw [dif_neg n2, dif_neg n2]
    by_cases c1 : 128 ≤ (y 1).val
    · have : ∀ t : Fin S512x384.rank, (![0, 128] : Fin S512x384.rank → ℕ) t ≤ (y t).val ∧ (y t).val < (![0, 128] : Fin S512x384.rank → ℕ) t + S512x128.size t := by
        intro t; fin_cases t
        · exact ⟨Nat.zero_le _, by show (y 0).val < 0 + 512; omega⟩
        · exact ⟨c1, by show (y 1).val < 128 + 128; omega⟩
      rw [dif_pos this, dif_pos this]
    · have n1 : ¬ ∀ t : Fin S512x384.rank, (![0, 128] : Fin S512x384.rank → ℕ) t ≤ (y t).val ∧ (y t).val < (![0, 128] : Fin S512x384.rank → ℕ) t + S512x128.size t :=
        fun h => c1 (h 1).1
      rw [dif_neg n1, dif_neg n1]
      have : ∀ t : Fin S512x384.rank, (![0, 0] : Fin S512x384.rank → ℕ) t ≤ (y t).val ∧ (y t).val < (![0, 0] : Fin S512x384.rank → ℕ) t + S512x128.size t := by
        intro t; fin_cases t
        · exact ⟨Nat.zero_le _, by show (y 0).val < 0 + 512; omega⟩
        · exact ⟨Nat.zero_le _, by show (y 1).val < 0 + 128; omega⟩
      rw [dif_pos this, dif_pos this]

/-- The block written out, from its three parts. -/
theorem out11_of (i : grid0.Coords) (s : St F) {a b d : Vec F S512x128 .bf16}
    (ha : a = k0_pay11 (VecWindow.window s.a14 (k0_off1 i) S512x128.size (k0_off1_inb i))) (hb : b = k0_pay12 s.a15) (hd : d = k0_pay13 s.a16) :
    three a b d = out11 i s := by subst ha; subst hb; subst hd; rfl

/-- Two buffers that read the same are the same. -/
theorem eq_of_read {sp : Space} {s : Shape} {e : EltTy} {a : Memref sig .tc sp s e} (h : a.IsWhole) {f g : BufTy.Contents (Elt F) a.view.ty} {x : Vec F s e}
    (hf : a.view.read (Elt F) f = x) (hg : a.view.read (Elt F) g = x) : f = g := (h.eq_unread hf).trans (h.eq_unread hg).symm

/-- Behind a store of the whole query bias, what the buffer held does not matter. -/
theorem base_13 {sp : Space} {a : Memref sig .tc sp S1x2048x2 .f32} (h : a.IsWhole) (f : BufTy.Contents (Elt F) a.view.ty)
    (o1 s1 : Fin S1x2048x2.rank → ℕ) (i1 : ∀ t, o1 t + s1 t ≤ S1x2048x2.size t) (w1 : (Rect.unit o1 s1 i1).shape.Idx → Elt F .f32)
    (o2 s2 : Fin S1x2048x2.rank → ℕ) (i2 : ∀ t, o2 t + s2 t ≤ S1x2048x2.size t) (w2 : (Rect.unit o2 s2 i2).shape.Idx → Elt F .f32)
    (i3 : ∀ t, (![0, 0, 0] : Fin S1x2048x2.rank → ℕ) t + S1x2048x2.size t ≤ S1x2048x2.size t) (w : Vec F S1x2048x2 .f32) :
    a.view.writes (Elt F) f [⟨Rect.unit o1 s1 i1, w1⟩, ⟨Rect.unit o2 s2 i2, w2⟩, ⟨Rect.unit (s := S1x2048x2) ![0, 0, 0] S1x2048x2.size i3, w⟩]
      = a.view.writes (Elt F) a.view.junk [⟨Rect.unit o1 s1 i1, w1⟩, ⟨Rect.unit o2 s2 i2, w2⟩, ⟨Rect.unit (s := S1x2048x2) ![0, 0, 0] S1x2048x2.size i3, w⟩] := by
  refine eq_of_read h (x := VecWindow.put (VecWindow.put w o2 s2 w2) o1 s1 w1) ?_ ?_ <;>
  · rw [read_put, read_put, View.read_writes_full]

/-- Behind a store of the whole running dq, what the buffer held does not matter. -/
theorem base_14 {sp : Space} {a : Memref sig .tc sp S2048x128 .f32} (h : a.IsWhole) (f : BufTy.Contents (Elt F) a.view.ty)
    (o1 s1 : Fin S2048x128.rank → ℕ) (i1 : ∀ t, o1 t + s1 t ≤ S2048x128.size t) (w1 : (Rect.unit o1 s1 i1).shape.Idx → Elt F .f32)
    (i3 : ∀ t, (![0, 0] : Fin S2048x128.rank → ℕ) t + S2048x128.size t ≤ S2048x128.size t) (w : Vec F S2048x128 .f32) :
    a.view.writes (Elt F) f [⟨Rect.unit o1 s1 i1, w1⟩, ⟨Rect.unit (s := S2048x128) ![0, 0] S2048x128.size i3, w⟩]
      = a.view.writes (Elt F) a.view.junk [⟨Rect.unit o1 s1 i1, w1⟩, ⟨Rect.unit (s := S2048x128) ![0, 0] S2048x128.size i3, w⟩] := by
  refine eq_of_read h (x := VecWindow.put w o1 s1 w1) ?_ ?_ <;>
  · rw [read_put, View.read_writes_full]

end Cert.KernelIdeal
-- ==== Proof.BodyReadA.lean ====
module

public import proofs.«01_k».proof.Proof.Body
public import proofs.«01_k».proof.Proof.Cover

@[expose] public section

/-!
What a grid point at the first key block leaves in its buffers, read through the buffers: the functions of Model.
-/

set_option maxRecDepth 16384

noncomputable section

namespace Cert.KernelIdeal

open Idealize.ShloMosaic Idealize.ShloMosaic.TcCoe Idealize.ShloMosaic.Tactic
open Cert.KernelIdeal.Gen

variable {F : FTy → Type} [FloatOps F]

set_option maxHeartbeats 4000000

/-- Buffer 13 at the end of a grid point. -/
theorem bodyA_13 (c : Dev nD) (i : grid0.Coords) (arg3 : Memref sig .tc .vmem S2048x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S1x2048x2 .f32) (harg8 : arg8.IsWhole) (arg9 : Memref sig .tc .vmem S1x1x2x2048 .f32) (harg9 : arg9.IsWhole) (arg10 : Memref sig .tc .hbm S8192x5376 .bf16) (harg10 : arg10.IsWhole) (arg11 : Memref sig .tc .vmem S512x384 .bf16) (harg11 : arg11.IsWhole) (arg12 : Memref sig .tc .vmem S1x1x2x512 .f32) (harg12 : arg12.IsWhole) (arg13 : Memref sig .tc .vmem S1x2048x2 .f32) (harg13 : arg13.IsWhole) (arg14 : Memref sig .tc .vmem S2048x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S2x512 .f32) (harg17 : arg17.IsWhole) (hc0 : cond0_0 i) (X : Ins F) (f : BufTy.Contents (Elt F) arg13.view.ty) :
    arg13.view.read (Elt F) (arg13.view.writes (Elt F) f (bodyRunA (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X.x3 X.x4 X.x5 X.x6 X.x7 X.x8 X.x9).2.2.1) = (fin i X k0_pay60 k0_pay59).a13 := by
  unfold bodyRunA
  dsimp only
  have t2 := trips2 i
  unfold k0_t2_loop at t2
  dsimp only [Scf.Loop.trips] at t2
  simp only [bodyRunA.sl.H15_1, bodyRunA.sl.H15_2, bodyRunA.sl.H15_3, bodyRunA.sl.H16_1, bodyRunA.sl.H16_2, bodyRunA.sl.H16_3, bodyRunA.sl.H17_1, bodyRunA.sl.H17_2, bodyRunA.sl.H17_3, bodyRunA.sl.r, bodyRunA.sl.r_1, bodyRunA.sl.r_2, bodyRunA.sl.r_3, bodyRunA.sl.r_4, bodyRunA.sl.r_5, bodyRunA.sl.r_6, bodyRunA.sl.r_7, bodyRunA.sl.r_8, bodyRunA.sl.r_9, bodyRunA.sl.r_10, bodyRunA.sl.r_11, bodyRunA.sl.r_12, bodyRunA.sl.r_13, bodyRunA.sl.r_14, bodyRunA.sl.r_15, bodyRunA.sl.r_16, bodyRunA.sl.r_17, bodyRunA.sl.r_18, bodyRunA.sl.r_19, bodyRunA.sl.r_20, bodyRunA.sl.v104, bodyRunA.sl.v111, bodyRunA.sl.v152, bodyRunA.sl.v160, bodyRunA.sl.v170, bodyRunA.sl.v177, bodyRunA.sl.v192, bodyRunA.sl.v193, bodyRunA.sl.v195, bodyRunA.sl.v196, bodyRunA.sl.v197, bodyRunA.sl.v199, bodyRunA.sl.v204, bodyRunA.sl.v207, bodyRunA.sl.v210, bodyRunA.sl.v23, bodyRunA.sl.v4, bodyRunA.sl.v5, bodyRunA.sl.v86, bodyRunA.sl.H13_1, bodyRunA.sl.H13_2, bodyRunA.sl.H14_1, View.readCov, t2, pb_k0_t2, List.nil_append]
  simp only [readAt_full_512, readAt_full_row]
  simp only [readAt_win, harg3.read_unread, harg4.read_unread, harg5.read_unread, harg6.read_unread, harg7.read_unread, harg8.read_unread, harg9.read_unread]
  rw [View.writes_append]
  refine (congrArg (fun z => arg13.view.read (Elt F) (arg13.view.writes (Elt F) z _)) (base_13 harg13 f _ _ _ _ _ _ _ _ _ _)).trans ?_
  beta_reduce
  simp only [View.writes_append]
  refine (loop_read (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ X (harg3.read_unread _) (harg6.read_unread _) (harg7.read_unread _) (harg8.read_unread _) (harg9.read_unread _) _ _ _ _ _ (diag i X ⟨k0_pay60, k0_pay59, k0_pay61, k0_pay62, k0_pay63⟩) ?_ ?_ ?_ ?_ ?_ _ le_rfl).1 <;>
    (try simp only [read_full_512, readAt_full_512]
     try simp only [readAt_win, harg3.read_unread, harg4.read_unread, harg5.read_unread, harg6.read_unread, harg7.read_unread, harg8.read_unread, harg9.read_unread]
     try simp only [read_full_2048, read_full_row, read_full_col]
     try simp only [read_put, read_full_2048, read_full_row, read_full_col, writes_none, harg3.read_unread, harg4.read_unread, harg5.read_unread, harg6.read_unread, harg7.read_unread, harg8.read_unread, harg9.read_unread]
     try simp only [put_full_row, put_full_col, put_full_dq]
     unfold diag diag0 diag1 diagDq0
     dsimp only

     try unfold row0 row1 putRow0 putRow1
     try unfold col_d0 col_d1 putCol_d0 putCol_d1
     try unfold kScaled
     try unfold rowIota colIota
     first | done | with_reducible rfl | (erw [put_full_row]) | (erw [put_full_col]) | (erw [put_full_dq]) | rfl)

/-- Buffer 14 at the end of a grid point. -/
theorem bodyA_14 (c : Dev nD) (i : grid0.Coords) (arg3 : Memref sig .tc .vmem S2048x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S1x2048x2 .f32) (harg8 : arg8.IsWhole) (arg9 : Memref sig .tc .vmem S1x1x2x2048 .f32) (harg9 : arg9.IsWhole) (arg10 : Memref sig .tc .hbm S8192x5376 .bf16) (harg10 : arg10.IsWhole) (arg11 : Memref sig .tc .vmem S512x384 .bf16) (harg11 : arg11.IsWhole) (arg12 : Memref sig .tc .vmem S1x1x2x512 .f32) (harg12 : arg12.IsWhole) (arg13 : Memref sig .tc .vmem S1x2048x2 .f32) (harg13 : arg13.IsWhole) (arg14 : Memref sig .tc .vmem S2048x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S2x512 .f32) (harg17 : arg17.IsWhole) (hc0 : cond0_0 i) (X : Ins F) (f : BufTy.Contents (Elt F) arg14.view.ty) :
    arg14.view.read (Elt F) (arg14.view.writes (Elt F) f (bodyRunA (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X.x3 X.x4 X.x5 X.x6 X.x7 X.x8 X.x9).2.2.2.val) = (fin i X k0_pay60 k0_pay59).a14 := by
  unfold bodyRunA
  dsimp only
  have t2 := trips2 i
  unfold k0_t2_loop at t2
  dsimp only [Scf.Loop.trips] at t2
  simp only [bodyRunA.sl.H15_1, bodyRunA.sl.H15_2, bodyRunA.sl.H15_3, bodyRunA.sl.H16_1, bodyRunA.sl.H16_2, bodyRunA.sl.H16_3, bodyRunA.sl.H17_1, bodyRunA.sl.H17_2, bodyRunA.sl.H17_3, bodyRunA.sl.r, bodyRunA.sl.r_1, bodyRunA.sl.r_2, bodyRunA.sl.r_3, bodyRunA.sl.r_4, bodyRunA.sl.r_5, bodyRunA.sl.r_6, bodyRunA.sl.r_7, bodyRunA.sl.r_8, bodyRunA.sl.r_9, bodyRunA.sl.r_10, bodyRunA.sl.r_11, bodyRunA.sl.r_12, bodyRunA.sl.r_13, bodyRunA.sl.r_14, bodyRunA.sl.r_15, bodyRunA.sl.r_16, bodyRunA.sl.r_17, bodyRunA.sl.r_18, bodyRunA.sl.r_19, bodyRunA.sl.r_20, bodyRunA.sl.v104, bodyRunA.sl.v111, bodyRunA.sl.v152, bodyRunA.sl.v160, bodyRunA.sl.v170, bodyRunA.sl.v177, bodyRunA.sl.v192, bodyRunA.sl.v193, bodyRunA.sl.v195, bodyRunA.sl.v196, bodyRunA.sl.v197, bodyRunA.sl.v199, bodyRunA.sl.v204, bodyRunA.sl.v207, bodyRunA.sl.v210, bodyRunA.sl.v23, bodyRunA.sl.v4, bodyRunA.sl.v5, bodyRunA.sl.v86, bodyRunA.sl.H13_1, bodyRunA.sl.H13_2, bodyRunA.sl.H14_1, View.readCov, t2, pb_k0_t2, List.nil_append]
  simp only [readAt_full_512, readAt_full_row]
  simp only [readAt_win, harg3.read_unread, harg4.read_unread, harg5.read_unread, harg6.read_unread, harg7.read_unread, harg8.read_unread, harg9.read_unread]
  rw [View.writes_append]
  refine (congrArg (fun z => arg14.view.read (Elt F) (arg14.view.writes (Elt F) z _)) (base_14 harg14 f _ _ _ _ _ _)).trans ?_
  beta_reduce
  simp only [View.writes_append]
  refine (loop_read (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ X (harg3.read_unread _) (harg6.read_unread _) (harg7.read_unread _) (harg8.read_unread _) (harg9.read_unread _) _ _ _ _ _ (diag i X ⟨k0_pay60, k0_pay59, k0_pay61, k0_pay62, k0_pay63⟩) ?_ ?_ ?_ ?_ ?_ _ le_rfl).2.1 <;>
    (try simp only [read_full_512, readAt_full_512]
     try simp only [readAt_win, harg3.read_unread, harg4.read_unread, harg5.read_unread, harg6.read_unread, harg7.read_unread, harg8.read_unread, harg9.read_unread]
     try simp only [read_full_2048, read_full_row, read_full_col]
     try simp only [read_put, read_full_2048, read_full_row, read_full_col, writes_none, harg3.read_unread, harg4.read_unread, harg5.read_unread, harg6.read_unread, harg7.read_unread, harg8.read_unread, harg9.read_unread]
     try simp only [put_full_row, put_full_col, put_full_dq]
     unfold diag diag0 diag1 diagDq0
     dsimp only

     try unfold row0 row1 putRow0 putRow1
     try unfold col_d0 col_d1 putCol_d0 putCol_d1
     try unfold kScaled
     try unfold rowIota colIota
     first | done | with_reducible rfl | (erw [put_full_row]) | (erw [put_full_col]) | (erw [put_full_dq]) | rfl)

/-- The key bias written out. -/
theorem bodyA_12 (c : Dev nD) (i : grid0.Coords) (arg3 : Memref sig .tc .vmem S2048x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S1x2048x2 .f32) (harg8 : arg8.IsWhole) (arg9 : Memref sig .tc .vmem S1x1x2x2048 .f32) (harg9 : arg9.IsWhole) (arg10 : Memref sig .tc .hbm S8192x5376 .bf16) (harg10 : arg10.IsWhole) (arg11 : Memref sig .tc .vmem S512x384 .bf16) (harg11 : arg11.IsWhole) (arg12 : Memref sig .tc .vmem S1x1x2x512 .f32) (harg12 : arg12.IsWhole) (arg13 : Memref sig .tc .vmem S1x2048x2 .f32) (harg13 : arg13.IsWhole) (arg14 : Memref sig .tc .vmem S2048x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S2x512 .f32) (harg17 : arg17.IsWhole) (hc0 : cond0_0 i) (X : Ins F) (f : BufTy.Contents (Elt F) arg12.view.ty) :
    arg12.view.read (Elt F) (arg12.view.writes (Elt F) f (bodyRunA (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X.x3 X.x4 X.x5 X.x6 X.x7 X.x8 X.x9).2.1) = k0_pay14 (fin i X k0_pay60 k0_pay59).a17 := by
  unfold bodyRunA
  refine (View.read_writes_full _ _ _ _ _).trans (congrArg k0_pay14 ?_)
  have t2 := trips2 i
  unfold k0_t2_loop at t2
  dsimp only [Scf.Loop.trips] at t2
  simp only [bodyRunA.sl.H15_1, bodyRunA.sl.H15_2, bodyRunA.sl.H15_3, bodyRunA.sl.H16_1, bodyRunA.sl.H16_2, bodyRunA.sl.H16_3, bodyRunA.sl.H17_1, bodyRunA.sl.H17_2, bodyRunA.sl.H17_3, bodyRunA.sl.r, bodyRunA.sl.r_1, bodyRunA.sl.r_2, bodyRunA.sl.r_3, bodyRunA.sl.r_4, bodyRunA.sl.r_5, bodyRunA.sl.r_6, bodyRunA.sl.r_7, bodyRunA.sl.r_8, bodyRunA.sl.r_9, bodyRunA.sl.r_10, bodyRunA.sl.r_11, bodyRunA.sl.r_12, bodyRunA.sl.r_13, bodyRunA.sl.r_14, bodyRunA.sl.r_15, bodyRunA.sl.r_16, bodyRunA.sl.r_17, bodyRunA.sl.r_18, bodyRunA.sl.r_19, bodyRunA.sl.r_20, bodyRunA.sl.v104, bodyRunA.sl.v111, bodyRunA.sl.v152, bodyRunA.sl.v160, bodyRunA.sl.v170, bodyRunA.sl.v177, bodyRunA.sl.v192, bodyRunA.sl.v193, bodyRunA.sl.v195, bodyRunA.sl.v196, bodyRunA.sl.v197, bodyRunA.sl.v199, bodyRunA.sl.v204, bodyRunA.sl.v207, bodyRunA.sl.v210, bodyRunA.sl.v23, bodyRunA.sl.v4, bodyRunA.sl.v5, bodyRunA.sl.v86, bodyRunA.sl.H13_1, bodyRunA.sl.H13_2, bodyRunA.sl.H14_1, View.readCov, t2, pb_k0_t2, List.nil_append]
  simp only [readAt_full_512, readAt_full_row]
  simp only [readAt_win, harg3.read_unread, harg4.read_unread, harg5.read_unread, harg6.read_unread, harg7.read_unread, harg8.read_unread, harg9.read_unread]
  simp only [View.writes_append]
  refine (loop_read (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ X (harg3.read_unread _) (harg6.read_unread _) (harg7.read_unread _) (harg8.read_unread _) (harg9.read_unread _) _ _ _ _ _ (diag i X ⟨k0_pay60, k0_pay59, k0_pay61, k0_pay62, k0_pay63⟩) ?_ ?_ ?_ ?_ ?_ _ le_rfl).2.2.2.2 <;>
    (try simp only [read_full_512, readAt_full_512]
     try simp only [readAt_win, harg3.read_unread, harg4.read_unread, harg5.read_unread, harg6.read_unread, harg7.read_unread, harg8.read_unread, harg9.read_unread]
     try simp only [read_full_2048, read_full_row, read_full_col]
     try simp only [read_put, read_full_2048, read_full_row, read_full_col, writes_none, harg3.read_unread, harg4.read_unread, harg5.read_unread, harg6.read_unread, harg7.read_unread, harg8.read_unread, harg9.read_unread]
     try simp only [put_full_row, put_full_col, put_full_dq]
     unfold diag diag0 diag1 diagDq0
     dsimp only

     try unfold row0 row1 putRow0 putRow1
     try unfold col_d0 col_d1 putCol_d0 putCol_d1
     try unfold kScaled
     try unfold rowIota colIota
     first | done | with_reducible rfl | (erw [put_full_row]) | (erw [put_full_col]) | (erw [put_full_dq]) | rfl)

/-- The block of dq, dk and dv written out. -/
theorem bodyA_11 (c : Dev nD) (i : grid0.Coords) (arg3 : Memref sig .tc .vmem S2048x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S1x2048x2 .f32) (harg8 : arg8.IsWhole) (arg9 : Memref sig .tc .vmem S1x1x2x2048 .f32) (harg9 : arg9.IsWhole) (arg10 : Memref sig .tc .hbm S8192x5376 .bf16) (harg10 : arg10.IsWhole) (arg11 : Memref sig .tc .vmem S512x384 .bf16) (harg11 : arg11.IsWhole) (arg12 : Memref sig .tc .vmem S1x1x2x512 .f32) (harg12 : arg12.IsWhole) (arg13 : Memref sig .tc .vmem S1x2048x2 .f32) (harg13 : arg13.IsWhole) (arg14 : Memref sig .tc .vmem S2048x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S2x512 .f32) (harg17 : arg17.IsWhole) (hc0 : cond0_0 i) (X : Ins F) (f : BufTy.Contents (Elt F) arg11.view.ty) :
    arg11.view.read (Elt F) (arg11.view.writes (Elt F) f (bodyRunA (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X.x3 X.x4 X.x5 X.x6 X.x7 X.x8 X.x9).1) = out11 i (fin i X k0_pay60 k0_pay59) := by
  unfold bodyRunA
  refine (read_three _ _ _ _ _ _ _ _).trans (out11_of i _ ?_ ?_ ?_)
  · refine congrArg k0_pay11 ?_
    have t2 := trips2 i
    unfold k0_t2_loop at t2
    dsimp only [Scf.Loop.trips] at t2
    simp only [bodyRunA.sl.H15_1, bodyRunA.sl.H15_2, bodyRunA.sl.H15_3, bodyRunA.sl.H16_1, bodyRunA.sl.H16_2, bodyRunA.sl.H16_3, bodyRunA.sl.H17_1, bodyRunA.sl.H17_2, bodyRunA.sl.H17_3, bodyRunA.sl.r, bodyRunA.sl.r_1, bodyRunA.sl.r_2, bodyRunA.sl.r_3, bodyRunA.sl.r_4, bodyRunA.sl.r_5, bodyRunA.sl.r_6, bodyRunA.sl.r_7, bodyRunA.sl.r_8, bodyRunA.sl.r_9, bodyRunA.sl.r_10, bodyRunA.sl.r_11, bodyRunA.sl.r_12, bodyRunA.sl.r_13, bodyRunA.sl.r_14, bodyRunA.sl.r_15, bodyRunA.sl.r_16, bodyRunA.sl.r_17, bodyRunA.sl.r_18, bodyRunA.sl.r_19, bodyRunA.sl.r_20, bodyRunA.sl.v104, bodyRunA.sl.v111, bodyRunA.sl.v152, bodyRunA.sl.v160, bodyRunA.sl.v170, bodyRunA.sl.v177, bodyRunA.sl.v192, bodyRunA.sl.v193, bodyRunA.sl.v195, bodyRunA.sl.v196, bodyRunA.sl.v197, bodyRunA.sl.v199, bodyRunA.sl.v204, bodyRunA.sl.v207, bodyRunA.sl.v210, bodyRunA.sl.v23, bodyRunA.sl.v4, bodyRunA.sl.v5, bodyRunA.sl.v86, bodyRunA.sl.H13_1, bodyRunA.sl.H13_2, bodyRunA.sl.H14_1, View.readCov, t2, pb_k0_t2, List.nil_append]
    simp only [readAt_full_512, readAt_full_row]
    simp only [readAt_win, harg3.read_unread, harg4.read_unread, harg5.read_unread, harg6.read_unread, harg7.read_unread, harg8.read_unread, harg9.read_unread]
    refine congrArg (fun z => VecWindow.window (s := S2048x128) z (k0_off1 i) S512x128.size (k0_off1_inb i)) ?_
    simp only [View.writes_append]
    refine (loop_read (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ X (harg3.read_unread _) (harg6.read_unread _) (harg7.read_unread _) (harg8.read_unread _) (harg9.read_unread _) _ _ _ _ _ (diag i X ⟨k0_pay60, k0_pay59, k0_pay61, k0_pay62, k0_pay63⟩) ?_ ?_ ?_ ?_ ?_ _ le_rfl).2.1 <;>
      (try simp only [read_full_512, readAt_full_512]
       try simp only [readAt_win, harg3.read_unread, harg4.read_unread, harg5.read_unread, harg6.read_unread, harg7.read_unread, harg8.read_unread, harg9.read_unread]
       try simp only [read_full_2048, read_full_row, read_full_col]
       try simp only [read_put, read_full_2048, read_full_row, read_full_col, writes_none, harg3.read_unread, harg4.read_unread, harg5.read_unread, harg6.read_unread, harg7.read_unread, harg8.read_unread, harg9.read_unread]
       try simp only [put_full_row, put_full_col, put_full_dq]
       unfold diag diag0 diag1 diagDq0
       dsimp only

       try unfold row0 row1 putRow0 putRow1
       try unfold col_d0 col_d1 putCol_d0 putCol_d1
       try unfold kScaled
       try unfold rowIota colIota
       first | done | with_reducible rfl | (erw [put_full_row]) | (erw [put_full_col]) | (erw [put_full_dq]) | rfl)
  · refine congrArg k0_pay12 ?_
    have t2 := trips2 i
    unfold k0_t2_loop at t2
    dsimp only [Scf.Loop.trips] at t2
    simp only [bodyRunA.sl.H15_1, bodyRunA.sl.H15_2, bodyRunA.sl.H15_3, bodyRunA.sl.H16_1, bodyRunA.sl.H16_2, bodyRunA.sl.H16_3, bodyRunA.sl.H17_1, bodyRunA.sl.H17_2, bodyRunA.sl.H17_3, bodyRunA.sl.r, bodyRunA.sl.r_1, bodyRunA.sl.r_2, bodyRunA.sl.r_3, bodyRunA.sl.r_4, bodyRunA.sl.r_5, bodyRunA.sl.r_6, bodyRunA.sl.r_7, bodyRunA.sl.r_8, bodyRunA.sl.r_9, bodyRunA.sl.r_10, bodyRunA.sl.r_11, bodyRunA.sl.r_12, bodyRunA.sl.r_13, bodyRunA.sl.r_14, bodyRunA.sl.r_15, bodyRunA.sl.r_16, bodyRunA.sl.r_17, bodyRunA.sl.r_18, bodyRunA.sl.r_19, bodyRunA.sl.r_20, bodyRunA.sl.v104, bodyRunA.sl.v111, bodyRunA.sl.v152, bodyRunA.sl.v160, bodyRunA.sl.v170, bodyRunA.sl.v177, bodyRunA.sl.v192, bodyRunA.sl.v193, bodyRunA.sl.v195, bodyRunA.sl.v196, bodyRunA.sl.v197, bodyRunA.sl.v199, bodyRunA.sl.v204, bodyRunA.sl.v207, bodyRunA.sl.v210, bodyRunA.sl.v23, bodyRunA.sl.v4, bodyRunA.sl.v5, bodyRunA.sl.v86, bodyRunA.sl.H13_1, bodyRunA.sl.H13_2, bodyRunA.sl.H14_1, View.readCov, t2, pb_k0_t2, List.nil_append]
    simp only [readAt_full_512, readAt_full_row]
    simp only [readAt_win, harg3.read_unread, harg4.read_unread, harg5.read_unread, harg6.read_unread, harg7.read_unread, harg8.read_unread, harg9.read_unread]
    simp only [View.writes_append]
    refine (loop_read (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ X (harg3.read_unread _) (harg6.read_unread _) (harg7.read_unread _) (harg8.read_unread _) (harg9.read_unread _) _ _ _ _ _ (diag i X ⟨k0_pay60, k0_pay59, k0_pay61, k0_pay62, k0_pay63⟩) ?_ ?_ ?_ ?_ ?_ _ le_rfl).2.2.1 <;>
      (try simp only [read_full_512, readAt_full_512]
       try simp only [readAt_win, harg3.read_unread, harg4.read_unread, harg5.read_unread, harg6.read_unread, harg7.read_unread, harg8.read_unread, harg9.read_unread]
       try simp only [read_full_2048, read_full_row, read_full_col]
       try simp only [read_put, read_full_2048, read_full_row, read_full_col, writes_none, harg3.read_unread, harg4.read_unread, harg5.read_unread, harg6.read_unread, harg7.read_unread, harg8.read_unread, harg9.read_unread]
       try simp only [put_full_row, put_full_col, put_full_dq]
       unfold diag diag0 diag1 diagDq0
       dsimp only

       try unfold row0 row1 putRow0 putRow1
       try unfold col_d0 col_d1 putCol_d0 putCol_d1
       try unfold kScaled
       try unfold rowIota colIota
       first | done | with_reducible rfl | (erw [put_full_row]) | (erw [put_full_col]) | (erw [put_full_dq]) | rfl)
  · refine congrArg k0_pay13 ?_
    have t2 := trips2 i
    unfold k0_t2_loop at t2
    dsimp only [Scf.Loop.trips] at t2
    simp only [bodyRunA.sl.H15_1, bodyRunA.sl.H15_2, bodyRunA.sl.H15_3, bodyRunA.sl.H16_1, bodyRunA.sl.H16_2, bodyRunA.sl.H16_3, bodyRunA.sl.H17_1, bodyRunA.sl.H17_2, bodyRunA.sl.H17_3, bodyRunA.sl.r, bodyRunA.sl.r_1, bodyRunA.sl.r_2, bodyRunA.sl.r_3, bodyRunA.sl.r_4, bodyRunA.sl.r_5, bodyRunA.sl.r_6, bodyRunA.sl.r_7, bodyRunA.sl.r_8, bodyRunA.sl.r_9, bodyRunA.sl.r_10, bodyRunA.sl.r_11, bodyRunA.sl.r_12, bodyRunA.sl.r_13, bodyRunA.sl.r_14, bodyRunA.sl.r_15, bodyRunA.sl.r_16, bodyRunA.sl.r_17, bodyRunA.sl.r_18, bodyRunA.sl.r_19, bodyRunA.sl.r_20, bodyRunA.sl.v104, bodyRunA.sl.v111, bodyRunA.sl.v152, bodyRunA.sl.v160, bodyRunA.sl.v170, bodyRunA.sl.v177, bodyRunA.sl.v192, bodyRunA.sl.v193, bodyRunA.sl.v195, bodyRunA.sl.v196, bodyRunA.sl.v197, bodyRunA.sl.v199, bodyRunA.sl.v204, bodyRunA.sl.v207, bodyRunA.sl.v210, bodyRunA.sl.v23, bodyRunA.sl.v4, bodyRunA.sl.v5, bodyRunA.sl.v86, bodyRunA.sl.H13_1, bodyRunA.sl.H13_2, bodyRunA.sl.H14_1, View.readCov, t2, pb_k0_t2, List.nil_append]
    simp only [readAt_full_512, readAt_full_row]
    simp only [readAt_win, harg3.read_unread, harg4.read_unread, harg5.read_unread, harg6.read_unread, harg7.read_unread, harg8.read_unread, harg9.read_unread]
    simp only [View.writes_append]
    refine (loop_read (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ X (harg3.read_unread _) (harg6.read_unread _) (harg7.read_unread _) (harg8.read_unread _) (harg9.read_unread _) _ _ _ _ _ (diag i X ⟨k0_pay60, k0_pay59, k0_pay61, k0_pay62, k0_pay63⟩) ?_ ?_ ?_ ?_ ?_ _ le_rfl).2.2.2.1 <;>
      (try simp only [read_full_512, readAt_full_512]
       try simp only [readAt_win, harg3.read_unread, harg4.read_unread, harg5.read_unread, harg6.read_unread, harg7.read_unread, harg8.read_unread, harg9.read_unread]
       try simp only [read_full_2048, read_full_row, read_full_col]
       try simp only [read_put, read_full_2048, read_full_row, read_full_col, writes_none, harg3.read_unread, harg4.read_unread, harg5.read_unread, harg6.read_unread, harg7.read_unread, harg8.read_unread, harg9.read_unread]
       try simp only [put_full_row, put_full_col, put_full_dq]
       unfold diag diag0 diag1 diagDq0
       dsimp only

       try unfold row0 row1 putRow0 putRow1
       try unfold col_d0 col_d1 putCol_d0 putCol_d1
       try unfold kScaled
       try unfold rowIota colIota
       first | done | with_reducible rfl | (erw [put_full_row]) | (erw [put_full_col]) | (erw [put_full_dq]) | rfl)

end Cert.KernelIdeal
-- ==== Proof.BodyReadB.lean ====
module

public import proofs.«01_k».proof.Proof.Body
public import proofs.«01_k».proof.Proof.Cover

@[expose] public section

/-!
What a grid point at a later key block leaves in its buffers, read through the buffers: the functions of Model.
-/

set_option maxRecDepth 16384

noncomputable section

namespace Cert.KernelIdeal

open Idealize.ShloMosaic Idealize.ShloMosaic.TcCoe Idealize.ShloMosaic.Tactic
open Cert.KernelIdeal.Gen

variable {F : FTy → Type} [FloatOps F]

set_option maxHeartbeats 4000000

/-- Buffer 13 at the end of a grid point. -/
theorem bodyB_13 (c : Dev nD) (i : grid0.Coords) (arg3 : Memref sig .tc .vmem S2048x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S1x2048x2 .f32) (harg8 : arg8.IsWhole) (arg9 : Memref sig .tc .vmem S1x1x2x2048 .f32) (harg9 : arg9.IsWhole) (arg10 : Memref sig .tc .hbm S8192x5376 .bf16) (harg10 : arg10.IsWhole) (arg11 : Memref sig .tc .vmem S512x384 .bf16) (harg11 : arg11.IsWhole) (arg12 : Memref sig .tc .vmem S1x1x2x512 .f32) (harg12 : arg12.IsWhole) (arg13 : Memref sig .tc .vmem S1x2048x2 .f32) (harg13 : arg13.IsWhole) (arg14 : Memref sig .tc .vmem S2048x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S2x512 .f32) (harg17 : arg17.IsWhole) (hc0 : ¬cond0_0 i) (X : Ins F) (y13 : Vec F S1x2048x2 .f32) (y14 : Vec F S2048x128 .f32) :
    arg13.view.read (Elt F) (arg13.view.writes (Elt F) (harg13.unread y13) (bodyRunB (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X.x3 X.x4 X.x5 X.x6 X.x7 X.x8 X.x9 y13 y14).2.2.1) = (fin i X y13 y14).a13 := by
  unfold bodyRunB
  dsimp only
  have t2 := trips2 i
  unfold k0_t2_loop at t2
  dsimp only [Scf.Loop.trips] at t2
  simp only [bodyRunB.sl.H15_1, bodyRunB.sl.H15_2, bodyRunB.sl.H15_3, bodyRunB.sl.H16_1, bodyRunB.sl.H16_2, bodyRunB.sl.H16_3, bodyRunB.sl.H17_1, bodyRunB.sl.H17_2, bodyRunB.sl.H17_3, bodyRunB.sl.r, bodyRunB.sl.r_1, bodyRunB.sl.r_2, bodyRunB.sl.r_3, bodyRunB.sl.r_4, bodyRunB.sl.r_5, bodyRunB.sl.r_6, bodyRunB.sl.r_7, bodyRunB.sl.r_8, bodyRunB.sl.r_9, bodyRunB.sl.r_10, bodyRunB.sl.r_11, bodyRunB.sl.r_12, bodyRunB.sl.r_13, bodyRunB.sl.r_14, bodyRunB.sl.r_15, bodyRunB.sl.r_16, bodyRunB.sl.r_17, bodyRunB.sl.r_18, bodyRunB.sl.r_19, bodyRunB.sl.r_20, bodyRunB.sl.v104, bodyRunB.sl.v111, bodyRunB.sl.v152, bodyRunB.sl.v160, bodyRunB.sl.v170, bodyRunB.sl.v177, bodyRunB.sl.v192, bodyRunB.sl.v193, bodyRunB.sl.v195, bodyRunB.sl.v196, bodyRunB.sl.v197, bodyRunB.sl.v199, bodyRunB.sl.v204, bodyRunB.sl.v207, bodyRunB.sl.v210, bodyRunB.sl.v23, bodyRunB.sl.v4, bodyRunB.sl.v5, bodyRunB.sl.v86, View.readCov, t2, pb_k0_t2, List.nil_append]
  simp only [readAt_full_512, readAt_full_row]
  simp only [readAt_win, harg3.read_unread, harg4.read_unread, harg5.read_unread, harg6.read_unread, harg7.read_unread, harg8.read_unread, harg9.read_unread, harg13.read_unread, harg14.read_unread]
  simp only [View.writes_append]
  refine (loop_read (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ X (harg3.read_unread _) (harg6.read_unread _) (harg7.read_unread _) (harg8.read_unread _) (harg9.read_unread _) _ _ _ _ _ (diag i X ⟨y13, y14, k0_pay61, k0_pay62, k0_pay63⟩) ?_ ?_ ?_ ?_ ?_ _ le_rfl).1 <;>
    (try simp only [read_full_512, readAt_full_512]
     try simp only [readAt_win, harg3.read_unread, harg4.read_unread, harg5.read_unread, harg6.read_unread, harg7.read_unread, harg8.read_unread, harg9.read_unread, harg13.read_unread, harg14.read_unread]
     try simp only [read_full_2048, read_full_row, read_full_col]
     try simp only [read_put, read_full_2048, read_full_row, read_full_col, writes_none, harg3.read_unread, harg4.read_unread, harg5.read_unread, harg6.read_unread, harg7.read_unread, harg8.read_unread, harg9.read_unread, harg13.read_unread, harg14.read_unread]
     try simp only [put_full_row, put_full_col, put_full_dq]
     unfold diag diag0 diag1 diagDq0
     dsimp only
     try simp only [col_d1_put]
     try unfold row0 row1 putRow0 putRow1
     try unfold col_d0 col_d1 putCol_d0 putCol_d1
     try unfold kScaled
     try unfold rowIota colIota
     first | done | with_reducible rfl | (erw [put_full_row]) | (erw [put_full_col]) | (erw [put_full_dq]) | rfl)

/-- Buffer 14 at the end of a grid point. -/
theorem bodyB_14 (c : Dev nD) (i : grid0.Coords) (arg3 : Memref sig .tc .vmem S2048x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S1x2048x2 .f32) (harg8 : arg8.IsWhole) (arg9 : Memref sig .tc .vmem S1x1x2x2048 .f32) (harg9 : arg9.IsWhole) (arg10 : Memref sig .tc .hbm S8192x5376 .bf16) (harg10 : arg10.IsWhole) (arg11 : Memref sig .tc .vmem S512x384 .bf16) (harg11 : arg11.IsWhole) (arg12 : Memref sig .tc .vmem S1x1x2x512 .f32) (harg12 : arg12.IsWhole) (arg13 : Memref sig .tc .vmem S1x2048x2 .f32) (harg13 : arg13.IsWhole) (arg14 : Memref sig .tc .vmem S2048x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S2x512 .f32) (harg17 : arg17.IsWhole) (hc0 : ¬cond0_0 i) (X : Ins F) (y13 : Vec F S1x2048x2 .f32) (y14 : Vec F S2048x128 .f32) :
    arg14.view.read (Elt F) (arg14.view.writes (Elt F) (harg14.unread y14) (bodyRunB (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X.x3 X.x4 X.x5 X.x6 X.x7 X.x8 X.x9 y13 y14).2.2.2.val) = (fin i X y13 y14).a14 := by
  unfold bodyRunB
  dsimp only
  have t2 := trips2 i
  unfold k0_t2_loop at t2
  dsimp only [Scf.Loop.trips] at t2
  simp only [bodyRunB.sl.H15_1, bodyRunB.sl.H15_2, bodyRunB.sl.H15_3, bodyRunB.sl.H16_1, bodyRunB.sl.H16_2, bodyRunB.sl.H16_3, bodyRunB.sl.H17_1, bodyRunB.sl.H17_2, bodyRunB.sl.H17_3, bodyRunB.sl.r, bodyRunB.sl.r_1, bodyRunB.sl.r_2, bodyRunB.sl.r_3, bodyRunB.sl.r_4, bodyRunB.sl.r_5, bodyRunB.sl.r_6, bodyRunB.sl.r_7, bodyRunB.sl.r_8, bodyRunB.sl.r_9, bodyRunB.sl.r_10, bodyRunB.sl.r_11, bodyRunB.sl.r_12, bodyRunB.sl.r_13, bodyRunB.sl.r_14, bodyRunB.sl.r_15, bodyRunB.sl.r_16, bodyRunB.sl.r_17, bodyRunB.sl.r_18, bodyRunB.sl.r_19, bodyRunB.sl.r_20, bodyRunB.sl.v104, bodyRunB.sl.v111, bodyRunB.sl.v152, bodyRunB.sl.v160, bodyRunB.sl.v170, bodyRunB.sl.v177, bodyRunB.sl.v192, bodyRunB.sl.v193, bodyRunB.sl.v195, bodyRunB.sl.v196, bodyRunB.sl.v197, bodyRunB.sl.v199, bodyRunB.sl.v204, bodyRunB.sl.v207, bodyRunB.sl.v210, bodyRunB.sl.v23, bodyRunB.sl.v4, bodyRunB.sl.v5, bodyRunB.sl.v86, View.readCov, t2, pb_k0_t2, List.nil_append]
  simp only [readAt_full_512, readAt_full_row]
  simp only [readAt_win, harg3.read_unread, harg4.read_unread, harg5.read_unread, harg6.read_unread, harg7.read_unread, harg8.read_unread, harg9.read_unread, harg13.read_unread, harg14.read_unread]
  simp only [View.writes_append]
  refine (loop_read (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ X (harg3.read_unread _) (harg6.read_unread _) (harg7.read_unread _) (harg8.read_unread _) (harg9.read_unread _) _ _ _ _ _ (diag i X ⟨y13, y14, k0_pay61, k0_pay62, k0_pay63⟩) ?_ ?_ ?_ ?_ ?_ _ le_rfl).2.1 <;>
    (try simp only [read_full_512, readAt_full_512]
     try simp only [readAt_win, harg3.read_unread, harg4.read_unread, harg5.read_unread, harg6.read_unread, harg7.read_unread, harg8.read_unread, harg9.read_unread, harg13.read_unread, harg14.read_unread]
     try simp only [read_full_2048, read_full_row, read_full_col]
     try simp only [read_put, read_full_2048, read_full_row, read_full_col, writes_none, harg3.read_unread, harg4.read_unread, harg5.read_unread, harg6.read_unread, harg7.read_unread, harg8.read_unread, harg9.read_unread, harg13.read_unread, harg14.read_unread]
     try simp only [put_full_row, put_full_col, put_full_dq]
     unfold diag diag0 diag1 diagDq0
     dsimp only
     try simp only [col_d1_put]
     try unfold row0 row1 putRow0 putRow1
     try unfold col_d0 col_d1 putCol_d0 putCol_d1
     try unfold kScaled
     try unfold rowIota colIota
     first | done | with_reducible rfl | (erw [put_full_row]) | (erw [put_full_col]) | (erw [put_full_dq]) | rfl)

/-- The key bias written out. -/
theorem bodyB_12 (c : Dev nD) (i : grid0.Coords) (arg3 : Memref sig .tc .vmem S2048x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S1x2048x2 .f32) (harg8 : arg8.IsWhole) (arg9 : Memref sig .tc .vmem S1x1x2x2048 .f32) (harg9 : arg9.IsWhole) (arg10 : Memref sig .tc .hbm S8192x5376 .bf16) (harg10 : arg10.IsWhole) (arg11 : Memref sig .tc .vmem S512x384 .bf16) (harg11 : arg11.IsWhole) (arg12 : Memref sig .tc .vmem S1x1x2x512 .f32) (harg12 : arg12.IsWhole) (arg13 : Memref sig .tc .vmem S1x2048x2 .f32) (harg13 : arg13.IsWhole) (arg14 : Memref sig .tc .vmem S2048x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S2x512 .f32) (harg17 : arg17.IsWhole) (hc0 : ¬cond0_0 i) (X : Ins F) (y13 : Vec F S1x2048x2 .f32) (y14 : Vec F S2048x128 .f32) (f : BufTy.Contents (Elt F) arg12.view.ty) :
    arg12.view.read (Elt F) (arg12.view.writes (Elt F) f (bodyRunB (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X.x3 X.x4 X.x5 X.x6 X.x7 X.x8 X.x9 y13 y14).2.1) = k0_pay14 (fin i X y13 y14).a17 := by
  unfold bodyRunB
  refine (View.read_writes_full _ _ _ _ _).trans (congrArg k0_pay14 ?_)
  have t2 := trips2 i
  unfold k0_t2_loop at t2
  dsimp only [Scf.Loop.trips] at t2
  simp only [bodyRunB.sl.H15_1, bodyRunB.sl.H15_2, bodyRunB.sl.H15_3, bodyRunB.sl.H16_1, bodyRunB.sl.H16_2, bodyRunB.sl.H16_3, bodyRunB.sl.H17_1, bodyRunB.sl.H17_2, bodyRunB.sl.H17_3, bodyRunB.sl.r, bodyRunB.sl.r_1, bodyRunB.sl.r_2, bodyRunB.sl.r_3, bodyRunB.sl.r_4, bodyRunB.sl.r_5, bodyRunB.sl.r_6, bodyRunB.sl.r_7, bodyRunB.sl.r_8, bodyRunB.sl.r_9, bodyRunB.sl.r_10, bodyRunB.sl.r_11, bodyRunB.sl.r_12, bodyRunB.sl.r_13, bodyRunB.sl.r_14, bodyRunB.sl.r_15, bodyRunB.sl.r_16, bodyRunB.sl.r_17, bodyRunB.sl.r_18, bodyRunB.sl.r_19, bodyRunB.sl.r_20, bodyRunB.sl.v104, bodyRunB.sl.v111, bodyRunB.sl.v152, bodyRunB.sl.v160, bodyRunB.sl.v170, bodyRunB.sl.v177, bodyRunB.sl.v192, bodyRunB.sl.v193, bodyRunB.sl.v195, bodyRunB.sl.v196, bodyRunB.sl.v197, bodyRunB.sl.v199, bodyRunB.sl.v204, bodyRunB.sl.v207, bodyRunB.sl.v210, bodyRunB.sl.v23, bodyRunB.sl.v4, bodyRunB.sl.v5, bodyRunB.sl.v86, View.readCov, t2, pb_k0_t2, List.nil_append]
  simp only [readAt_full_512, readAt_full_row]
  simp only [readAt_win, harg3.read_unread, harg4.read_unread, harg5.read_unread, harg6.read_unread, harg7.read_unread, harg8.read_unread, harg9.read_unread, harg13.read_unread, harg14.read_unread]
  simp only [View.writes_append]
  refine (loop_read (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ X (harg3.read_unread _) (harg6.read_unread _) (harg7.read_unread _) (harg8.read_unread _) (harg9.read_unread _) _ _ _ _ _ (diag i X ⟨y13, y14, k0_pay61, k0_pay62, k0_pay63⟩) ?_ ?_ ?_ ?_ ?_ _ le_rfl).2.2.2.2 <;>
    (try simp only [read_full_512, readAt_full_512]
     try simp only [readAt_win, harg3.read_unread, harg4.read_unread, harg5.read_unread, harg6.read_unread, harg7.read_unread, harg8.read_unread, harg9.read_unread, harg13.read_unread, harg14.read_unread]
     try simp only [read_full_2048, read_full_row, read_full_col]
     try simp only [read_put, read_full_2048, read_full_row, read_full_col, writes_none, harg3.read_unread, harg4.read_unread, harg5.read_unread, harg6.read_unread, harg7.read_unread, harg8.read_unread, harg9.read_unread, harg13.read_unread, harg14.read_unread]
     try simp only [put_full_row, put_full_col, put_full_dq]
     unfold diag diag0 diag1 diagDq0
     dsimp only
     try simp only [col_d1_put]
     try unfold row0 row1 putRow0 putRow1
     try unfold col_d0 col_d1 putCol_d0 putCol_d1
     try unfold kScaled
     try unfold rowIota colIota
     first | done | with_reducible rfl | (erw [put_full_row]) | (erw [put_full_col]) | (erw [put_full_dq]) | rfl)

/-- The block of dq, dk and dv written out. -/
theorem bodyB_11 (c : Dev nD) (i : grid0.Coords) (arg3 : Memref sig .tc .vmem S2048x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S1x2048x2 .f32) (harg8 : arg8.IsWhole) (arg9 : Memref sig .tc .vmem S1x1x2x2048 .f32) (harg9 : arg9.IsWhole) (arg10 : Memref sig .tc .hbm S8192x5376 .bf16) (harg10 : arg10.IsWhole) (arg11 : Memref sig .tc .vmem S512x384 .bf16) (harg11 : arg11.IsWhole) (arg12 : Memref sig .tc .vmem S1x1x2x512 .f32) (harg12 : arg12.IsWhole) (arg13 : Memref sig .tc .vmem S1x2048x2 .f32) (harg13 : arg13.IsWhole) (arg14 : Memref sig .tc .vmem S2048x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S2x512 .f32) (harg17 : arg17.IsWhole) (hc0 : ¬cond0_0 i) (X : Ins F) (y13 : Vec F S1x2048x2 .f32) (y14 : Vec F S2048x128 .f32) (f : BufTy.Contents (Elt F) arg11.view.ty) :
    arg11.view.read (Elt F) (arg11.view.writes (Elt F) f (bodyRunB (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X.x3 X.x4 X.x5 X.x6 X.x7 X.x8 X.x9 y13 y14).1) = out11 i (fin i X y13 y14) := by
  unfold bodyRunB
  refine (read_three _ _ _ _ _ _ _ _).trans (out11_of i _ ?_ ?_ ?_)
  · refine congrArg k0_pay11 ?_
    have t2 := trips2 i
    unfold k0_t2_loop at t2
    dsimp only [Scf.Loop.trips] at t2
    simp only [bodyRunB.sl.H15_1, bodyRunB.sl.H15_2, bodyRunB.sl.H15_3, bodyRunB.sl.H16_1, bodyRunB.sl.H16_2, bodyRunB.sl.H16_3, bodyRunB.sl.H17_1, bodyRunB.sl.H17_2, bodyRunB.sl.H17_3, bodyRunB.sl.r, bodyRunB.sl.r_1, bodyRunB.sl.r_2, bodyRunB.sl.r_3, bodyRunB.sl.r_4, bodyRunB.sl.r_5, bodyRunB.sl.r_6, bodyRunB.sl.r_7, bodyRunB.sl.r_8, bodyRunB.sl.r_9, bodyRunB.sl.r_10, bodyRunB.sl.r_11, bodyRunB.sl.r_12, bodyRunB.sl.r_13, bodyRunB.sl.r_14, bodyRunB.sl.r_15, bodyRunB.sl.r_16, bodyRunB.sl.r_17, bodyRunB.sl.r_18, bodyRunB.sl.r_19, bodyRunB.sl.r_20, bodyRunB.sl.v104, bodyRunB.sl.v111, bodyRunB.sl.v152, bodyRunB.sl.v160, bodyRunB.sl.v170, bodyRunB.sl.v177, bodyRunB.sl.v192, bodyRunB.sl.v193, bodyRunB.sl.v195, bodyRunB.sl.v196, bodyRunB.sl.v197, bodyRunB.sl.v199, bodyRunB.sl.v204, bodyRunB.sl.v207, bodyRunB.sl.v210, bodyRunB.sl.v23, bodyRunB.sl.v4, bodyRunB.sl.v5, bodyRunB.sl.v86, View.readCov, t2, pb_k0_t2, List.nil_append]
    simp only [readAt_full_512, readAt_full_row]
    simp only [readAt_win, harg3.read_unread, harg4.read_unread, harg5.read_unread, harg6.read_unread, harg7.read_unread, harg8.read_unread, harg9.read_unread, harg13.read_unread, harg14.read_unread]
    refine congrArg (fun z => VecWindow.window (s := S2048x128) z (k0_off1 i) S512x128.size (k0_off1_inb i)) ?_
    simp only [View.writes_append]
    refine (loop_read (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ X (harg3.read_unread _) (harg6.read_unread _) (harg7.read_unread _) (harg8.read_unread _) (harg9.read_unread _) _ _ _ _ _ (diag i X ⟨y13, y14, k0_pay61, k0_pay62, k0_pay63⟩) ?_ ?_ ?_ ?_ ?_ _ le_rfl).2.1 <;>
      (try simp only [read_full_512, readAt_full_512]
       try simp only [readAt_win, harg3.read_unread, harg4.read_unread, harg5.read_unread, harg6.read_unread, harg7.read_unread, harg8.read_unread, harg9.read_unread, harg13.read_unread, harg14.read_unread]
       try simp only [read_full_2048, read_full_row, read_full_col]
       try simp only [read_put, read_full_2048, read_full_row, read_full_col, writes_none, harg3.read_unread, harg4.read_unread, harg5.read_unread, harg6.read_unread, harg7.read_unread, harg8.read_unread, harg9.read_unread, harg13.read_unread, harg14.read_unread]
       try simp only [put_full_row, put_full_col, put_full_dq]
       unfold diag diag0 diag1 diagDq0
       dsimp only
       try simp only [col_d1_put]
       try unfold row0 row1 putRow0 putRow1
       try unfold col_d0 col_d1 putCol_d0 putCol_d1
       try unfold kScaled
       try unfold rowIota colIota
       first | done | with_reducible rfl | (erw [put_full_row]) | (erw [put_full_col]) | (erw [put_full_dq]) | rfl)
  · refine congrArg k0_pay12 ?_
    have t2 := trips2 i
    unfold k0_t2_loop at t2
    dsimp only [Scf.Loop.trips] at t2
    simp only [bodyRunB.sl.H15_1, bodyRunB.sl.H15_2, bodyRunB.sl.H15_3, bodyRunB.sl.H16_1, bodyRunB.sl.H16_2, bodyRunB.sl.H16_3, bodyRunB.sl.H17_1, bodyRunB.sl.H17_2, bodyRunB.sl.H17_3, bodyRunB.sl.r, bodyRunB.sl.r_1, bodyRunB.sl.r_2, bodyRunB.sl.r_3, bodyRunB.sl.r_4, bodyRunB.sl.r_5, bodyRunB.sl.r_6, bodyRunB.sl.r_7, bodyRunB.sl.r_8, bodyRunB.sl.r_9, bodyRunB.sl.r_10, bodyRunB.sl.r_11, bodyRunB.sl.r_12, bodyRunB.sl.r_13, bodyRunB.sl.r_14, bodyRunB.sl.r_15, bodyRunB.sl.r_16, bodyRunB.sl.r_17, bodyRunB.sl.r_18, bodyRunB.sl.r_19, bodyRunB.sl.r_20, bodyRunB.sl.v104, bodyRunB.sl.v111, bodyRunB.sl.v152, bodyRunB.sl.v160, bodyRunB.sl.v170, bodyRunB.sl.v177, bodyRunB.sl.v192, bodyRunB.sl.v193, bodyRunB.sl.v195, bodyRunB.sl.v196, bodyRunB.sl.v197, bodyRunB.sl.v199, bodyRunB.sl.v204, bodyRunB.sl.v207, bodyRunB.sl.v210, bodyRunB.sl.v23, bodyRunB.sl.v4, bodyRunB.sl.v5, bodyRunB.sl.v86, View.readCov, t2, pb_k0_t2, List.nil_append]
    simp only [readAt_full_512, readAt_full_row]
    simp only [readAt_win, harg3.read_unread, harg4.read_unread, harg5.read_unread, harg6.read_unread, harg7.read_unread, harg8.read_unread, harg9.read_unread, harg13.read_unread, harg14.read_unread]
    simp only [View.writes_append]
    refine (loop_read (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ X (harg3.read_unread _) (harg6.read_unread _) (harg7.read_unread _) (harg8.read_unread _) (harg9.read_unread _) _ _ _ _ _ (diag i X ⟨y13, y14, k0_pay61, k0_pay62, k0_pay63⟩) ?_ ?_ ?_ ?_ ?_ _ le_rfl).2.2.1 <;>
      (try simp only [read_full_512, readAt_full_512]
       try simp only [readAt_win, harg3.read_unread, harg4.read_unread, harg5.read_unread, harg6.read_unread, harg7.read_unread, harg8.read_unread, harg9.read_unread, harg13.read_unread, harg14.read_unread]
       try simp only [read_full_2048, read_full_row, read_full_col]
       try simp only [read_put, read_full_2048, read_full_row, read_full_col, writes_none, harg3.read_unread, harg4.read_unread, harg5.read_unread, harg6.read_unread, harg7.read_unread, harg8.read_unread, harg9.read_unread, harg13.read_unread, harg14.read_unread]
       try simp only [put_full_row, put_full_col, put_full_dq]
       unfold diag diag0 diag1 diagDq0
       dsimp only
       try simp only [col_d1_put]
       try unfold row0 row1 putRow0 putRow1
       try unfold col_d0 col_d1 putCol_d0 putCol_d1
       try unfold kScaled
       try unfold rowIota colIota
       first | done | with_reducible rfl | (erw [put_full_row]) | (erw [put_full_col]) | (erw [put_full_dq]) | rfl)
  · refine congrArg k0_pay13 ?_
    have t2 := trips2 i
    unfold k0_t2_loop at t2
    dsimp only [Scf.Loop.trips] at t2
    simp only [bodyRunB.sl.H15_1, bodyRunB.sl.H15_2, bodyRunB.sl.H15_3, bodyRunB.sl.H16_1, bodyRunB.sl.H16_2, bodyRunB.sl.H16_3, bodyRunB.sl.H17_1, bodyRunB.sl.H17_2, bodyRunB.sl.H17_3, bodyRunB.sl.r, bodyRunB.sl.r_1, bodyRunB.sl.r_2, bodyRunB.sl.r_3, bodyRunB.sl.r_4, bodyRunB.sl.r_5, bodyRunB.sl.r_6, bodyRunB.sl.r_7, bodyRunB.sl.r_8, bodyRunB.sl.r_9, bodyRunB.sl.r_10, bodyRunB.sl.r_11, bodyRunB.sl.r_12, bodyRunB.sl.r_13, bodyRunB.sl.r_14, bodyRunB.sl.r_15, bodyRunB.sl.r_16, bodyRunB.sl.r_17, bodyRunB.sl.r_18, bodyRunB.sl.r_19, bodyRunB.sl.r_20, bodyRunB.sl.v104, bodyRunB.sl.v111, bodyRunB.sl.v152, bodyRunB.sl.v160, bodyRunB.sl.v170, bodyRunB.sl.v177, bodyRunB.sl.v192, bodyRunB.sl.v193, bodyRunB.sl.v195, bodyRunB.sl.v196, bodyRunB.sl.v197, bodyRunB.sl.v199, bodyRunB.sl.v204, bodyRunB.sl.v207, bodyRunB.sl.v210, bodyRunB.sl.v23, bodyRunB.sl.v4, bodyRunB.sl.v5, bodyRunB.sl.v86, View.readCov, t2, pb_k0_t2, List.nil_append]
    simp only [readAt_full_512, readAt_full_row]
    simp only [readAt_win, harg3.read_unread, harg4.read_unread, harg5.read_unread, harg6.read_unread, harg7.read_unread, harg8.read_unread, harg9.read_unread, harg13.read_unread, harg14.read_unread]
    simp only [View.writes_append]
    refine (loop_read (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ X (harg3.read_unread _) (harg6.read_unread _) (harg7.read_unread _) (harg8.read_unread _) (harg9.read_unread _) _ _ _ _ _ (diag i X ⟨y13, y14, k0_pay61, k0_pay62, k0_pay63⟩) ?_ ?_ ?_ ?_ ?_ _ le_rfl).2.2.2.1 <;>
      (try simp only [read_full_512, readAt_full_512]
       try simp only [readAt_win, harg3.read_unread, harg4.read_unread, harg5.read_unread, harg6.read_unread, harg7.read_unread, harg8.read_unread, harg9.read_unread, harg13.read_unread, harg14.read_unread]
       try simp only [read_full_2048, read_full_row, read_full_col]
       try simp only [read_put, read_full_2048, read_full_row, read_full_col, writes_none, harg3.read_unread, harg4.read_unread, harg5.read_unread, harg6.read_unread, harg7.read_unread, harg8.read_unread, harg9.read_unread, harg13.read_unread, harg14.read_unread]
       try simp only [put_full_row, put_full_col, put_full_dq]
       unfold diag diag0 diag1 diagDq0
       dsimp only
       try simp only [col_d1_put]
       try unfold row0 row1 putRow0 putRow1
       try unfold col_d0 col_d1 putCol_d0 putCol_d1
       try unfold kScaled
       try unfold rowIota colIota
       first | done | with_reducible rfl | (erw [put_full_row]) | (erw [put_full_col]) | (erw [put_full_dq]) | rfl)

end Cert.KernelIdeal
-- ==== Proof.Run.lean ====
module

public import proofs.«01_k».proof.Proof.Data
public import proofs.«01_k».proof.Proof.BodyReadA
public import proofs.«01_k».proof.Proof.BodyReadB

@[expose] public section

/-!
The body at every point of the grid, and the run of the program.
-/

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The staging buffer of a window at a point. -/
abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)
abbrev ms0_6 (t : Fin cfg0.N) := win0_6.stage (cfg0.slots t 6)
abbrev ms0_7 (t : Fin cfg0.N) := win0_7.stage (cfg0.slots t 7)
abbrev ms0_8 (t : Fin cfg0.N) := win0_8.stage (cfg0.slots t 8)
abbrev ms0_9 (t : Fin cfg0.N) := win0_9.stage (cfg0.slots t 9)

/-- The first key block is met at every fourth point. -/
theorem hcond0_0 (t : Fin cfg0.N) : cond0_0 (grid0.coords t) ↔ t.val % 4 = 0 := by
  have ht : t.val < 64 := Nat.lt_of_lt_of_eq t.isLt N_0
  have e : (grid0.coords t 2).val = t.val / 1 % 4 := Pipeline.Grid.coords_val t 2 (by decide) rfl
  simp only [cond0_0, e]
  word_cmp

/-- What the body meets at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- What the body leaves at a point. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.castSucc = iprop(dqInv m c t.val t.isLt.le ∗ restInv c) from rfl,
    show (dats m 0 c).Φ t.succ = iprop(dqInv m c (t.val + 1) t.isLt ∗ restInv c) from rfl,
    show (dats m 0 c).owesAt () t.succ = (dats m 0 c).owesAt () t.castSucc from rfl,
    after0_0, after0_1, after0_2, after0_3, after0_4, after0_5, after0_6, after0_7, after0_8, after0_9]
  unfold restInv
  by_cases h0 : t.val % 4 = 0
  · rw [dqInv_zero m c _ _ h0, dqInv_pos m c _ _ (by omega), at_A m c t h0]
    iintro ⟨⟨HD, H15, H16, H17, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((bodyRunA c (grid0.coords t) _ _ _ _ _ _ _ _ _ _ _ _ _ _ _ _ _ _ _ _ _ _ _ _ _ _ _ _ _ _ ((hcond0_0 t).mpr h0) (ins m c t).x3 (ins m c t).x4 (ins m c t).x5 (ins m c t).x6 (ins m c t).x7 (ins m c t).x8 (ins m c t).x9).2.2.2.property Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HD]; · iexact HD
    isplitl [H15]; · iexact H15
    isplitl [H16]; · iexact H16
    isplitl [H17]; · iexact H17
    iintro ⟨H0, H1, H2, H3, H4, H5, H6, ⟨%e7, H7⟩, ⟨%e8, H8⟩, ⟨%e9, H9⟩, ⟨%e14, HD⟩, H15, H16, H17⟩
    isplitl [HD H15 H16 H17 Hg]
    · isplitl [HD]
      · unfold owns; iexists _; isplitr
        swap; · iexact HD
        ipureintro; exact bodyA_14 c (grid0.coords t) _ _ _ _ _ _ _ _ _ _ _ _ _ _ _ _ _ _ _ _ _ _ _ _ _ _ _ _ _ _ ((hcond0_0 t).mpr h0) (ins m c t) _
      isplitl [H15]; · iexact H15
      isplitl [H16]; · iexact H16
      isplitl [H17]; · iexact H17
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact bodyA_11 c (grid0.coords t) _ _ _ _ _ _ _ _ _ _ _ _ _ _ _ _ _ _ _ _ _ _ _ _ _ _ _ _ _ _ ((hcond0_0 t).mpr h0) (ins m c t) _
    isplitl [H8]
    · unfold owns; iexists _; isplitr
      swap; · iexact H8
      ipureintro; exact bodyA_12 c (grid0.coords t) _ _ _ _ _ _ _ _ _ _ _ _ _ _ _ _ _ _ _ _ _ _ _ _ _ _ _ _ _ _ ((hcond0_0 t).mpr h0) (ins m c t) _
    unfold owns; iexists _; isplitr
    swap; · iexact H9
    ipureintro; exact bodyA_13 c (grid0.coords t) _ _ _ _ _ _ _ _ _ _ _ _ _ _ _ _ _ _ _ _ _ _ _ _ _ _ _ _ _ _ ((hcond0_0 t).mpr h0) (ins m c t) _
  · rw [dqInv_pred m c t h0]
    simp only [before0_9_B m c t h0]
    conv =>
      rhs
      rw [at_B m c t h0]
    iintro ⟨⟨HD, H15, H16, H17, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((bodyRunB c (grid0.coords t) _ _ _ _ _ _ _ _ _ _ _ _ _ _ _ _ _ _ _ _ _ _ _ _ _ _ _ _ _ _ (fun h => h0 ((hcond0_0 t).mp h)) (ins m c t).x3 (ins m c t).x4 (ins m c t).x5 (ins m c t).x6 (ins m c t).x7 (ins m c t).x8 (ins m c t).x9 (at_ m c (t.val - 1) (Nat.lt_of_le_of_lt (Nat.sub_le _ _) t.isLt)).a13 (at_ m c (t.val - 1) (Nat.lt_of_le_of_lt (Nat.sub_le _ _) t.isLt)).a14).2.2.2.property Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexact H9
    isplitl [HD]; · iexact HD
    isplitl [H15]; · iexact H15
    isplitl [H16]; · iexact H16
    isplitl [H17]; · iexact H17
    iintro ⟨H0, H1, H2, H3, H4, H5, H6, ⟨%e7, H7⟩, ⟨%e8, H8⟩, H9, HD, H15, H16, H17⟩
    isplitl [HD H15 H16 H17 Hg]
    · isplitl [HD]
      · by_cases h1 : (t.val + 1) % 4 = 0
        · rw [dqInv_zero m c _ _ h1]; iexists _
          unfold owns; iexists _; isplitr
          swap; · iexact HD
          ipureintro; exact bodyB_14 c (grid0.coords t) _ _ _ _ _ _ _ _ _ _ _ _ _ _ _ _ _ _ _ _ _ _ _ _ _ _ _ _ _ _ (fun h => h0 ((hcond0_0 t).mp h)) (ins m c t) (at_ m c (t.val - 1) (Nat.lt_of_le_of_lt (Nat.sub_le _ _) t.isLt)).a13 (at_ m c (t.val - 1) (Nat.lt_of_le_of_lt (Nat.sub_le _ _) t.isLt)).a14
        · rw [dqInv_pos m c _ _ h1, at_B m c t h0]
          unfold owns; iexists _; isplitr
          swap; · iexact HD
          ipureintro; exact bodyB_14 c (grid0.coords t) _ _ _ _ _ _ _ _ _ _ _ _ _ _ _ _ _ _ _ _ _ _ _ _ _ _ _ _ _ _ (fun h => h0 ((hcond0_0 t).mp h)) (ins m c t) (at_ m c (t.val - 1) (Nat.lt_of_le_of_lt (Nat.sub_le _ _) t.isLt)).a13 (at_ m c (t.val - 1) (Nat.lt_of_le_of_lt (Nat.sub_le _ _) t.isLt)).a14
      isplitl [H15]; · iexact H15
      isplitl [H16]; · iexact H16
      isplitl [H17]; · iexact H17
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact bodyB_11 c (grid0.coords t) _ _ _ _ _ _ _ _ _ _ _ _ _ _ _ _ _ _ _ _ _ _ _ _ _ _ _ _ _ _ (fun h => h0 ((hcond0_0 t).mp h)) (ins m c t) (at_ m c (t.val - 1) (Nat.lt_of_le_of_lt (Nat.sub_le _ _) t.isLt)).a13 (at_ m c (t.val - 1) (Nat.lt_of_le_of_lt (Nat.sub_le _ _) t.isLt)).a14 _
    isplitl [H8]
    · unfold owns; iexists _; isplitr
      swap; · iexact H8
      ipureintro; exact bodyB_12 c (grid0.coords t) _ _ _ _ _ _ _ _ _ _ _ _ _ _ _ _ _ _ _ _ _ _ _ _ _ _ _ _ _ _ (fun h => h0 ((hcond0_0 t).mp h)) (ins m c t) (at_ m c (t.val - 1) (Nat.lt_of_le_of_lt (Nat.sub_le _ _) t.isLt)).a13 (at_ m c (t.val - 1) (Nat.lt_of_le_of_lt (Nat.sub_le _ _) t.isLt)).a14 _
    unfold owns; iexists _; isplitr
    swap; · iexact H9
    ipureintro; exact bodyB_13 c (grid0.coords t) _ _ _ _ _ _ _ _ _ _ _ _ _ _ _ _ _ _ _ _ _ _ _ _ _ _ _ _ _ _ (fun h => h0 ((hcond0_0 t).mp h)) (ins m c t) (at_ m c (t.val - 1) (Nat.lt_of_le_of_lt (Nat.sub_le _ _) t.isLt)).a13 (at_ m c (t.val - 1) (Nat.lt_of_le_of_lt (Nat.sub_le _ _) t.isLt)).a14

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- A whole buffer at some contents is owned at some contents, -/
theorem own_of_pts (c : Dev nD) (b : Ref sig .tc) :
    (iprop(∃ f : Buf (Elt F) ((c : Thread nD τ).loc b), ((c : Thread nD τ).loc b) ↦{fullShare} f) : sProp 𝕄)
      ⊢ iprop(∃ d, owns (c : Thread nD τ) (Memref.whole b) fullShare d) := by
  unfold owns; simp only [Memref.view_whole, View.read_whole, View.set_whole]
  iintro ⟨%f, H⟩; iexists f; iexists f; isplitr; · ipureintro; rfl
  iexact H

/-- and the other way round. -/
theorem pts_of_own (c : Dev nD) (b : Ref sig .tc) :
    (iprop(∃ d, owns (c : Thread nD τ) (Memref.whole b) fullShare d) : sProp 𝕄)
      ⊢ iprop(∃ f : Buf (Elt F) ((c : Thread nD τ).loc b), ((c : Thread nD τ).loc b) ↦{fullShare} f) := by
  unfold owns; simp only [Memref.view_whole, View.read_whole, View.set_whole]
  iintro ⟨%d, %f, -, H⟩; iexists f; iexact H

/-- The launch's scratch is the state before the first point. -/
theorem rest_in (c : Dev nD) : Pipeline.ΦA spec0 c ⊢ (dats m 0 c).Φ 0 := by
  rw [show (dats m 0 c).Φ 0 = iprop(dqInv m c 0 (Nat.zero_le _) ∗ restInv c) from rfl, dqInv_zero m c 0 _ rfl]
  unfold Pipeline.ΦA restInv
  rw [scopedRest0_eq]
  iintro ⟨⟨H0, H1, H2, H3⟩, Hg⟩
  isplitl [H0]; · iapply (own_of_pts c cc0_scratch0); iexact H0
  isplitl [H1]; · iapply (own_of_pts c cc0_scratch1); iexact H1
  isplitl [H2]; · iapply (own_of_pts c cc0_scratch2); iexact H2
  isplitl [H3]; · iapply (own_of_pts c cc0_scratch3); iexact H3
  iexact Hg

/-- Behind the last point the scratch is given back. -/
theorem rest_out (c : Dev nD) : (dats m 0 c).Φ (Fin.last cfg0.N) ⊢ Pipeline.ΦA spec0 c := by
  rw [show (dats m 0 c).Φ (Fin.last cfg0.N) = iprop(dqInv m c cfg0.N (le_refl _) ∗ restInv c) from rfl,
    dqInv_zero m c cfg0.N _ (by rw [show cfg0.N = 64 from N_0])]
  unfold Pipeline.ΦA restInv
  rw [scopedRest0_eq]
  iintro ⟨H0, H1, H2, H3, Hg⟩
  isplitr [Hg]
  · isplitl [H0]; · iapply (pts_of_own c cc0_scratch0); iexact H0
    isplitl [H1]; · iapply (pts_of_own c cc0_scratch1); iexact H1
    isplitl [H2]; · iapply (pts_of_own c cc0_scratch2); iexact H2
    iapply (pts_of_own c cc0_scratch3); iexact H3
  iexact Hg

set_option backward.isDefEq.respectTransparency.types false in
/-- The run, with every semaphore counter at zero at the end. -/
theorem run_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := rest_in m) (hout := rest_out m)

/-- The run: every array at what the proof data say. -/
theorem run_main : θ_run defs (onTc (τ := τ) (main (F := F))) (s₀ m ρ) (Pipeline.FramePost cfgs (dats m) 0 (V m)) :=
  (θ_run defs _ _).mono (fun _ h => h.1) (run_quiet m ρ)

/-- The frame: the arguments are left as they were, the counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨((h.1 c).1 2).trans (((dats m 0 c).arrAt_in 2 rfl _).trans ((A_eq m c 2).trans (V_main_arg0 m c))),
        ((h.1 c).2 main_arg1 (Pipeline.mem_restRefs_of main_arg1 (by decide) (by decide))).trans (V_main_arg1 m c),
        ((h.1 c).1 3).trans (((dats m 0 c).arrAt_in 3 rfl _).trans ((A_eq m c 3).trans (V_main_arg2 m c))),
        ((h.1 c).2 main_arg3 (Pipeline.mem_restRefs_of main_arg3 (by decide) (by decide))).trans (V_main_arg3 m c)⟩, h.2⟩)
    (run_quiet m ρ)

end Cert.KernelIdeal
-- ==== Proof.Frames.lean ====
module

public import proofs.«01_k».proof.Defs
public import proofs.«01_k».proof.Proof.Gen.Kernel
public import proofs.«01_k».proof.Proof.Run

/-! The attention gradient's two frames. No rule rewrote the program, so the text at bit-exact values is the text at real
    ones: the bodies, the tables and the host lines agree by unfolding, and the one run serves both. -/

@[expose] public section

set_option maxRecDepth 65536
set_option maxHeartbeats 1000000

noncomputable section

namespace Cert.Proof.Attention

open Idealize.ShloMosaic Idealize.SL.Sem

/-- The two programs' bodies are one text. -/
theorem same_bodies : Cert.Kernel.defs₀ (F := Bits) = Cert.KernelIdeal.defs₀ (F := Bits) := by
  unfold Cert.Kernel.defs₀ Cert.KernelIdeal.defs₀
  refine congrArg _ ?_
  funext ℓ x
  match ℓ, x with
  | 0, (t, s) =>
    dsimp only
    unfold Cert.Kernel.cc0_attn_bwd Cert.KernelIdeal.cc0_attn_bwd
    rfl
  | ⟨_ + 1, h⟩, _ => exact absurd h (Nat.not_lt.2 (Nat.le_add_left _ _))

/-- … and so their tables. -/
theorem same_defs : Cert.Kernel.defs (F := Bits) = Cert.KernelIdeal.defs (F := Bits) := by
  unfold Cert.Kernel.defs Cert.KernelIdeal.defs
  exact congrArg (Pipeline.defs Cert.KernelIdeal.pcfgs) same_bodies

/-- … and their host lines. -/
theorem same_main : Cert.Kernel.main (F := Bits) = Cert.KernelIdeal.main (F := Bits) := by
  unfold Cert.Kernel.main Cert.KernelIdeal.main Cert.Kernel.fn_where.body Cert.KernelIdeal.fn_where.body
  rfl

/-- At bit-exact values the program ends with its arguments as they were and every counter at zero. -/
theorem frame_kernel : Cert.quiescent_Kernel := fun m ρ _ => by
  rw [same_defs, same_main]
  exact Cert.KernelIdeal.frame_run (F := Bits) m ρ

/-- And at real values. -/
theorem frame_ideal : Cert.quiescent_KernelIdeal := fun m ρ _ => Cert.KernelIdeal.frame_run (F := Ideal) m ρ

end Cert.Proof.Attention

end
-- ==== Proof.Up.lean ====
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Pointwise
public import Idealize.ShloMosaic.Lib.Claim

/-! The gradient of the feed-forward's input: `dh[t, c] = Σ_n du[t, n] · w[c, n]` over the up projection's columns, whose
    cotangent comes in two halves. Each grid point writes 512 tokens of it as the sum of one dot per half; the reference
    joins the halves and differentiates `h ↦ h · w`. -/

@[expose] public section

set_option maxRecDepth 16384

noncomputable section

namespace Cert.Kernel2Ideal.Sum

open Cert.Kernel2Ideal Cert.Kernel2Ideal.Gen Idealize.ShloMosaic Idealize.ShloMosaic.TcCoe Idealize.SL.Sem

variable (m : (ℓ : Loc nD τ sig) → Buf (Elt Ideal) ℓ)

/-- The sum over the columns of one half, the half that starts at column `o`. -/
def half (x : S8192x2816.Idx → EReal) (w : S1024x5632.Idx → EReal) (o : Nat) (ho : o + 2816 ≤ 5632) : S8192x1024.Idx → EReal :=
  fun i => ∑ k : Fin 2816, x (ix2 (i 0) k) * w (ix2 (i 1) ⟨o + k.val, by have := k.isLt; omega⟩)

/-- The sum over all the columns. -/
def total (x y : S8192x2816.Idx → EReal) (w : S1024x5632.Idx → EReal) : S8192x1024.Idx → EReal :=
  fun i => half x w 0 (by decide) i + half y w 2816 (by decide) i

theorem place0 : ∀ t : Fin cfg0.N, win0_0.index t = ![t.val, 0] := (by decide +kernel : ∀ t : Fin grid0.N, win0_0.index t = ![t.val, 0])
theorem place1 : ∀ t : Fin cfg0.N, win0_1.index t = ![t.val, 0] := (by decide +kernel : ∀ t : Fin grid0.N, win0_1.index t = ![t.val, 0])
theorem place2 : ∀ t : Fin cfg0.N, win0_2.index t = ![0, 0] := (by decide +kernel : ∀ t : Fin grid0.N, win0_2.index t = ![0, 0])
theorem place3 : ∀ t : Fin cfg0.N, win0_3.index t = ![0, 1] := (by decide +kernel : ∀ t : Fin grid0.N, win0_3.index t = ![0, 1])
theorem place4 : ∀ t : Fin cfg0.N, win0_4.index t = ![t.val, 0] := (by decide +kernel : ∀ t : Fin grid0.N, win0_4.index t = ![t.val, 0])

/-- The array the grid leaves is that sum. -/
theorem final (c : Dev nD) : (dats m 0 c).arrAt 4 cfg0.N
    = total (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  unfold out0_4
  frame_out
  unfold k0_pay1
  simp only [pointwise, zero_add]
  unfold total half
  refine congrArg₂ (α := EReal) (β := EReal) (· + ·) ?_ ?_ <;>
    refine Finset.sum_congr (M := EReal) rfl fun k _ => ?_ <;>
    refine congrArg₂ (α := EReal) (β := EReal) (· * ·) ?_ ?_ <;>
    blk_ext! [iblk, V, place0 t, place1 t, place2 t, place3 t, place4 t]

/-- The reference's result is that sum. -/
theorem reference (x y : (⟨S8192x2816, .bf16⟩ : BufTy).Contents (Elt Ideal)) (w : (⟨S1024x5632, .bf16⟩ : BufTy).Contents (Elt Ideal)) :
    Cert.Reference2Ideal.Read.val_main_v6 (F := Ideal) x y w = total x y w := by
  funext i
  rw [Cert.Reference2Ideal.Read.val_main_v6_apply, Cert.Reference2Ideal.Read.val_main_v5_apply]
  refine (Fin.sum_univ_add (M := EReal) (a := 2816) (b := 2816) _).trans ?_
  refine congrArg₂ (α := EReal) (β := EReal) (· + ·) ?_ ?_ <;>
    refine Finset.sum_congr (M := EReal) rfl fun k _ => congrArg₂ (α := EReal) (β := EReal) (· * ·) ?_ ?_
  · rw [Cert.Reference2Ideal.Read.val_main_v1_apply]
    unfold Cert.Reference2Ideal.Read.val_main_v0
    simp only [pointwise]
    refine (dif_pos (show k.val < 2816 from k.isLt)).trans ?_
    rfl
  · rw [Cert.Reference2Ideal.Read.val_main_v3_apply]
    refine congrArg w ?_
    exact funext fun a => match a with | ⟨0, _⟩ => rfl | ⟨1, _⟩ => Fin.ext (by show k.val = 0 + k.val; omega)
  · rw [Cert.Reference2Ideal.Read.val_main_v1_apply]
    unfold Cert.Reference2Ideal.Read.val_main_v0
    simp only [pointwise]
    refine (dif_neg (show ¬(2816 + k.val < 2816) by omega)).trans ?_
    refine congrArg y ?_
    exact funext fun a => match a with | ⟨0, _⟩ => rfl | ⟨1, _⟩ => Fin.ext (by show 2816 + k.val - 2816 = k.val; omega)
  · rw [Cert.Reference2Ideal.Read.val_main_v3_apply]
    refine congrArg w ?_
    exact funext fun a => match a with | ⟨0, _⟩ => rfl | ⟨1, _⟩ => rfl

end Cert.Kernel2Ideal.Sum

namespace Cert.Proof.Up

/-- At real values the grid's array and the reference's agree. -/
theorem algebraic : Cert.algebraic_Kernel2Ideal_Reference2Ideal := by
  pair_intro
  · run_from Cert.Kernel2Ideal.Value.run_blocks m g
  · run_from Cert.Reference2Ideal.Value.run m' g'
    rw [Cert.Kernel2Ideal.Sum.final m c]
    rw [Cert.Reference2Ideal.Read.val_main_v6_eq]
    exact Cert.Kernel2Ideal.Sum.reference _ _ _

end Cert.Proof.Up

end
-- ==== Proof.DwIn.lean ====
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.Pointwise
public import Idealize.ShloMosaic.Lib.Claim

/-! The gradient of the projection's weights: `dw[r, c] = Σ_t dproj[t, r] · h[t, c]` over all the tokens. Each grid point
    writes 256 rows of it by one dot; the reference differentiates `w ↦ h · wᵀ` and ends with the same sum. -/

@[expose] public section

set_option maxRecDepth 16384

noncomputable section

namespace Cert.Kernel3Ideal.Sum

open Cert.Kernel3Ideal Cert.Kernel3Ideal.Gen Idealize.ShloMosaic Idealize.ShloMosaic.TcCoe Idealize.SL.Sem

variable (m : (ℓ : Loc nD τ sig) → Buf (Elt Ideal) ℓ)

/-- The sum over the tokens at row `r` and column `c` of the weights. -/
def total (x : S8192x5376.Idx → EReal) (y : S8192x1024.Idx → EReal) : S5376x1024.Idx → EReal :=
  fun i => ∑ k : Fin 8192, x (ix2 k (i 0)) * y (ix2 k (i 1))

theorem place0 : ∀ t : Fin cfg0.N, win0_0.index t = ![0, t.val] := (by decide +kernel : ∀ t : Fin grid0.N, win0_0.index t = ![0, t.val])
theorem place1 : ∀ t : Fin cfg0.N, win0_1.index t = ![0, 0] := (by decide +kernel : ∀ t : Fin grid0.N, win0_1.index t = ![0, 0])
theorem place2 : ∀ t : Fin cfg0.N, win0_2.index t = ![t.val, 0] := (by decide +kernel : ∀ t : Fin grid0.N, win0_2.index t = ![t.val, 0])

/-- The array the grid leaves is that sum. -/
theorem final (c : Dev nD) : (dats m 0 c).arrAt 2 cfg0.N
    = total (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  unfold k0_pay1
  simp only [pointwise, zero_add]
  unfold total
  refine Finset.sum_congr (M := EReal) rfl fun k _ => ?_
  refine congrArg₂ (α := EReal) (β := EReal) (· * ·) ?_ ?_ <;> blk_ext! [iblk, V, place0 t, place1 t, place2 t]

/-- The reference's result is that sum. -/
theorem reference (x : (⟨S8192x5376, .bf16⟩ : BufTy).Contents (Elt Ideal)) (y : (⟨S8192x1024, .bf16⟩ : BufTy).Contents (Elt Ideal)) :
    Cert.Reference3Ideal.Read.val_main_v7 (F := Ideal) x y = total x y := by
  funext i
  simp only [Cert.Reference3Ideal.Read.val_main_v7_apply, Cert.Reference3Ideal.Read.val_main_v6_apply, Cert.Reference3Ideal.Read.val_main_v5_apply]
  refine Finset.sum_congr (M := EReal) rfl fun k _ => congrArg₂ (α := EReal) (β := EReal) (· * ·) (congrArg x ?_) (congrArg y ?_) <;>
    exact funext fun a => match a with | ⟨0, _⟩ => rfl | ⟨1, _⟩ => rfl

end Cert.Kernel3Ideal.Sum

namespace Cert.Proof.DwIn

/-- At real values the grid's array and the reference's agree. -/
theorem algebraic : Cert.algebraic_Kernel3Ideal_Reference3Ideal := by
  pair_intro
  · run_from Cert.Kernel3Ideal.Value.run_blocks m g
  · run_from Cert.Reference3Ideal.Value.run m' g'
    rw [Cert.Kernel3Ideal.Sum.final m c]
    rw [Cert.Reference3Ideal.Read.val_main_v7_eq]
    exact Cert.Kernel3Ideal.Sum.reference _ _

end Cert.Proof.DwIn

end
-- ==== Proof.NormMix.lean ====
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Pointwise
public import Idealize.ShloMosaic.Lib.Claim

/-! The gradient of the projection's input: `dh[t, c] = Σ_n dproj[t, n] · w[n, c]` over the projection's columns. Each grid
    point writes 512 tokens of it by one dot; the reference differentiates `h ↦ h · wᵀ` and ends with the same sum. -/

@[expose] public section

set_option maxRecDepth 16384

noncomputable section

namespace Cert.Kernel4Ideal.Sum

open Cert.Kernel4Ideal Cert.Kernel4Ideal.Gen Idealize.ShloMosaic Idealize.ShloMosaic.TcCoe Idealize.SL.Sem

variable (m : (ℓ : Loc nD τ sig) → Buf (Elt Ideal) ℓ)

/-- The sum over the projection's columns at token `t` and feature `c`. -/
def total (x : S8192x5376.Idx → EReal) (y : S5376x1024.Idx → EReal) : S8192x1024.Idx → EReal :=
  fun i => ∑ k : Fin 5376, x (ix2 (i 0) k) * y (ix2 k (i 1))

theorem place0 : ∀ t : Fin cfg0.N, win0_0.index t = ![t.val, 0] := (by decide +kernel : ∀ t : Fin grid0.N, win0_0.index t = ![t.val, 0])
theorem place1 : ∀ t : Fin cfg0.N, win0_1.index t = ![0, 0] := (by decide +kernel : ∀ t : Fin grid0.N, win0_1.index t = ![0, 0])
theorem place2 : ∀ t : Fin cfg0.N, win0_2.index t = ![t.val, 0] := (by decide +kernel : ∀ t : Fin grid0.N, win0_2.index t = ![t.val, 0])

/-- The array the grid leaves is that sum. -/
theorem final (c : Dev nD) : (dats m 0 c).arrAt 2 cfg0.N
    = total (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  unfold k0_pay1
  simp only [pointwise, zero_add]
  unfold total
  refine Finset.sum_congr (M := EReal) rfl fun k _ => ?_
  refine congrArg₂ (α := EReal) (β := EReal) (· * ·) ?_ ?_ <;> blk_ext! [iblk, V, place0 t, place1 t, place2 t]

/-- The reference's result is that sum. -/
theorem reference (x : (⟨S8192x5376, .bf16⟩ : BufTy).Contents (Elt Ideal)) (y : (⟨S5376x1024, .bf16⟩ : BufTy).Contents (Elt Ideal)) :
    Cert.Reference4Ideal.Read.val_main_v6 (F := Ideal) x y = total x y := by
  funext i
  rw [Cert.Reference4Ideal.Read.val_main_v6_apply, Cert.Reference4Ideal.Read.val_main_v5_apply]
  refine Finset.sum_congr (M := EReal) rfl fun k _ => congrArg₂ (α := EReal) (β := EReal) (· * ·) (congrArg x ?_) ?_
  · exact funext fun a => match a with | ⟨0, _⟩ => rfl | ⟨1, _⟩ => rfl
  · rw [Cert.Reference4Ideal.Read.val_main_v2_apply]
    refine congrArg y ?_
    exact funext fun a => match a with | ⟨0, _⟩ => rfl | ⟨1, _⟩ => rfl

end Cert.Kernel4Ideal.Sum

namespace Cert.Proof.NormMix

/-- At real values the grid's array and the reference's agree. -/
theorem algebraic : Cert.algebraic_Kernel4Ideal_Reference4Ideal := by
  pair_intro
  · run_from Cert.Kernel4Ideal.Value.run_blocks m g
  · run_from Cert.Reference4Ideal.Value.run m' g'
    rw [Cert.Kernel4Ideal.Sum.final m c]
    rw [Cert.Reference4Ideal.Read.val_main_v6_eq]
    exact Cert.Kernel4Ideal.Sum.reference _ _

end Cert.Proof.NormMix

end
-- ==== Proof.DwDown.lean ====
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.Pointwise
public import Idealize.ShloMosaic.Lib.Claim

/-!
The gradient of the down projection's weights: each entry is a sum over the rows of the activation times those of the
residual's gradient.
-/

@[expose] public section

set_option maxRecDepth 16384

noncomputable section

namespace Cert.Kernel5Ideal.Sum

open Cert.Kernel5Ideal Cert.Kernel5Ideal.Gen Idealize.ShloMosaic Idealize.ShloMosaic.TcCoe Idealize.SL.Sem

variable (m : (ℓ : Loc nD τ sig) → Buf (Elt Ideal) ℓ)

/-- Every entry of the result. -/
def total (x : S8192x2816.Idx → EReal) (y : S8192x1024.Idx → EReal) : S2816x1024.Idx → EReal :=
  fun i => ∑ k : Fin 8192, x (ix2 k (i 0)) * y (ix2 k (i 1))

/-- The block of window 0 at each grid point. -/
theorem place0 : ∀ t : Fin cfg0.N, win0_0.index t = ![0, t.val] :=
  (by decide +kernel : ∀ t : Fin grid0.N, win0_0.index t = ![0, t.val])

/-- The block of window 1 at each grid point. -/
theorem place1 : ∀ t : Fin cfg0.N, win0_1.index t = ![0, 0] :=
  (by decide +kernel : ∀ t : Fin grid0.N, win0_1.index t = ![0, 0])

/-- The block of window 2 at each grid point. -/
theorem place2 : ∀ t : Fin cfg0.N, win0_2.index t = ![t.val, 0] :=
  (by decide +kernel : ∀ t : Fin grid0.N, win0_2.index t = ![t.val, 0])

/-- What the call leaves in its result. -/
theorem final (c : Dev nD) : (dats m 0 c).arrAt 2 cfg0.N = total (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  unfold k0_pay1
  simp only [pointwise, zero_add]
  unfold total
  refine Finset.sum_congr (M := EReal) rfl fun k _ => ?_
  refine congrArg₂ (α := EReal) (β := EReal) (· * ·) ?_ ?_ <;> blk_ext! [iblk, V, place0 t, place1 t, place2 t]

/-- The reference's result is the same sum. -/
theorem reference (x : S8192x2816.Idx → EReal) (y : S8192x1024.Idx → EReal) : Cert.Reference5Ideal.Read.val_main_v5 (F := Ideal) x y = total x y := by
  funext i
  unfold total
  simp only [Cert.Reference5Ideal.Read.val_main_v5_apply, Cert.Reference5Ideal.Read.val_main_v4_apply, Cert.Reference5Ideal.Read.val_main_v3_apply, Cert.Reference5Ideal.Read.val_main_v1_apply]
  refine Finset.sum_congr (M := EReal) rfl fun k _ => (mul_comm (G := EReal) _ _).trans
    (congrArg₂ (α := EReal) (β := EReal) (· * ·) (congrArg x ?_) (congrArg y ?_)) <;>
    exact funext fun a => match a with | ⟨0, _⟩ => rfl | ⟨1, _⟩ => rfl

end Cert.Kernel5Ideal.Sum

namespace Cert.Proof.DwDown

open Idealize.ShloMosaic Idealize.SL.Sem

/-- The call and its reference leave equal results. -/
theorem algebraic : Cert.algebraic_Kernel5Ideal_Reference5Ideal := by
  pair_intro
  · run_from Cert.Kernel5Ideal.Value.run_blocks m g
  · run_from Cert.Reference5Ideal.Value.run m' g'
    rw [Cert.Kernel5Ideal.Sum.final m c]
    rw [Cert.Reference5Ideal.Read.val_main_v5_eq]
    exact Cert.Kernel5Ideal.Sum.reference _ _

end Cert.Proof.DwDown

end
-- ==== Proof.FfnDown.lean ====
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.Pointwise
public import Idealize.ShloMosaic.Lib.Claim

/-!
The down projection with its residual: each entry is the residual plus a row of the activation times a column of the weights.
-/

@[expose] public section

set_option maxRecDepth 16384

noncomputable section

namespace Cert.Kernel6Ideal.Sum

open Cert.Kernel6Ideal Cert.Kernel6Ideal.Gen Idealize.ShloMosaic Idealize.ShloMosaic.TcCoe Idealize.SL.Sem

variable (m : (ℓ : Loc nD τ sig) → Buf (Elt Ideal) ℓ)

/-- Every entry of the result. -/
def total (x : S8192x2816.Idx → EReal) (y : S2816x1024.Idx → EReal) (z : S8192x1024.Idx → EReal) : S8192x1024.Idx → EReal :=
  fun i => z i + ∑ k : Fin 2816, x (ix2 (i 0) k) * y (ix2 k (i 1))

/-- The block of window 0 at each grid point. -/
theorem place0 : ∀ t : Fin cfg0.N, win0_0.index t = ![t.val, 0] :=
  (by decide +kernel : ∀ t : Fin grid0.N, win0_0.index t = ![t.val, 0])

/-- The block of window 1 at each grid point. -/
theorem place1 : ∀ t : Fin cfg0.N, win0_1.index t = ![0, 0] :=
  (by decide +kernel : ∀ t : Fin grid0.N, win0_1.index t = ![0, 0])

/-- The block of window 2 at each grid point. -/
theorem place2 : ∀ t : Fin cfg0.N, win0_2.index t = ![t.val, 0] :=
  (by decide +kernel : ∀ t : Fin grid0.N, win0_2.index t = ![t.val, 0])

/-- The block of window 3 at each grid point. -/
theorem place3 : ∀ t : Fin cfg0.N, win0_3.index t = ![t.val, 0] :=
  (by decide +kernel : ∀ t : Fin grid0.N, win0_3.index t = ![t.val, 0])

/-- What the call leaves in its result. -/
theorem final (c : Dev nD) : (dats m 0 c).arrAt 3 cfg0.N = total (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold out0_3
  frame_out
  unfold k0_pay1
  simp only [pointwise, zero_add]
  unfold total
  refine (add_comm (G := EReal) _ _).trans (congrArg₂ (α := EReal) (β := EReal) (· + ·) ?_ ?_)
  · blk_ext! [iblk, V, place0 t, place1 t, place2 t, place3 t]
  · refine Finset.sum_congr (M := EReal) rfl fun k _ => ?_
    refine congrArg₂ (α := EReal) (β := EReal) (· * ·) ?_ ?_ <;> blk_ext! [iblk, V, place0 t, place1 t, place2 t, place3 t]

/-- The reference's result is the same sum. -/
theorem reference (x : S8192x2816.Idx → EReal) (y : S2816x1024.Idx → EReal) (z : S8192x1024.Idx → EReal) : Cert.Reference6Ideal.Read.val_main_v3 (F := Ideal) x y z = total x y z := by
  funext i
  unfold total
  simp only [Cert.Reference6Ideal.Read.val_main_v3_apply, Cert.Reference6Ideal.Read.val_main_v2_apply, Cert.Reference6Ideal.Read.val_main_v1_apply, Cert.Reference6Ideal.Read.val_main_v0_apply]
  refine congrArg (fun q : EReal => z i + q) ?_
  refine Finset.sum_congr (M := EReal) rfl fun k _ =>
    congrArg₂ (α := EReal) (β := EReal) (· * ·) (congrArg x ?_) (congrArg y ?_) <;>
    exact funext fun a => match a with | ⟨0, _⟩ => rfl | ⟨1, _⟩ => rfl

end Cert.Kernel6Ideal.Sum

namespace Cert.Proof.FfnDown

open Idealize.ShloMosaic Idealize.SL.Sem

/-- The call and its reference leave equal results. -/
theorem algebraic : Cert.algebraic_Kernel6Ideal_Reference6Ideal := by
  pair_intro
  · run_from Cert.Kernel6Ideal.Value.run_blocks m g
  · run_from Cert.Reference6Ideal.Value.run m' g'
    rw [Cert.Kernel6Ideal.Sum.final m c]
    rw [Cert.Reference6Ideal.Read.val_main_v3_eq]
    exact Cert.Kernel6Ideal.Sum.reference _ _ _

end Cert.Proof.FfnDown

end
-- ==== Proof.ProjIn.lean ====
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Pointwise
public import Idealize.ShloMosaic.Lib.Claim

/-!
The input projection: each entry of its four results is a row of the normalised input times a row of the weights, the four
results being consecutive ranges of those rows.
-/

@[expose] public section

set_option maxRecDepth 16384

noncomputable section

namespace Cert.Kernel7Ideal.Sum

open Cert.Kernel7Ideal Cert.Kernel7Ideal.Gen Idealize.ShloMosaic Idealize.ShloMosaic.TcCoe Idealize.SL.Sem

variable (m : (ℓ : Loc nD τ sig) → Buf (Elt Ideal) ℓ)

/-- A row of the input times a row of the weights. -/
def row (x : S8192x1024.Idx → EReal) (w : S5376x1024.Idx → EReal) (i : Fin 8192) (j : Fin 5376) : EReal :=
  ∑ k : Fin 1024, x (ix2 i k) * w (ix2 j k)

/-- The columns of the convolution branch. -/
def part2 (x : S8192x1024.Idx → EReal) (w : S5376x1024.Idx → EReal) : S8192x1536.Idx → EReal :=
  fun i => row x w (i 0) ⟨0 + (i 1).val, by have h : (i 1).val < 1536 := (i 1).isLt; omega⟩

/-- The columns of the queries, keys and values. -/
def part3 (x : S8192x1024.Idx → EReal) (w : S5376x1024.Idx → EReal) : S8192x1536.Idx → EReal :=
  fun i => row x w (i 0) ⟨1536 + (i 1).val, by have h : (i 1).val < 1536 := (i 1).isLt; omega⟩

/-- The columns of the gates. -/
def part4 (x : S8192x1024.Idx → EReal) (w : S5376x1024.Idx → EReal) : S8192x2048.Idx → EReal :=
  fun i => row x w (i 0) ⟨3072 + (i 1).val, by have h : (i 1).val < 2048 := (i 1).isLt; omega⟩

/-- The columns of the forget gates. -/
def part5 (x : S8192x1024.Idx → EReal) (w : S5376x1024.Idx → EReal) : S8192x256.Idx → EReal :=
  fun i => row x w (i 0) ⟨5120 + (i 1).val, by have h : (i 1).val < 256 := (i 1).isLt; omega⟩

/-- The block of window 0 at each grid point. -/
theorem place0 : ∀ t : Fin cfg0.N, win0_0.index t = ![t.val, 0] :=
  (by decide +kernel : ∀ t : Fin grid0.N, win0_0.index t = ![t.val, 0])

/-- The block of window 1 at each grid point. -/
theorem place1 : ∀ t : Fin cfg0.N, win0_1.index t = ![0, 0] :=
  (by decide +kernel : ∀ t : Fin grid0.N, win0_1.index t = ![0, 0])

/-- The block of window 2 at each grid point. -/
theorem place2 : ∀ t : Fin cfg0.N, win0_2.index t = ![t.val, 0] :=
  (by decide +kernel : ∀ t : Fin grid0.N, win0_2.index t = ![t.val, 0])

/-- The block of window 3 at each grid point. -/
theorem place3 : ∀ t : Fin cfg0.N, win0_3.index t = ![t.val, 0] :=
  (by decide +kernel : ∀ t : Fin grid0.N, win0_3.index t = ![t.val, 0])

/-- The block of window 4 at each grid point. -/
theorem place4 : ∀ t : Fin cfg0.N, win0_4.index t = ![t.val, 0] :=
  (by decide +kernel : ∀ t : Fin grid0.N, win0_4.index t = ![t.val, 0])

/-- The block of window 5 at each grid point. -/
theorem place5 : ∀ t : Fin cfg0.N, win0_5.index t = ![t.val, 0] :=
  (by decide +kernel : ∀ t : Fin grid0.N, win0_5.index t = ![t.val, 0])

/-- What the call leaves in the columns of the convolution branch. -/
theorem final2 (c : Dev nD) : (dats m 0 c).arrAt 2 cfg0.N
    = part2 (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  unfold k0_pay1
  simp only [pointwise, zero_add]
  unfold part2 row
  refine Finset.sum_congr (M := EReal) rfl fun k _ => ?_
  refine congrArg₂ (α := EReal) (β := EReal) (· * ·) ?_ ?_ <;> blk_ext! [iblk, V, place0 t, place1 t, place2 t]

/-- What the call leaves in the columns of the queries, keys and values. -/
theorem final3 (c : Dev nD) : (dats m 0 c).arrAt 3 cfg0.N
    = part3 (m ((c : Thread nD τ).loc main_arg0)) (m ((c : Thread nD τ).loc main_arg1)) := by
  refine (dats m 0 c).arrAt_eq_of_covers 3 _ (by decide +kernel) fun t hf y => ?_
  blk_simp
  rw [after0_3]
  unfold out0_3
  frame_out
  unfold k0_pay2
  simp only [pointwise, zero_add]
  unfold part3 row
  refine Finset.sum_congr (M := EReal) rfl fun k _ => ?_
  refine congrArg₂ (α := EReal) (β := EReal) (· * ·) ?_ ?_ <;> blk_ext! [iblk, V, place0 t, place1 t, place3 t]

/-- What the call leaves in the columns of the gates. -/
theorem final4 (c : Dev nD) : (dats m 0 c).arrAt 4 cfg0.N
    = part4 (m ((c : Thread nD τ).loc main_arg0)) (m ((c : Thread nD τ).loc main_arg1)) := by
  refine (dats m 0 c).arrAt_eq_of_covers 4 _ (by decide +kernel) fun t hf y => ?_
  blk_simp
  rw [after0_4]
  unfold out0_4
  frame_out
  unfold k0_pay3
  simp only [pointwise, zero_add]
  unfold part4 row
  refine Finset.sum_congr (M := EReal) rfl fun k _ => ?_
  refine congrArg₂ (α := EReal) (β := EReal) (· * ·) ?_ ?_ <;> blk_ext! [iblk, V, place0 t, place1 t, place4 t]

/-- What the call leaves in the columns of the forget gates. -/
theorem final5 (c : Dev nD) : (dats m 0 c).arrAt 5 cfg0.N
    = part5 (m ((c : Thread nD τ).loc main_arg0)) (m ((c : Thread nD τ).loc main_arg1)) := by
  refine (dats m 0 c).arrAt_eq_of_covers 5 _ (by decide +kernel) fun t hf y => ?_
  blk_simp
  rw [after0_5]
  unfold out0_5
  frame_out
  unfold k0_pay4
  simp only [pointwise, zero_add]
  unfold part5 row
  refine Finset.sum_congr (M := EReal) rfl fun k _ => ?_
  refine congrArg₂ (α := EReal) (β := EReal) (· * ·) ?_ ?_ <;> blk_ext! [iblk, V, place0 t, place1 t, place5 t]

/-- The reference's columns of the convolution branch are the same sums. -/
theorem reference2 (x : S8192x1024.Idx → EReal) (w : S5376x1024.Idx → EReal) :
    Cert.Reference7Ideal.Read.val_main_v8 (F := Ideal) x w = part2 x w := by
  funext i
  unfold part2 row
  simp only [Cert.Reference7Ideal.Read.val_main_v8_apply, Cert.Reference7Ideal.Read.val_main_v4_apply, Cert.Reference7Ideal.Read.val_main_v3_apply, Cert.Reference7Ideal.Read.val_main_v2_apply, Cert.Reference7Ideal.Read.val_main_v1_apply, Cert.Reference7Ideal.Read.val_main_v0_apply]
  refine Finset.sum_congr (M := EReal) rfl fun k _ =>
    congrArg₂ (α := EReal) (β := EReal) (· * ·) (congrArg x ?_) (congrArg w ?_)
  · exact funext fun a => match a with | ⟨0, _⟩ => rfl | ⟨1, _⟩ => rfl
  · exact funext fun a => match a with
      | ⟨0, _⟩ => Fin.ext (by show (i 1).val = 0 + (i 1).val; omega)
      | ⟨1, _⟩ => rfl

/-- The reference's columns of the queries, keys and values are the same sums. -/
theorem reference3 (x : S8192x1024.Idx → EReal) (w : S5376x1024.Idx → EReal) :
    Cert.Reference7Ideal.Read.val_main_v9 (F := Ideal) x w = part3 x w := by
  funext i
  unfold part3 row
  simp only [Cert.Reference7Ideal.Read.val_main_v9_apply, Cert.Reference7Ideal.Read.val_main_v5_apply, Cert.Reference7Ideal.Read.val_main_v3_apply, Cert.Reference7Ideal.Read.val_main_v2_apply, Cert.Reference7Ideal.Read.val_main_v1_apply, Cert.Reference7Ideal.Read.val_main_v0_apply]
  refine Finset.sum_congr (M := EReal) rfl fun k _ =>
    congrArg₂ (α := EReal) (β := EReal) (· * ·) (congrArg x ?_) (congrArg w ?_)
  · exact funext fun a => match a with | ⟨0, _⟩ => rfl | ⟨1, _⟩ => rfl
  · exact funext fun a => match a with
      | ⟨0, _⟩ => Fin.ext (by show 1536 + (i 1).val = 1536 + (i 1).val; rfl)
      | ⟨1, _⟩ => rfl

/-- The reference's columns of the gates are the same sums. -/
theorem reference4 (x : S8192x1024.Idx → EReal) (w : S5376x1024.Idx → EReal) :
    Cert.Reference7Ideal.Read.val_main_v10 (F := Ideal) x w = part4 x w := by
  funext i
  unfold part4 row
  simp only [Cert.Reference7Ideal.Read.val_main_v10_apply, Cert.Reference7Ideal.Read.val_main_v6_apply, Cert.Reference7Ideal.Read.val_main_v3_apply, Cert.Reference7Ideal.Read.val_main_v2_apply, Cert.Reference7Ideal.Read.val_main_v1_apply, Cert.Reference7Ideal.Read.val_main_v0_apply]
  refine Finset.sum_congr (M := EReal) rfl fun k _ =>
    congrArg₂ (α := EReal) (β := EReal) (· * ·) (congrArg x ?_) (congrArg w ?_)
  · exact funext fun a => match a with | ⟨0, _⟩ => rfl | ⟨1, _⟩ => rfl
  · exact funext fun a => match a with
      | ⟨0, _⟩ => Fin.ext (by show 3072 + (i 1).val = 3072 + (i 1).val; rfl)
      | ⟨1, _⟩ => rfl

/-- The reference's columns of the forget gates are the same sums. -/
theorem reference5 (x : S8192x1024.Idx → EReal) (w : S5376x1024.Idx → EReal) :
    Cert.Reference7Ideal.Read.val_main_v7 (F := Ideal) x w = part5 x w := by
  funext i
  unfold part5 row
  simp only [Cert.Reference7Ideal.Read.val_main_v7_apply, Cert.Reference7Ideal.Read.val_main_v3_apply, Cert.Reference7Ideal.Read.val_main_v2_apply, Cert.Reference7Ideal.Read.val_main_v1_apply, Cert.Reference7Ideal.Read.val_main_v0_apply]
  refine Finset.sum_congr (M := EReal) rfl fun k _ =>
    congrArg₂ (α := EReal) (β := EReal) (· * ·) (congrArg x ?_) (congrArg w ?_)
  · exact funext fun a => match a with | ⟨0, _⟩ => rfl | ⟨1, _⟩ => rfl
  · exact funext fun a => match a with
      | ⟨0, _⟩ => Fin.ext (by show 5120 + (i 1).val = 5120 + (i 1).val; rfl)
      | ⟨1, _⟩ => rfl

end Cert.Kernel7Ideal.Sum

namespace Cert.Proof.ProjIn

open Idealize.ShloMosaic Idealize.SL.Sem

/-- The call and its reference leave equal results. -/
theorem algebraic : Cert.algebraic_Kernel7Ideal_Reference7Ideal := by
  pair_intro
  · run_from Cert.Kernel7Ideal.Value.run_blocks m g
  · run_from Cert.Reference7Ideal.Value.run m' g'
    · rw [Cert.Kernel7Ideal.Sum.final2 m c, Cert.Reference7Ideal.Read.val_main_v8_eq]
      exact Cert.Kernel7Ideal.Sum.reference2 _ _
    · rw [Cert.Kernel7Ideal.Sum.final3 m c, Cert.Reference7Ideal.Read.val_main_v9_eq]
      exact Cert.Kernel7Ideal.Sum.reference3 _ _
    · rw [Cert.Kernel7Ideal.Sum.final4 m c, Cert.Reference7Ideal.Read.val_main_v10_eq]
      exact Cert.Kernel7Ideal.Sum.reference4 _ _
    · rw [Cert.Kernel7Ideal.Sum.final5 m c, Cert.Reference7Ideal.Read.val_main_v7_eq]
      exact Cert.Kernel7Ideal.Sum.reference5 _ _

end Cert.Proof.ProjIn

end
-- ==== Proof.DwUp.lean ====
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.Pointwise
public import Idealize.ShloMosaic.Lib.Claim

/-!
The second half of the gradient of the up projection's weights, written into the array that holds the first half: the
last two slabs hold sums over all rows, which two grid points each add up a half at a time; the first two are kept.
-/

@[expose] public section

set_option maxRecDepth 16384

noncomputable section

namespace Cert.Kernel8Ideal.Sum

open Cert.Kernel8Ideal Cert.Kernel8Ideal.Gen Idealize.ShloMosaic Idealize.ShloMosaic.TcCoe Idealize.SL.Sem

variable (m : (ℓ : Loc nD τ sig) → Buf (Elt Ideal) ℓ)

/-- An entry of the written slabs. -/
def part (x : S8192x1024.Idx → EReal) (y : S8192x2816.Idx → EReal) : S4x1024x1408.Idx → EReal := fun i =>
  ∑ k : Fin 8192, x (ix2 k (i 1)) * y (ix2 k ⟨((i 0).val - 2) * 1408 + (i 2).val, by
    have h0 : (i 0).val < 4 := (i 0).isLt
    have h2 : (i 2).val < 1408 := (i 2).isLt
    omega⟩)

/-- The whole array: the first two slabs as they were, then the sums. -/
def total (x : S8192x1024.Idx → EReal) (y : S8192x2816.Idx → EReal) (z : S4x1024x1408.Idx → EReal) : S4x1024x1408.Idx → EReal :=
  fun i => if 2 ≤ (i 0).val then part x y i else z i

/-- The block of window 0 at each grid point. -/
theorem place0 : ∀ t : Fin cfg0.N, win0_0.index t = ![t.val % 2, t.val / 4] :=
  (by decide +kernel : ∀ t : Fin grid0.N, win0_0.index t = ![t.val % 2, t.val / 4])

/-- The block of window 1 at each grid point. -/
theorem place1 : ∀ t : Fin cfg0.N, win0_1.index t = ![t.val % 2, t.val / 2 % 2] :=
  (by decide +kernel : ∀ t : Fin grid0.N, win0_1.index t = ![t.val % 2, t.val / 2 % 2])

/-- The block of window 2 at each grid point. -/
theorem place2 : ∀ t : Fin cfg0.N, win0_2.index t = ![2 + t.val / 2 % 2, t.val / 4, 0] :=
  (by decide +kernel : ∀ t : Fin grid0.N, win0_2.index t = ![2 + t.val / 2 % 2, t.val / 4, 0])

/-- The second point of a pair adds its half to what it finds. -/
theorem step (a : Vec Ideal S4096x512 .bf16) (b : Vec Ideal S4096x1408 .bf16) (p : Vec Ideal S1x512x1408 .f32) (j : S1x512x1408.Idx) :
    k0_pay3 (F := Ideal) a b p j = p j + k0_pay2 (F := Ideal) a b j := by
  unfold k0_pay3 k0_pay2
  simp only [pointwise]

/-- What the call leaves in its result. -/
theorem final (c : Dev nD) : (dats m 0 c).arrAt 2 cfg0.N
    = total (m ((c : Thread nD τ).loc main_arg0)) (m ((c : Thread nD τ).loc main_arg1)) (m ((c : Thread nD τ).loc main_arg2)) := by
  refine (dats m 0 c).arrAt_eq_of_coversWhere 2 _ (fun β => 2 ≤ β (0 : Fin 3)) (by decide +kernel) (fun t hf y => ?_)
    (fun j => by blk_simp [Pipeline.Window.cell_apply]; omega)
  blk_simp
  have hr := (flush0_2 t).mp hf
  have ht : t.val < 8 := lt_of_lt_of_eq t.isLt N_0
  rw [after0_2, Pipeline.eq_sum_fin_of_reset_step_apply_of_flush (outsAt0 m c) 2 (fun _ => 0)
    (fun t => k0_pay2 (iblk m c 0 t) (iblk m c 1 t))
    (fun t h j => by rw [outsAt0_A m c t h (by omega)]; frame_out; exact (zero_add (M := EReal) _).symm)
    (fun t h j => by rw [outsAt0_B m c t h (by omega)]; frame_out; exact step _ _ _ _)
    t hr y]
  unfold k0_pay2 k0_pay1
  simp only [pointwise, zero_add]
  unfold part
  refine Fin.sum_mul_add_congr (M := EReal) (S := 2) (n := 4096) fun s k hl => ?_
  have hs := s.isLt
  refine congrArg₂ (α := EReal) (β := EReal) (· * ·) ?_ ?_ <;> blk_ext! [iblk, V, place0, place1, place2 t]

/-- The reference's result is the same. -/
theorem reference (x : S8192x1024.Idx → EReal) (y : S8192x2816.Idx → EReal) (z : S4x1024x1408.Idx → EReal) :
    Cert.Reference8Ideal.Read.val_main_v9 (F := Ideal) x y z = total x y z := by
  funext i
  have h0 : (i 0).val < 4 := (i 0).isLt
  have h1 : (i 1).val < 1024 := (i 1).isLt
  have h2 : (i 2).val < 1408 := (i 2).isLt
  unfold Cert.Reference8Ideal.Read.val_main_v9 total part
  simp only [pointwise]
  by_cases h : 2 ≤ (i 0).val
  · rw [if_pos h]
    refine (dif_neg (show ¬(i 0).val < 2 by omega)).trans ?_
    simp only [Cert.Reference8Ideal.Read.val_main_v8_apply, Cert.Reference8Ideal.Read.val_main_v7_apply,
      Cert.Reference8Ideal.Read.val_main_v5_apply, Cert.Reference8Ideal.Read.val_main_v4_apply,
      Cert.Reference8Ideal.Read.val_main_v3_apply, Cert.Reference8Ideal.Read.val_main_v1_apply]
    refine Finset.sum_congr (M := EReal) rfl fun k _ => (mul_comm (G := EReal) _ _).trans
      (congrArg₂ (α := EReal) (β := EReal) (· * ·) (congrArg x ?_) (congrArg y ?_))
    · exact funext fun a => match a with
        | ⟨0, _⟩ => rfl
        | ⟨1, _⟩ => Fin.ext (by show (((i 1).val * 2 + ((i 0).val - 2)) * 1408 + (i 2).val) / 2816 = (i 1).val; omega)
    · exact funext fun a => match a with
        | ⟨0, _⟩ => rfl
        | ⟨1, _⟩ => Fin.ext (by
            show (((i 1).val * 2 + ((i 0).val - 2)) * 1408 + (i 2).val) % 2816 = ((i 0).val - 2) * 1408 + (i 2).val; omega)
  · rw [if_neg h]
    refine (dif_pos (show (i 0).val < 2 by omega)).trans ?_
    rw [Cert.Reference8Ideal.Read.val_main_v6_apply]
    exact congrArg z (funext fun a => match a with | ⟨0, _⟩ => rfl | ⟨1, _⟩ => rfl | ⟨2, _⟩ => rfl)

end Cert.Kernel8Ideal.Sum

namespace Cert.Proof.DwUp

open Idealize.ShloMosaic Idealize.SL.Sem

/-- The call and its reference leave equal results. -/
theorem algebraic : Cert.algebraic_Kernel8Ideal_Reference8Ideal := by
  pair_intro
  · run_from Cert.Kernel8Ideal.Value.run_blocks m g
  · run_from Cert.Reference8Ideal.Value.run m' g'
    rw [Cert.Kernel8Ideal.Sum.final m c, (hagree c).2.2]
    rw [Cert.Reference8Ideal.Read.val_main_v9_eq]
    exact Cert.Kernel8Ideal.Sum.reference _ _ _

end Cert.Proof.DwUp

end
-- ==== Proof.Merge.lean ====
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit
public import Idealize.ShloMosaic.Lib.Pointwise
public import Idealize.ShloMosaic.Lib.Claim

/-!
The gradient of the merged branches: each entry is a row of the residual's gradient times a row of the weights.
-/

@[expose] public section

set_option maxRecDepth 16384

noncomputable section

namespace Cert.Kernel9Ideal.Sum

open Cert.Kernel9Ideal Cert.Kernel9Ideal.Gen Idealize.ShloMosaic Idealize.ShloMosaic.TcCoe Idealize.SL.Sem

variable (m : (ℓ : Loc nD τ sig) → Buf (Elt Ideal) ℓ)

/-- Every entry of the result. -/
def total (x : S8192x1024.Idx → EReal) (y : S1024x1024.Idx → EReal) : S8192x1024.Idx → EReal :=
  fun i => ∑ k : Fin 1024, x (ix2 (i 0) k) * y (ix2 (i 1) k)

/-- The block of window 0 at each grid point. -/
theorem place0 : ∀ t : Fin cfg0.N, win0_0.index t = ![t.val, 0] :=
  (by decide +kernel : ∀ t : Fin grid0.N, win0_0.index t = ![t.val, 0])

/-- The block of window 1 at each grid point. -/
theorem place1 : ∀ t : Fin cfg0.N, win0_1.index t = ![0, 0] :=
  (by decide +kernel : ∀ t : Fin grid0.N, win0_1.index t = ![0, 0])

/-- The block of window 2 at each grid point. -/
theorem place2 : ∀ t : Fin cfg0.N, win0_2.index t = ![t.val, 0] :=
  (by decide +kernel : ∀ t : Fin grid0.N, win0_2.index t = ![t.val, 0])

/-- What the call leaves in its result. -/
theorem final (c : Dev nD) : (dats m 0 c).arrAt 2 cfg0.N = total (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  unfold k0_pay1
  simp only [pointwise, zero_add]
  unfold total
  refine Finset.sum_congr (M := EReal) rfl fun k _ => ?_
  refine congrArg₂ (α := EReal) (β := EReal) (· * ·) ?_ ?_ <;> blk_ext! [iblk, V, place0 t, place1 t, place2 t]

/-- The reference's result is the same sum. -/
theorem reference (x : S8192x1024.Idx → EReal) (y : S1024x1024.Idx → EReal) : Cert.Reference9Ideal.Read.val_main_v4 (F := Ideal) x y = total x y := by
  funext i
  unfold total
  simp only [Cert.Reference9Ideal.Read.val_main_v4_apply, Cert.Reference9Ideal.Read.val_main_v3_apply, Cert.Reference9Ideal.Read.val_main_v1_apply]
  refine Finset.sum_congr (M := EReal) rfl fun k _ =>
    congrArg₂ (α := EReal) (β := EReal) (· * ·) (congrArg x ?_) (congrArg y ?_) <;>
    exact funext fun a => match a with | ⟨0, _⟩ => rfl | ⟨1, _⟩ => rfl

end Cert.Kernel9Ideal.Sum

namespace Cert.Proof.Merge

open Idealize.ShloMosaic Idealize.SL.Sem

/-- The call and its reference leave equal results. -/
theorem algebraic : Cert.algebraic_Kernel9Ideal_Reference9Ideal := by
  pair_intro
  · run_from Cert.Kernel9Ideal.Value.run_blocks m g
  · run_from Cert.Reference9Ideal.Value.run m' g'
    rw [Cert.Kernel9Ideal.Sum.final m c]
    rw [Cert.Reference9Ideal.Read.val_main_v4_eq]
    exact Cert.Kernel9Ideal.Sum.reference _ _

end Cert.Proof.Merge

end
-- ==== Proof.MixOut.lean ====
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit
public import Idealize.ShloMosaic.Lib.Pointwise
public import Idealize.ShloMosaic.Lib.Claim

/-!
The mixer's output projection with its residual: each entry is the residual plus a row of the merged branches times a
column of the weights.
-/

@[expose] public section

set_option maxRecDepth 16384

noncomputable section

namespace Cert.Kernel10Ideal.Sum

open Cert.Kernel10Ideal Cert.Kernel10Ideal.Gen Idealize.ShloMosaic Idealize.ShloMosaic.TcCoe Idealize.SL.Sem

variable (m : (ℓ : Loc nD τ sig) → Buf (Elt Ideal) ℓ)

/-- Every entry of the result. -/
def total (x : S8192x1024.Idx → EReal) (y : S1024x1024.Idx → EReal) (z : S8192x1024.Idx → EReal) : S8192x1024.Idx → EReal :=
  fun i => z i + ∑ k : Fin 1024, x (ix2 (i 0) k) * y (ix2 k (i 1))

/-- The block of window 0 at each grid point. -/
theorem place0 : ∀ t : Fin cfg0.N, win0_0.index t = ![t.val, 0] :=
  (by decide +kernel : ∀ t : Fin grid0.N, win0_0.index t = ![t.val, 0])

/-- The block of window 1 at each grid point. -/
theorem place1 : ∀ t : Fin cfg0.N, win0_1.index t = ![0, 0] :=
  (by decide +kernel : ∀ t : Fin grid0.N, win0_1.index t = ![0, 0])

/-- The block of window 2 at each grid point. -/
theorem place2 : ∀ t : Fin cfg0.N, win0_2.index t = ![t.val, 0] :=
  (by decide +kernel : ∀ t : Fin grid0.N, win0_2.index t = ![t.val, 0])

/-- The block of window 3 at each grid point. -/
theorem place3 : ∀ t : Fin cfg0.N, win0_3.index t = ![t.val, 0] :=
  (by decide +kernel : ∀ t : Fin grid0.N, win0_3.index t = ![t.val, 0])

/-- What the call leaves in its result. -/
theorem final (c : Dev nD) : (dats m 0 c).arrAt 3 cfg0.N = total (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold out0_3
  frame_out
  unfold k0_pay1
  simp only [pointwise, zero_add]
  unfold total
  refine (add_comm (G := EReal) _ _).trans (congrArg₂ (α := EReal) (β := EReal) (· + ·) ?_ ?_)
  · blk_ext! [iblk, V, place0 t, place1 t, place2 t, place3 t]
  · refine Finset.sum_congr (M := EReal) rfl fun k _ => ?_
    refine congrArg₂ (α := EReal) (β := EReal) (· * ·) ?_ ?_ <;> blk_ext! [iblk, V, place0 t, place1 t, place2 t, place3 t]

/-- The reference's result is the same sum. -/
theorem reference (x : S8192x1024.Idx → EReal) (y : S1024x1024.Idx → EReal) (z : S8192x1024.Idx → EReal) : Cert.Reference10Ideal.Read.val_main_v3 (F := Ideal) x y z = total x y z := by
  funext i
  unfold total
  simp only [Cert.Reference10Ideal.Read.val_main_v3_apply, Cert.Reference10Ideal.Read.val_main_v2_apply, Cert.Reference10Ideal.Read.val_main_v1_apply, Cert.Reference10Ideal.Read.val_main_v0_apply]
  refine congrArg (fun q : EReal => z i + q) ?_
  refine Finset.sum_congr (M := EReal) rfl fun k _ =>
    congrArg₂ (α := EReal) (β := EReal) (· * ·) (congrArg x ?_) (congrArg y ?_) <;>
    exact funext fun a => match a with | ⟨0, _⟩ => rfl | ⟨1, _⟩ => rfl

end Cert.Kernel10Ideal.Sum

namespace Cert.Proof.MixOut

open Idealize.ShloMosaic Idealize.SL.Sem

/-- The call and its reference leave equal results. -/
theorem algebraic : Cert.algebraic_Kernel10Ideal_Reference10Ideal := by
  pair_intro
  · run_from Cert.Kernel10Ideal.Value.run_blocks m g
  · run_from Cert.Reference10Ideal.Value.run m' g'
    rw [Cert.Kernel10Ideal.Sum.final m c]
    rw [Cert.Reference10Ideal.Read.val_main_v3_eq]
    exact Cert.Kernel10Ideal.Sum.reference _ _ _

end Cert.Proof.MixOut

end
-- ==== Proof.DwO.lean ====
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit
public import Idealize.ShloMosaic.Lib.Pointwise
public import Idealize.ShloMosaic.Lib.Claim

/-!
The gradient of the output projection's weights: each entry is a sum over all rows, which the grid's four points add up a
quarter at a time.
-/

@[expose] public section

set_option maxRecDepth 16384

noncomputable section

namespace Cert.Kernel11Ideal.Sum

open Cert.Kernel11Ideal Cert.Kernel11Ideal.Gen Idealize.ShloMosaic Idealize.ShloMosaic.TcCoe Idealize.SL.Sem

variable (m : (ℓ : Loc nD τ sig) → Buf (Elt Ideal) ℓ)

/-- Every entry of the result. -/
def total (x : S8192x1024.Idx → EReal) (y : S8192x1024.Idx → EReal) : S1024x1024.Idx → EReal :=
  fun i => ∑ k : Fin 8192, x (ix2 k (i 0)) * y (ix2 k (i 1))

/-- The block of window 0 at each grid point. -/
theorem place0 : ∀ t : Fin cfg0.N, win0_0.index t = ![t.val, 0] :=
  (by decide +kernel : ∀ t : Fin grid0.N, win0_0.index t = ![t.val, 0])

/-- The block of window 1 at each grid point. -/
theorem place1 : ∀ t : Fin cfg0.N, win0_1.index t = ![t.val, 0] :=
  (by decide +kernel : ∀ t : Fin grid0.N, win0_1.index t = ![t.val, 0])

/-- The block of window 2 at each grid point. -/
theorem place2 : ∀ t : Fin cfg0.N, win0_2.index t = ![0, 0] :=
  (by decide +kernel : ∀ t : Fin grid0.N, win0_2.index t = ![0, 0])

/-- A later point adds its quarter to what it finds. -/
theorem step (a : Vec Ideal S2048x1024 .bf16) (b : Vec Ideal S2048x1024 .f32) (p : Vec Ideal S1024x1024 .f32) (j : S1024x1024.Idx) :
    k0_pay2 (F := Ideal) a b p j = p j + k0_pay1 (F := Ideal) a b j := by
  unfold k0_pay2
  simp only [pointwise]

/-- What the call leaves in its result. -/
theorem final (c : Dev nD) : (dats m 0 c).arrAt 2 cfg0.N
    = total (m ((c : Thread nD τ).loc main_arg0)) (m ((c : Thread nD τ).loc main_arg1)) := by
  refine (dats m 0 c).arrAt_eq_of_covers 2 _ (by decide +kernel) fun t hf y => ?_
  blk_simp
  have hr := (flush0_2 t).mp hf
  have ht : t.val < 4 := lt_of_lt_of_eq t.isLt N_0
  rw [after0_2, Pipeline.eq_sum_fin_of_reset_step_apply_last (outsAt0 m c) 4 (fun _ => 0)
    (fun t => k0_pay1 (iblk m c 0 t) (iblk m c 1 t))
    (fun t h j => by
      have ht : t.val < 4 := lt_of_lt_of_eq t.isLt N_0
      rw [outsAt0_A m c t h (by omega)]; frame_out; exact (zero_add (M := EReal) _).symm)
    (fun t h j => by rw [outsAt0_B m c t h (by omega)]; frame_out; exact step _ _ _ _)
    (le_of_eq N_0) t ((show t.val + 1 = 4 by omega).trans N_0.symm) y]
  unfold k0_pay1
  simp only [pointwise, zero_add]
  unfold total
  refine Fin.sum_mul_add_congr (M := EReal) (S := 4) (n := 2048) fun s k hl => ?_
  have hs := s.isLt
  refine congrArg₂ (α := EReal) (β := EReal) (· * ·) ?_ ?_ <;> blk_ext! [iblk, V, place0 s, place1 s, place2 t]

/-- The reference's result is the same sum. -/
theorem reference (x : S8192x1024.Idx → EReal) (y : S8192x1024.Idx → EReal) :
    Cert.Reference11Ideal.Read.val_main_v4 (F := Ideal) x y = total x y := by
  funext i
  unfold total
  simp only [Cert.Reference11Ideal.Read.val_main_v4_apply, Cert.Reference11Ideal.Read.val_main_v3_apply,
    Cert.Reference11Ideal.Read.val_main_v1_apply]
  refine Finset.sum_congr (M := EReal) rfl fun k _ => (mul_comm (G := EReal) _ _).trans
    (congrArg₂ (α := EReal) (β := EReal) (· * ·) (congrArg x ?_) (congrArg y ?_)) <;>
    exact funext fun a => match a with | ⟨0, _⟩ => rfl | ⟨1, _⟩ => rfl

end Cert.Kernel11Ideal.Sum

namespace Cert.Proof.DwO

open Idealize.ShloMosaic Idealize.SL.Sem

/-- The call and its reference leave equal results. -/
theorem algebraic : Cert.algebraic_Kernel11Ideal_Reference11Ideal := by
  pair_intro
  · run_from Cert.Kernel11Ideal.Value.run_blocks m g
  · run_from Cert.Reference11Ideal.Value.run m' g'
    rw [Cert.Kernel11Ideal.Sum.final m c]
    rw [Cert.Reference11Ideal.Read.val_main_v4_eq]
    exact Cert.Kernel11Ideal.Sum.reference _ _

end Cert.Proof.DwO

end
-- ==== Proof.Branch.lean ====
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit
public import Idealize.ShloMosaic.Lib.Pointwise
public import Idealize.ShloMosaic.Lib.Claim

/-!
The two branches' output projections, side by side: each entry is a row of a branch times a column of its weights.
-/

@[expose] public section

set_option maxRecDepth 16384

noncomputable section

namespace Cert.Kernel12Ideal.Sum

open Cert.Kernel12Ideal Cert.Kernel12Ideal.Gen Idealize.ShloMosaic Idealize.ShloMosaic.TcCoe Idealize.SL.Sem

variable (m : (ℓ : Loc nD τ sig) → Buf (Elt Ideal) ℓ)

/-- A row of a branch times a column of its weights. -/
def row (x : S8192x512.Idx → EReal) (w : S512x1024.Idx → EReal) (i : Fin 8192) (j : Fin 1024) : EReal :=
  ∑ k : Fin 512, x (ix2 i k) * w (ix2 k j)

/-- The left half comes from the convolution branch, the right half from the attention. -/
def total (x : S8192x512.Idx → EReal) (u : S512x1024.Idx → EReal) (y : S8192x512.Idx → EReal) (v : S512x1024.Idx → EReal) : S8192x2048.Idx → EReal := fun i =>
  if h : (i 1).val < 1024 then row x u (i 0) ⟨(i 1).val, h⟩
  else row y v (i 0) ⟨(i 1).val - 1024, by have := (i 1).isLt; simp at this; omega⟩

/-- The block of window 0 at each grid point. -/
theorem place0 : ∀ t : Fin cfg0.N, win0_0.index t = ![t.val, 0] :=
  (by decide +kernel : ∀ t : Fin grid0.N, win0_0.index t = ![t.val, 0])

/-- The block of window 1 at each grid point. -/
theorem place1 : ∀ t : Fin cfg0.N, win0_1.index t = ![0, 0] :=
  (by decide +kernel : ∀ t : Fin grid0.N, win0_1.index t = ![0, 0])

/-- The block of window 2 at each grid point. -/
theorem place2 : ∀ t : Fin cfg0.N, win0_2.index t = ![t.val, 0] :=
  (by decide +kernel : ∀ t : Fin grid0.N, win0_2.index t = ![t.val, 0])

/-- The block of window 3 at each grid point. -/
theorem place3 : ∀ t : Fin cfg0.N, win0_3.index t = ![0, 0] :=
  (by decide +kernel : ∀ t : Fin grid0.N, win0_3.index t = ![0, 0])

/-- The block of window 4 at each grid point. -/
theorem place4 : ∀ t : Fin cfg0.N, win0_4.index t = ![t.val, 0] :=
  (by decide +kernel : ∀ t : Fin grid0.N, win0_4.index t = ![t.val, 0])

/-- What the call leaves in its result. -/
theorem final (c : Dev nD) : (dats m 0 c).arrAt 4 cfg0.N
    = total (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  unfold out0_4
  frame_out
  refine View.canon_apply_of_pieces (Val := Elt Ideal) (e := .bf16) (S := S1024x2048)
    (fun y => total (m ((c : Thread nD τ).loc main_arg0)) (m ((c : Thread nD τ).loc main_arg1)) (m ((c : Thread nD τ).loc main_arg2)) (m ((c : Thread nD τ).loc main_arg3)) (((View.whole main_v0).slice (win0_4.rect t)).emb y)) _ (fun p hp x => ?_) y (cover0_4 _ _ y)
  rcases List.mem_cons.mp hp with rfl | hp
  · unfold k0_pay2
    simp only [pointwise, zero_add]
    unfold total row
    refine Eq.trans ?_ (dif_neg ?_).symm
    · refine Finset.sum_congr (M := EReal) rfl fun k _ => ?_
      refine congrArg₂ (α := EReal) (β := EReal) (· * ·) ?_ ?_ <;> blk_ext! [iblk, V, place0 t, place1 t, place2 t, place3 t, place4 t]
    · blk_simp [place4 t]
      omega
  · obtain rfl := List.mem_singleton.mp hp
    unfold k0_pay1
    simp only [pointwise, zero_add]
    unfold total row
    refine Eq.trans ?_ (dif_pos ?_).symm
    · refine Finset.sum_congr (M := EReal) rfl fun k _ => ?_
      refine congrArg₂ (α := EReal) (β := EReal) (· * ·) ?_ ?_ <;> blk_ext! [iblk, V, place0 t, place1 t, place2 t, place3 t, place4 t]
    · blk_simp [place4 t]
      exact (x 1).isLt

/-- The reference's result is the same. -/
theorem reference (x : S8192x512.Idx → EReal) (u : S512x1024.Idx → EReal) (y : S8192x512.Idx → EReal) (v : S512x1024.Idx → EReal) : Cert.Reference12Ideal.Read.val_main_v7 (F := Ideal) x u y v = total x u y v := by
  funext i
  rw [Cert.Reference12Ideal.Read.val_main_v7_apply]
  unfold Cert.Reference12Ideal.Read.val_main_v6 total row
  simp only [pointwise]
  by_cases h : (i 1).val < 1024
  · rw [dif_pos h]
    refine (dif_pos h).trans ?_
    simp only [Cert.Reference12Ideal.Read.val_main_v2_apply, Cert.Reference12Ideal.Read.val_main_v1_apply,
      Cert.Reference12Ideal.Read.val_main_v0_apply]
    refine Finset.sum_congr (M := EReal) rfl fun k _ =>
      congrArg₂ (α := EReal) (β := EReal) (· * ·) (congrArg x ?_) (congrArg u ?_) <;>
      exact funext fun a => match a with | ⟨0, _⟩ => rfl | ⟨1, _⟩ => rfl
  · rw [dif_neg h]
    refine (dif_neg h).trans ?_
    simp only [Cert.Reference12Ideal.Read.val_main_v5_apply, Cert.Reference12Ideal.Read.val_main_v4_apply,
      Cert.Reference12Ideal.Read.val_main_v3_apply]
    refine Finset.sum_congr (M := EReal) rfl fun k _ =>
      congrArg₂ (α := EReal) (β := EReal) (· * ·) (congrArg y ?_) (congrArg v ?_) <;>
      exact funext fun a => match a with | ⟨0, _⟩ => rfl | ⟨1, _⟩ => rfl

end Cert.Kernel12Ideal.Sum

namespace Cert.Proof.Branch

open Idealize.ShloMosaic Idealize.SL.Sem

/-- The call and its reference leave equal results. -/
theorem algebraic : Cert.algebraic_Kernel12Ideal_Reference12Ideal := by
  pair_intro
  · run_from Cert.Kernel12Ideal.Value.run_blocks m g
  · run_from Cert.Reference12Ideal.Value.run m' g'
    rw [Cert.Kernel12Ideal.Sum.final m c, (hagree c).2.2.2]
    rw [Cert.Reference12Ideal.Read.val_main_v7_eq]
    exact Cert.Kernel12Ideal.Sum.reference _ _ _ _

end Cert.Proof.Branch

end
-- ==== Proof.BranchBwd.lean ====
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit
public import Idealize.ShloMosaic.Lib.Pointwise
public import Idealize.ShloMosaic.Lib.Claim

/-!
The gradients of the two branches' outputs: each entry is a row of one half of the joint gradient times a row of that
branch's weights.
-/

@[expose] public section

set_option maxRecDepth 16384

noncomputable section

namespace Cert.Kernel13Ideal.Sum

open Cert.Kernel13Ideal Cert.Kernel13Ideal.Gen Idealize.ShloMosaic Idealize.ShloMosaic.TcCoe Idealize.SL.Sem

variable (m : (ℓ : Loc nD τ sig) → Buf (Elt Ideal) ℓ)

/-- The gradient of the convolution branch. -/
def part3 (d : S8192x2048.Idx → EReal) (w : S512x1024.Idx → EReal) : S8192x512.Idx → EReal := fun i =>
  ∑ k : Fin 1024, d (ix2 (i 0) ⟨0 + k.val, by omega⟩) * w (ix2 (i 1) k)

/-- The gradient of the attention branch. -/
def part4 (d : S8192x2048.Idx → EReal) (w : S512x1024.Idx → EReal) : S8192x512.Idx → EReal := fun i =>
  ∑ k : Fin 1024, d (ix2 (i 0) ⟨1024 + k.val, by omega⟩) * w (ix2 (i 1) k)

/-- The block of window 0 at each grid point. -/
theorem place0 : ∀ t : Fin cfg0.N, win0_0.index t = ![t.val, 0] :=
  (by decide +kernel : ∀ t : Fin grid0.N, win0_0.index t = ![t.val, 0])

/-- The block of window 1 at each grid point. -/
theorem place1 : ∀ t : Fin cfg0.N, win0_1.index t = ![0, 0] :=
  (by decide +kernel : ∀ t : Fin grid0.N, win0_1.index t = ![0, 0])

/-- The block of window 2 at each grid point. -/
theorem place2 : ∀ t : Fin cfg0.N, win0_2.index t = ![0, 0] :=
  (by decide +kernel : ∀ t : Fin grid0.N, win0_2.index t = ![0, 0])

/-- The block of window 3 at each grid point. -/
theorem place3 : ∀ t : Fin cfg0.N, win0_3.index t = ![t.val, 0] :=
  (by decide +kernel : ∀ t : Fin grid0.N, win0_3.index t = ![t.val, 0])

/-- The block of window 4 at each grid point. -/
theorem place4 : ∀ t : Fin cfg0.N, win0_4.index t = ![t.val, 0] :=
  (by decide +kernel : ∀ t : Fin grid0.N, win0_4.index t = ![t.val, 0])

/-- What the call leaves in the convolution branch's gradient. -/
theorem final3 (c : Dev nD) : (dats m 0 c).arrAt 3 cfg0.N
    = part3 (m ((c : Thread nD τ).loc main_arg0)) (m ((c : Thread nD τ).loc main_arg1)) := by
  refine (dats m 0 c).arrAt_eq_of_covers 3 _ (by decide +kernel) fun t hf y => ?_
  blk_simp
  rw [after0_3]
  unfold out0_3
  frame_out
  unfold k0_pay1
  simp only [pointwise, zero_add]
  unfold part3
  refine Finset.sum_congr (M := EReal) rfl fun k _ => ?_
  refine congrArg₂ (α := EReal) (β := EReal) (· * ·) ?_ ?_ <;> blk_ext! [iblk, V, place0 t, place1 t, place3 t]

/-- What the call leaves in the attention branch's gradient. -/
theorem final4 (c : Dev nD) : (dats m 0 c).arrAt 4 cfg0.N
    = part4 (m ((c : Thread nD τ).loc main_arg0)) (m ((c : Thread nD τ).loc main_arg2)) := by
  refine (dats m 0 c).arrAt_eq_of_covers 4 _ (by decide +kernel) fun t hf y => ?_
  blk_simp
  rw [after0_4]
  unfold out0_4
  frame_out
  unfold k0_pay2
  simp only [pointwise, zero_add]
  unfold part4
  refine Finset.sum_congr (M := EReal) rfl fun k _ => ?_
  refine congrArg₂ (α := EReal) (β := EReal) (· * ·) ?_ ?_ <;> blk_ext! [iblk, V, place0 t, place2 t, place4 t]

/-- The reference's gradient of the convolution branch is the same. -/
theorem reference3 (d : S8192x2048.Idx → EReal) (w : S512x1024.Idx → EReal) : Cert.Reference13Ideal.Read.val_main_v10 (F := Ideal) d w = part3 d w := by
  funext i
  unfold part3
  simp only [Cert.Reference13Ideal.Read.val_main_v10_apply, Cert.Reference13Ideal.Read.val_main_v5_apply, Cert.Reference13Ideal.Read.val_main_v4_apply, Cert.Reference13Ideal.Read.val_main_v2_apply, Cert.Reference13Ideal.Read.val_main_v0_apply]
  refine Finset.sum_congr (M := EReal) rfl fun k _ =>
    congrArg₂ (α := EReal) (β := EReal) (· * ·) (congrArg d ?_) (congrArg w ?_)
  · exact funext fun a => match a with
      | ⟨0, _⟩ => rfl
      | ⟨1, _⟩ => Fin.ext (by show k.val = 0 + k.val; omega)
  · exact funext fun a => match a with | ⟨0, _⟩ => rfl | ⟨1, _⟩ => rfl

/-- The reference's gradient of the attention branch is the same. -/
theorem reference4 (d : S8192x2048.Idx → EReal) (w : S512x1024.Idx → EReal) : Cert.Reference13Ideal.Read.val_main_v11 (F := Ideal) d w = part4 d w := by
  funext i
  unfold part4
  simp only [Cert.Reference13Ideal.Read.val_main_v11_apply, Cert.Reference13Ideal.Read.val_main_v9_apply, Cert.Reference13Ideal.Read.val_main_v8_apply, Cert.Reference13Ideal.Read.val_main_v6_apply, Cert.Reference13Ideal.Read.val_main_v0_apply]
  refine Finset.sum_congr (M := EReal) rfl fun k _ =>
    congrArg₂ (α := EReal) (β := EReal) (· * ·) (congrArg d ?_) (congrArg w ?_)
  · exact funext fun a => match a with
      | ⟨0, _⟩ => rfl
      | ⟨1, _⟩ => Fin.ext (by show 1024 + k.val = 1024 + k.val; rfl)
  · exact funext fun a => match a with | ⟨0, _⟩ => rfl | ⟨1, _⟩ => rfl

end Cert.Kernel13Ideal.Sum

namespace Cert.Proof.BranchBwd

open Idealize.ShloMosaic Idealize.SL.Sem

/-- The call and its reference leave equal results. -/
theorem algebraic : Cert.algebraic_Kernel13Ideal_Reference13Ideal := by
  pair_intro
  · run_from Cert.Kernel13Ideal.Value.run_blocks m g
  · run_from Cert.Reference13Ideal.Value.run m' g'
    · rw [Cert.Kernel13Ideal.Sum.final3 m c, Cert.Reference13Ideal.Read.val_main_v10_eq]
      exact Cert.Kernel13Ideal.Sum.reference3 _ _
    · rw [Cert.Kernel13Ideal.Sum.final4 m c, Cert.Reference13Ideal.Read.val_main_v11_eq]
      exact Cert.Kernel13Ideal.Sum.reference4 _ _

end Cert.Proof.BranchBwd

end
-- ==== Proof.BranchDw.lean ====
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ValueKit
public import Idealize.ShloMosaic.Lib.Pointwise
public import Idealize.ShloMosaic.Lib.Claim

/-!
The gradients of the two branches' output weights: each entry is a sum over all rows, which the grid's four points add up a
quarter at a time.
-/

@[expose] public section

set_option maxRecDepth 16384

noncomputable section

namespace Cert.Kernel14Ideal.Sum

open Cert.Kernel14Ideal Cert.Kernel14Ideal.Gen Idealize.ShloMosaic Idealize.ShloMosaic.TcCoe Idealize.SL.Sem

variable (m : (ℓ : Loc nD τ sig) → Buf (Elt Ideal) ℓ)

/-- The gradient of the convolution branch's weights. -/
def part3 (x : S8192x512.Idx → EReal) (d : S8192x2048.Idx → EReal) : S512x1024.Idx → EReal := fun i =>
  ∑ k : Fin 8192, x (ix2 k (i 0)) * d (ix2 k ⟨0 + (i 1).val, by have h : (i 1).val < 1024 := (i 1).isLt; omega⟩)

/-- The gradient of the attention branch's weights. -/
def part4 (x : S8192x512.Idx → EReal) (d : S8192x2048.Idx → EReal) : S512x1024.Idx → EReal := fun i =>
  ∑ k : Fin 8192, x (ix2 k (i 0)) * d (ix2 k ⟨1024 + (i 1).val, by have h : (i 1).val < 1024 := (i 1).isLt; omega⟩)

/-- The block of window 0 at each grid point. -/
theorem place0 : ∀ t : Fin cfg0.N, win0_0.index t = ![t.val, 0] :=
  (by decide +kernel : ∀ t : Fin grid0.N, win0_0.index t = ![t.val, 0])

/-- The block of window 1 at each grid point. -/
theorem place1 : ∀ t : Fin cfg0.N, win0_1.index t = ![t.val, 0] :=
  (by decide +kernel : ∀ t : Fin grid0.N, win0_1.index t = ![t.val, 0])

/-- The block of window 2 at each grid point. -/
theorem place2 : ∀ t : Fin cfg0.N, win0_2.index t = ![t.val, 0] :=
  (by decide +kernel : ∀ t : Fin grid0.N, win0_2.index t = ![t.val, 0])

/-- The block of window 3 at each grid point. -/
theorem place3 : ∀ t : Fin cfg0.N, win0_3.index t = ![0, 0] :=
  (by decide +kernel : ∀ t : Fin grid0.N, win0_3.index t = ![0, 0])

/-- The block of window 4 at each grid point. -/
theorem place4 : ∀ t : Fin cfg0.N, win0_4.index t = ![0, 0] :=
  (by decide +kernel : ∀ t : Fin grid0.N, win0_4.index t = ![0, 0])

/-- What one point adds to the convolution branch's gradient. -/
def term3 (x : S2048x512.Idx → EReal) (d : S2048x2048.Idx → EReal) : S512x1024.Idx → EReal := fun j =>
  ∑ k : Fin 2048, x (ix2 k (j 0)) * d (ix2 k ⟨0 + (j 1).val, by have h : (j 1).val < 1024 := (j 1).isLt; omega⟩)

/-- What the call leaves in the convolution branch's gradient. -/
theorem final3 (c : Dev nD) : (dats m 0 c).arrAt 3 cfg0.N
    = part3 (m ((c : Thread nD τ).loc main_arg0)) (m ((c : Thread nD τ).loc main_arg2)) := by
  refine (dats m 0 c).arrAt_eq_of_covers 3 _ (by decide +kernel) fun t hf y => ?_
  blk_simp
  have hr := (flush0_3 t).mp hf
  have ht : t.val < 4 := lt_of_lt_of_eq t.isLt N_0
  rw [after0_3, Pipeline.eq_sum_fin_of_reset_step_apply_last (fun n h => (outsAt0 m c n h).1) 4 (fun _ => 0)
    (fun t => term3 (iblk m c 0 t) (iblk m c 2 t))
    (fun t h j => by
      rw [outsAt0_A m c t h]
      frame_out
      unfold k0_pay3 k0_pay1 term3
      simp only [pointwise, zero_add]
      refine Finset.sum_congr (M := EReal) rfl fun k _ =>
        congrArg₂ (α := EReal) (β := EReal) (· * ·) rfl (congrArg (iblk m c 2 t) (funext fun a => ?_))
      match a with
      | ⟨0, _⟩ => exact Fin.ext (by show 0 + 1 * k.val = k.val; omega)
      | ⟨1, _⟩ => exact Fin.ext (by show 0 + 1 * (j 1).val = (j 1).val; omega))
    (fun t h j => by
      rw [outsAt0_B m c t h]
      frame_out
      unfold k0_pay3 term3
      simp only [pointwise, zero_add]
      refine congrArg₂ (α := EReal) (β := EReal) (· + ·) rfl ?_
      refine Finset.sum_congr (M := EReal) rfl fun k _ =>
        congrArg₂ (α := EReal) (β := EReal) (· * ·) rfl (congrArg (iblk m c 2 t) (funext fun a => ?_))
      match a with
      | ⟨0, _⟩ => exact Fin.ext (by show 0 + 1 * k.val = k.val; omega)
      | ⟨1, _⟩ => exact Fin.ext (by show 0 + 1 * (j 1).val = (j 1).val; omega))
    (le_of_eq N_0) t ((show t.val + 1 = 4 by omega).trans N_0.symm) y]
  unfold term3 part3
  simp only [zero_add]
  refine Fin.sum_mul_add_congr (M := EReal) (S := 4) (n := 2048) fun s k hl => ?_
  have hs := s.isLt
  refine congrArg₂ (α := EReal) (β := EReal) (· * ·) ?_ ?_ <;> blk_ext! [iblk, V, place0 s, place2 s, place3 t]

/-- What one point adds to the attention branch's gradient. -/
def term4 (x : S2048x512.Idx → EReal) (d : S2048x2048.Idx → EReal) : S512x1024.Idx → EReal := fun j =>
  ∑ k : Fin 2048, x (ix2 k (j 0)) * d (ix2 k ⟨1024 + (j 1).val, by have h : (j 1).val < 1024 := (j 1).isLt; omega⟩)

/-- What the call leaves in the attention branch's gradient. -/
theorem final4 (c : Dev nD) : (dats m 0 c).arrAt 4 cfg0.N
    = part4 (m ((c : Thread nD τ).loc main_arg1)) (m ((c : Thread nD τ).loc main_arg2)) := by
  refine (dats m 0 c).arrAt_eq_of_covers 4 _ (by decide +kernel) fun t hf y => ?_
  blk_simp
  have hr := (flush0_4 t).mp hf
  have ht : t.val < 4 := lt_of_lt_of_eq t.isLt N_0
  rw [after0_4, Pipeline.eq_sum_fin_of_reset_step_apply_last (fun n h => (outsAt0 m c n h).2) 4 (fun _ => 0)
    (fun t => term4 (iblk m c 1 t) (iblk m c 2 t))
    (fun t h j => by
      rw [outsAt0_A m c t h]
      frame_out
      unfold k0_pay4 k0_pay2 term4
      simp only [pointwise, zero_add]
      refine Finset.sum_congr (M := EReal) rfl fun k _ =>
        congrArg₂ (α := EReal) (β := EReal) (· * ·) rfl (congrArg (iblk m c 2 t) (funext fun a => ?_))
      match a with
      | ⟨0, _⟩ => exact Fin.ext (by show 0 + 1 * k.val = k.val; omega)
      | ⟨1, _⟩ => exact Fin.ext (by show 1024 + 1 * (j 1).val = 1024 + (j 1).val; omega))
    (fun t h j => by
      rw [outsAt0_B m c t h]
      frame_out
      unfold k0_pay4 term4
      simp only [pointwise, zero_add]
      refine congrArg₂ (α := EReal) (β := EReal) (· + ·) rfl ?_
      refine Finset.sum_congr (M := EReal) rfl fun k _ =>
        congrArg₂ (α := EReal) (β := EReal) (· * ·) rfl (congrArg (iblk m c 2 t) (funext fun a => ?_))
      match a with
      | ⟨0, _⟩ => exact Fin.ext (by show 0 + 1 * k.val = k.val; omega)
      | ⟨1, _⟩ => exact Fin.ext (by show 1024 + 1 * (j 1).val = 1024 + (j 1).val; omega))
    (le_of_eq N_0) t ((show t.val + 1 = 4 by omega).trans N_0.symm) y]
  unfold term4 part4
  simp only [zero_add]
  refine Fin.sum_mul_add_congr (M := EReal) (S := 4) (n := 2048) fun s k hl => ?_
  have hs := s.isLt
  refine congrArg₂ (α := EReal) (β := EReal) (· * ·) ?_ ?_ <;> blk_ext! [iblk, V, place1 s, place2 s, place4 t]

/-- The reference's gradient of the convolution branch's weights is the same. -/
theorem reference3 (x : S8192x512.Idx → EReal) (d : S8192x2048.Idx → EReal) : Cert.Reference14Ideal.Read.val_main_v6 (F := Ideal) x d = part3 x d := by
  funext i
  unfold part3
  simp only [Cert.Reference14Ideal.Read.val_main_v6_apply, Cert.Reference14Ideal.Read.val_main_v5_apply, Cert.Reference14Ideal.Read.val_main_v4_apply, Cert.Reference14Ideal.Read.val_main_v2_apply, Cert.Reference14Ideal.Read.val_main_v0_apply]
  refine Finset.sum_congr (M := EReal) rfl fun k _ => (mul_comm (G := EReal) _ _).trans
    (congrArg₂ (α := EReal) (β := EReal) (· * ·) (congrArg x ?_) (congrArg d ?_))
  · exact funext fun a => match a with | ⟨0, _⟩ => rfl | ⟨1, _⟩ => rfl
  · exact funext fun a => match a with
      | ⟨0, _⟩ => rfl
      | ⟨1, _⟩ => Fin.ext (by show (i 1).val = 0 + (i 1).val; omega)

/-- The reference's gradient of the attention branch's weights is the same. -/
theorem reference4 (x : S8192x512.Idx → EReal) (d : S8192x2048.Idx → EReal) : Cert.Reference14Ideal.Read.val_main_v11 (F := Ideal) x d = part4 x d := by
  funext i
  unfold part4
  simp only [Cert.Reference14Ideal.Read.val_main_v11_apply, Cert.Reference14Ideal.Read.val_main_v10_apply, Cert.Reference14Ideal.Read.val_main_v9_apply, Cert.Reference14Ideal.Read.val_main_v7_apply, Cert.Reference14Ideal.Read.val_main_v0_apply]
  refine Finset.sum_congr (M := EReal) rfl fun k _ => (mul_comm (G := EReal) _ _).trans
    (congrArg₂ (α := EReal) (β := EReal) (· * ·) (congrArg x ?_) (congrArg d ?_))
  · exact funext fun a => match a with | ⟨0, _⟩ => rfl | ⟨1, _⟩ => rfl
  · exact funext fun a => match a with
      | ⟨0, _⟩ => rfl
      | ⟨1, _⟩ => Fin.ext (by show 1024 + (i 1).val = 1024 + (i 1).val; rfl)

end Cert.Kernel14Ideal.Sum

namespace Cert.Proof.BranchDw

open Idealize.ShloMosaic Idealize.SL.Sem

/-- The call and its reference leave equal results. -/
theorem algebraic : Cert.algebraic_Kernel14Ideal_Reference14Ideal := by
  pair_intro
  · run_from Cert.Kernel14Ideal.Value.run_blocks m g
  · run_from Cert.Reference14Ideal.Value.run m' g'
    · rw [Cert.Kernel14Ideal.Sum.final3 m c, Cert.Reference14Ideal.Read.val_main_v6_eq]
      exact Cert.Kernel14Ideal.Sum.reference3 _ _
    · rw [Cert.Kernel14Ideal.Sum.final4 m c, Cert.Reference14Ideal.Read.val_main_v11_eq]
      exact Cert.Kernel14Ideal.Sum.reference4 _ _

end Cert.Proof.BranchDw

end
-- ==== Proof.UpAct.lean ====
module

public import proofs.«01_k».proof.Defs
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pipeline.ValueKit
public import Idealize.ShloMosaic.Lib.Pointwise
public import Idealize.ShloMosaic.Lib.KernelVsHost
public import Idealize.ShloMosaic.Lib.IdealHost
public import Idealize.ShloMosaic.Lib.Claim

/-!
The up projection, its causal convolution over three positions and the gate. Each grid point holds one whole sequence and
256 columns of both halves, so a position before the start of the sequence is one before the start of the block: the call
rotates the rows and puts zero for those that went around, the reference pads the sequence with two rows of zeros.
-/

@[expose] public section

set_option maxRecDepth 16384

noncomputable section

namespace Cert.Kernel15Ideal.Sum

open Cert.Kernel15Ideal Cert.Kernel15Ideal.Gen Idealize.ShloMosaic Idealize.ShloMosaic.TcCoe Idealize.SL.Sem

variable (m : (ℓ : Loc nD τ sig) → Buf (Elt Ideal) ℓ)

/-- An entry of the up projection. -/
def up (x : S8192x1024.Idx → EReal) (w : S1024x5632.Idx → EReal) (r : Fin 8192) (q : Fin 5632) : EReal :=
  ∑ k : Fin 1024, x (ix2 r k) * w (ix2 k q)

/-- The up projection `k` positions earlier in the same sequence, zero before its start. -/
def earlier (k : Nat) (x : S8192x1024.Idx → EReal) (w : S1024x5632.Idx → EReal) (r : Fin 8192) (q : Fin 5632) : EReal :=
  if k ≤ r.val % 2048 then up x w ⟨r.val - k, lt_of_le_of_lt (Nat.sub_le _ _) r.isLt⟩ q else 0

/-- An entry of the convolution over three positions. -/
def conv (x : S8192x1024.Idx → EReal) (w : S1024x5632.Idx → EReal) (g : S3x5632.Idx → EReal) (r : Fin 8192) (q : Fin 5632) : EReal :=
  g (ix2 2 q) * up x w r q + g (ix2 0 q) * earlier 2 x w r q + g (ix2 1 q) * earlier 1 x w r q

/-- A column of the first half. -/
def left (j : Fin 2816) : Fin 5632 := ⟨j.val, by omega⟩

/-- A column of the second half. -/
def right (j : Fin 2816) : Fin 5632 := ⟨2816 + j.val, by omega⟩

/-- Every entry of the gated activation. -/
def gated (x : S8192x1024.Idx → EReal) (w : S1024x5632.Idx → EReal) (g : S3x5632.Idx → EReal) : S8192x2816.Idx → EReal :=
  fun i => conv x w g (i 0) (left (i 1)) * Ideal.logistic (conv x w g (i 0) (left (i 1))) * conv x w g (i 0) (right (i 1))

/-- Every entry of the up projection, of the half whose columns are `h`. -/
def half (h : Fin 2816 → Fin 5632) (x : S8192x1024.Idx → EReal) (w : S1024x5632.Idx → EReal) : S8192x2816.Idx → EReal :=
  fun i => up x w (i 0) (h (i 1))

/-- Every entry of the convolution, of the half whose columns are `h`. -/
def halfConv (h : Fin 2816 → Fin 5632) (x : S8192x1024.Idx → EReal) (w : S1024x5632.Idx → EReal) (g : S3x5632.Idx → EReal) : S8192x2816.Idx → EReal :=
  fun i => conv x w g (i 0) (h (i 1))

/-- Row `k` rows above, inside a block. -/
def above (k : Nat) (y : S2048x256.Idx) : S2048x256.Idx := ix2 ⟨(y 0).val - k, lt_of_le_of_lt (Nat.sub_le _ _) (y 0).isLt⟩ (y 1)

/-- A rotated block with the rows that went around put to zero, at an index. -/
theorem shifted (k : Nat) (hk : k < 2048) (p : S2048x256.Idx → EReal) (h : S2048x256.Rotates 0 none) (h' : S2048x256.Iotas .tc 32 [0]) (y : S2048x256.Idx) :
    (select (cmpi .sge (iota .tc S2048x256 32 [0] h') (broadcast S2048x256 (BitVec.ofNat 32 k))) (dynamicRotate 0 (BitVec.ofNat 32 k) none p h)
      (broadcast S2048x256 (0 : EReal))) y = if k ≤ (y 0).val then p (above k y) else 0 := by
  simp only [pointwise, List.foldl_cons, List.foldl_nil, Nat.zero_mul, Nat.zero_add, Nat.add_zero]
  have hy : (y 0).val < 2048 := (y 0).isLt
  have hn : (BitVec.ofNat 32 k).toNat = k := by rw [BitVec.toNat_ofNat]; exact Nat.mod_eq_of_lt (by omega)
  rw [WordCmp.cmpi_sge_ofNat (by omega) (by omega)]
  by_cases hc : k ≤ (y 0).val
  · rw [if_pos hc]
    simp only [hc, decide_true]
    refine congrArg p (funext fun a => ?_)
    match a with
    | ⟨0, _⟩ =>
      refine Fin.ext ?_
      show ((y 0).val + 2048 - (BitVec.ofNat 32 k).toNat % 2048) % 2048 = (y 0).val - k
      rw [hn]; omega
    | ⟨1, _⟩ => rfl
  · rw [if_neg hc]
    simp only [hc, decide_false]
    rfl

/-- The convolution inside a block, at an index. -/
theorem conv_block (p : S2048x256.Idx → EReal) (g : S3x256.Idx → EReal) (y : S2048x256.Idx) :
    k0_pay1 (F := Ideal) p g y = g (ix2 2 (y 1)) * p y + g (ix2 0 (y 1)) * (if 2 ≤ (y 0).val then p (above 2 y) else 0)
      + g (ix2 1 (y 1)) * (if 1 ≤ (y 0).val then p (above 1 y) else 0) := by
  unfold k0_pay1
  have e1 := shifted 1 (by decide) p rotates_S2048x256_d0 iota_S2048x256_d0_w32 y
  have e2 := shifted 2 (by decide) p rotates_S2048x256_d0 iota_S2048x256_d0_w32 y
  rw [← e1, ← e2]
  simp only [pointwise]
  refine congrArg₂ (α := EReal) (β := EReal) (· + ·) (congrArg₂ (α := EReal) (β := EReal) (· + ·) ?_ ?_) ?_
  · exact congrArg (fun q : EReal => q * p y) (congrArg g (congrArg (ix2 2) (Fin.ext (Nat.zero_add _))))
  · exact congrArg (fun q : EReal => Scalar.select _ (q * _) _) (congrArg g (congrArg (ix2 0) (Fin.ext (Nat.zero_add _))))
  · exact congrArg (fun q : EReal => Scalar.select _ (q * _) _) (congrArg g (congrArg (ix2 1) (Fin.ext (Nat.zero_add _))))

/-- The block of window 0 at each grid point. -/
theorem place0 : ∀ t : Fin cfg0.N, win0_0.index t = ![t.val / 11, 0] :=
  (by decide +kernel : ∀ t : Fin grid0.N, win0_0.index t = ![t.val / 11, 0])

/-- The block of window 1 at each grid point. -/
theorem place1 : ∀ t : Fin cfg0.N, win0_1.index t = ![0, t.val % 11] :=
  (by decide +kernel : ∀ t : Fin grid0.N, win0_1.index t = ![0, t.val % 11])

/-- The block of window 2 at each grid point. -/
theorem place2 : ∀ t : Fin cfg0.N, win0_2.index t = ![0, 11 + t.val % 11] :=
  (by decide +kernel : ∀ t : Fin grid0.N, win0_2.index t = ![0, 11 + t.val % 11])

/-- The block of window 3 at each grid point. -/
theorem place3 : ∀ t : Fin cfg0.N, win0_3.index t = ![0, t.val % 11] :=
  (by decide +kernel : ∀ t : Fin grid0.N, win0_3.index t = ![0, t.val % 11])

/-- The block of window 4 at each grid point. -/
theorem place4 : ∀ t : Fin cfg0.N, win0_4.index t = ![0, 11 + t.val % 11] :=
  (by decide +kernel : ∀ t : Fin grid0.N, win0_4.index t = ![0, 11 + t.val % 11])

/-- The block of window 5 at each grid point. -/
theorem place5 : ∀ t : Fin cfg0.N, win0_5.index t = ![t.val / 11, t.val % 11] :=
  (by decide +kernel : ∀ t : Fin grid0.N, win0_5.index t = ![t.val / 11, t.val % 11])

/-- The block of window 6 at each grid point. -/
theorem place6 : ∀ t : Fin cfg0.N, win0_6.index t = ![t.val / 11, t.val % 11] :=
  (by decide +kernel : ∀ t : Fin grid0.N, win0_6.index t = ![t.val / 11, t.val % 11])

/-- The block of window 7 at each grid point. -/
theorem place7 : ∀ t : Fin cfg0.N, win0_7.index t = ![t.val / 11, t.val % 11] :=
  (by decide +kernel : ∀ t : Fin grid0.N, win0_7.index t = ![t.val / 11, t.val % 11])

/-- The block of window 8 at each grid point. -/
theorem place8 : ∀ t : Fin cfg0.N, win0_8.index t = ![t.val / 11, t.val % 11] :=
  (by decide +kernel : ∀ t : Fin grid0.N, win0_8.index t = ![t.val / 11, t.val % 11])

/-- The block of window 9 at each grid point. -/
theorem place9 : ∀ t : Fin cfg0.N, win0_9.index t = ![t.val / 11, t.val % 11] :=
  (by decide +kernel : ∀ t : Fin grid0.N, win0_9.index t = ![t.val / 11, t.val % 11])

/-- The array row of a block's row at a grid point. -/
def row (t : Fin cfg0.N) (r : Fin 2048) : Fin 8192 := ⟨t.val / 11 * 2048 + r.val, by have := lt_of_lt_of_eq t.isLt N_0; omega⟩

/-- The array column, within a half, of a block's column at a grid point. -/
def col (t : Fin cfg0.N) (q : Fin 256) : Fin 2816 := ⟨t.val % 11 * 256 + q.val, by omega⟩

/-- The block of the first half of the up projection. -/
theorem left_block (c : Dev nD) (t : Fin cfg0.N) (y : S2048x256.Idx) :
    k0_pay5 (F := Ideal) (iblk m c 0 t) (iblk m c 1 t) y
      = up (m ((c : Thread nD τ).loc main_arg0)) (m ((c : Thread nD τ).loc main_arg1)) (row t (y 0)) (left (col t (y 1))) := by
  unfold k0_pay5 up
  simp only [pointwise, zero_add]
  refine Finset.sum_congr (M := EReal) rfl fun k _ => ?_
  refine congrArg₂ (α := EReal) (β := EReal) (· * ·) ?_ ?_ <;> blk_ext! [iblk, V, place0 t, place1 t, row, col, left]

/-- The block of the second half of the up projection. -/
theorem right_block (c : Dev nD) (t : Fin cfg0.N) (y : S2048x256.Idx) :
    k0_pay6 (F := Ideal) (iblk m c 0 t) (iblk m c 2 t) y
      = up (m ((c : Thread nD τ).loc main_arg0)) (m ((c : Thread nD τ).loc main_arg1)) (row t (y 0)) (right (col t (y 1))) := by
  unfold k0_pay6 up
  simp only [pointwise, zero_add]
  refine Finset.sum_congr (M := EReal) rfl fun k _ => ?_
  refine congrArg₂ (α := EReal) (β := EReal) (· * ·) ?_ ?_ <;> blk_ext! [iblk, V, place0 t, place2 t, row, col, right]

/-- A block whose entries are those of the up projection at the columns `h` has their convolution. -/
theorem conv_of_block (x : S8192x1024.Idx → EReal) (w : S1024x5632.Idx → EReal) (G : S3x5632.Idx → EReal) (t : Fin cfg0.N) (h : Fin 2816 → Fin 5632)
    (p : S2048x256.Idx → EReal) (g : S3x256.Idx → EReal) (hp : ∀ y, p y = up x w (row t (y 0)) (h (col t (y 1))))
    (hg : ∀ a q, g (ix2 a q) = G (ix2 a (h (col t q)))) (y : S2048x256.Idx) :
    k0_pay1 (F := Ideal) p g y = conv x w G (row t (y 0)) (h (col t (y 1))) := by
  have hs : ∀ k, (if k ≤ (y 0).val then p (above k y) else 0) = earlier k x w (row t (y 0)) (h (col t (y 1))) := fun k => by
    have hy : (y 0).val < 2048 := (y 0).isLt
    have hr : (row t (y 0)).val % 2048 = (y 0).val := by show (t.val / 11 * 2048 + (y 0).val) % 2048 = _; omega
    unfold earlier
    rw [hr]
    by_cases hc : k ≤ (y 0).val
    · rw [if_pos hc, if_pos hc, hp]
      refine congrArg (fun r => up x w r _) (Fin.ext ?_)
      show t.val / 11 * 2048 + ((y 0).val - k) = t.val / 11 * 2048 + (y 0).val - k
      omega
    · rw [if_neg hc, if_neg hc]
  rw [conv_block, hs 1, hs 2, hp]
  unfold conv
  exact congrArg₂ (α := EReal) (β := EReal) (· + ·) (congrArg₂ (α := EReal) (β := EReal) (· + ·) (congrArg (fun q : EReal => q * _) (hg 2 _))
    (congrArg (fun q : EReal => q * _) (hg 0 _))) (congrArg (fun q : EReal => q * _) (hg 1 _))

/-- The left block's convolution. -/
theorem conv_left (c : Dev nD) (t : Fin cfg0.N) (y : S2048x256.Idx) :
    k0_pay11 (F := Ideal) (iblk m c 0 t) (iblk m c 1 t) (iblk m c 2 t) (iblk m c 3 t) (iblk m c 4 t) y
      = conv (m ((c : Thread nD τ).loc main_arg0)) (m ((c : Thread nD τ).loc main_arg1)) (m ((c : Thread nD τ).loc main_arg2)) (row t (y 0)) (left (col t (y 1))) := by
  unfold k0_pay11
  rw [View.ld_unit_lit _ _ (by decide), View.ld_unit_lit _ _ (by decide), View.ld_unit_lit _ _ (by decide)]
  exact conv_of_block _ _ _ t left _ (iblk m c 3 t) (left_block m c t) (fun a q => by blk_ext! [iblk, V, place3 t, col, left]) y

/-- The right block's convolution. -/
theorem conv_right (c : Dev nD) (t : Fin cfg0.N) (y : S2048x256.Idx) :
    k0_pay1 (F := Ideal) (k0_pay10 (iblk m c 0 t) (iblk m c 1 t) (iblk m c 2 t) (iblk m c 3 t) (iblk m c 4 t)) (iblk m c 4 t) y
      = conv (m ((c : Thread nD τ).loc main_arg0)) (m ((c : Thread nD τ).loc main_arg1)) (m ((c : Thread nD τ).loc main_arg2)) (row t (y 0)) (right (col t (y 1))) := by
  unfold k0_pay10
  rw [View.ld_unit_lit _ _ (by decide), View.ld_unit_lit _ _ (by decide)]
  exact conv_of_block _ _ _ t right _ (iblk m c 4 t) (right_block m c t) (fun a q => by blk_ext! [iblk, V, place4 t, col, right]) y

/-- What the call leaves in its first result. -/
theorem final5 (c : Dev nD) : (dats m 0 c).arrAt 5 cfg0.N = gated (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  unfold out0_5
  frame_out
  unfold k0_pay4
  simp only [pointwise]
  refine (congrArg₂ (α := EReal) (β := EReal) (fun a b => a * Ideal.logistic a * b) (conv_left m c t y) (conv_right m c t y)).trans ?_
  refine (show _ = gated (m ((c : Thread nD τ).loc main_arg0)) (m ((c : Thread nD τ).loc main_arg1)) (m ((c : Thread nD τ).loc main_arg2)) (ix2 (row t (y 0)) (col t (y 1))) from rfl).trans ?_
  generalize gated (m ((c : Thread nD τ).loc main_arg0)) (m ((c : Thread nD τ).loc main_arg1)) (m ((c : Thread nD τ).loc main_arg2)) = f
  blk_ext! [place5 t, row, col]

/-- What the call leaves in its second result. -/
theorem final6 (c : Dev nD) : (dats m 0 c).arrAt 6 cfg0.N = half left (m ((c : Thread nD τ).loc main_arg0)) (m ((c : Thread nD τ).loc main_arg1)) := by
  refine (dats m 0 c).arrAt_eq_of_covers 6 _ (by decide +kernel) fun t hf y => ?_
  blk_simp
  rw [after0_6]
  unfold out0_6
  frame_out
  refine (show _ = half left (m ((c : Thread nD τ).loc main_arg0)) (m ((c : Thread nD τ).loc main_arg1)) (ix2 (row t (y 0)) (col t (y 1))) from left_block m c t y).trans ?_
  generalize half left (m ((c : Thread nD τ).loc main_arg0)) (m ((c : Thread nD τ).loc main_arg1)) = f
  blk_ext! [place6 t, row, col]

/-- What the call leaves in its third result. -/
theorem final7 (c : Dev nD) : (dats m 0 c).arrAt 7 cfg0.N = half right (m ((c : Thread nD τ).loc main_arg0)) (m ((c : Thread nD τ).loc main_arg1)) := by
  refine (dats m 0 c).arrAt_eq_of_covers 7 _ (by decide +kernel) fun t hf y => ?_
  blk_simp
  rw [after0_7]
  unfold out0_7
  frame_out
  refine (show _ = half right (m ((c : Thread nD τ).loc main_arg0)) (m ((c : Thread nD τ).loc main_arg1)) (ix2 (row t (y 0)) (col t (y 1))) from right_block m c t y).trans ?_
  generalize half right (m ((c : Thread nD τ).loc main_arg0)) (m ((c : Thread nD τ).loc main_arg1)) = f
  blk_ext! [place7 t, row, col]

/-- What the call leaves in its fourth result. -/
theorem final8 (c : Dev nD) : (dats m 0 c).arrAt 8 cfg0.N = halfConv left (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp
  rw [after0_8]
  unfold out0_8
  frame_out
  refine (show _ = halfConv left (m ((c : Thread nD τ).loc main_arg0)) (m ((c : Thread nD τ).loc main_arg1)) (m ((c : Thread nD τ).loc main_arg2)) (ix2 (row t (y 0)) (col t (y 1))) from conv_left m c t y).trans ?_
  generalize halfConv left (m ((c : Thread nD τ).loc main_arg0)) (m ((c : Thread nD τ).loc main_arg1)) (m ((c : Thread nD τ).loc main_arg2)) = f
  blk_ext! [place8 t, row, col]

/-- What the call leaves in its fifth result. -/
theorem final9 (c : Dev nD) : (dats m 0 c).arrAt 9 cfg0.N = halfConv right (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp
  rw [after0_9]
  unfold out0_9
  frame_out
  refine (show _ = halfConv right (m ((c : Thread nD τ).loc main_arg0)) (m ((c : Thread nD τ).loc main_arg1)) (m ((c : Thread nD τ).loc main_arg2)) (ix2 (row t (y 0)) (col t (y 1))) from conv_right m c t y).trans ?_
  generalize halfConv right (m ((c : Thread nD τ).loc main_arg0)) (m ((c : Thread nD τ).loc main_arg1)) (m ((c : Thread nD τ).loc main_arg2)) = f
  blk_ext! [place9 t, row, col]

end Cert.Kernel15Ideal.Sum

namespace Cert.Reference15Ideal.Read

open Cert.Kernel15Ideal.Sum Idealize.ShloMosaic Idealize.ShloMosaic.TcCoe

/-- The reference's projection is the same sum. -/
theorem product (x : S8192x1024.Idx → EReal) (w : S1024x5632.Idx → EReal) (r : Fin 8192) (q : Fin 5632) :
    val_main_v2 (F := Ideal) x w (ix2 r q) = up x w r q := by
  unfold up
  rw [val_main_v2_apply]
  refine Finset.sum_congr (M := EReal) rfl fun k _ =>
    congrArg₂ (α := EReal) (β := EReal) (· * ·) (congrArg x ?_) (congrArg w ?_) <;>
    exact funext fun a => match a with | ⟨0, _⟩ => rfl | ⟨1, _⟩ => rfl

/-- The padded sequence `d` rows before a position, an entry of the up projection or zero. -/
theorem padded (x : S8192x1024.Idx → EReal) (w : S1024x5632.Idx → EReal) (d : Nat) (hd : d ≤ 2) (r : Fin 8192) (q : Fin 5632) (j : S4x2050x5632.Idx)
    (h0 : (j 0).val = r.val / 2048) (h1 : (j 1).val = r.val % 2048 + 2 - d) (h2 : (j 2).val = q.val) :
    val_main_v4 (F := Ideal) x w j = earlier d x w r q := by
  have hr := r.isLt
  unfold earlier val_main_v4
  by_cases hc : d ≤ r.val % 2048
  · rw [if_pos hc]
    refine (pad_apply_of_inside _ _ _ _ _ _ _ j (ix3 ⟨r.val / 2048, by omega⟩ ⟨r.val % 2048 - d, by omega⟩ q) fun a => ?_).trans ?_
    · match a with
      | ⟨0, _⟩ => show (j 0).val = 0 + r.val / 2048 * 1; omega
      | ⟨1, _⟩ => show (j 1).val = 2 + (r.val % 2048 - d) * 1; omega
      | ⟨2, _⟩ => show (j 2).val = 0 + q.val * 1; omega
    · rw [val_main_v3_apply, ← product]
      refine congrArg (val_main_v2 (F := Ideal) x w) (funext fun a => ?_)
      have hq := q.isLt
      match a with
      | ⟨0, _⟩ =>
        refine Fin.ext ?_
        show ((r.val / 2048 * 2048 + (r.val % 2048 - d)) * 5632 + q.val) / 5632 = r.val - d
        omega
      | ⟨1, _⟩ =>
        refine Fin.ext ?_
        show ((r.val / 2048 * 2048 + (r.val % 2048 - d)) * 5632 + q.val) % 5632 = q.val
        omega
  · rw [if_neg hc]
    refine (pad_apply_of_not_inside _ _ _ _ _ _ _ j (⟨1, by decide⟩ : Fin 3) ?_).trans ?_
    · exact fun h => absurd (show 2 ≤ (j 1).val from h.1) (by omega)
    · simp only [val_main_call0_v0_apply, val_main_c_apply]
      show (((0#32 : BitVec 32).toInt : ℝ) : EReal) = 0
      simp

/-- The reference's convolution is the same sum of three products. -/
theorem convolved (x : S8192x1024.Idx → EReal) (w : S1024x5632.Idx → EReal) (g : S3x5632.Idx → EReal) (i : S8192x5632.Idx) :
    val_main_v25 (F := Ideal) x w g i = conv x w g (i 0) (i 1) := by
  have hr : (i 0).val < 8192 := (i 0).isLt
  have hq : (i 1).val < 5632 := (i 1).isLt
  simp only [val_main_v25_apply, val_main_v24_apply, val_main_v17_apply, val_main_v10_apply, val_main_v16_apply, val_main_v23_apply, val_main_v5_apply,
    val_main_v11_apply, val_main_v18_apply, val_main_v9_apply, val_main_v8_apply, val_main_v7_apply, val_main_v6_apply, val_main_v15_apply,
    val_main_v14_apply, val_main_v13_apply, val_main_v12_apply, val_main_v22_apply, val_main_v21_apply, val_main_v20_apply, val_main_v19_apply]
  have e5 := padded x w 0 (by decide) (i 0) (i 1) (idx_main_v5 (idx_main_v25 i)) (by show ((i 0).val * 5632 + (i 1).val) / 11534336 = (i 0).val / 2048; omega)
    (by show 2 + ((i 0).val * 5632 + (i 1).val) / 5632 % 2048 = (i 0).val % 2048 + 2 - 0; omega) (by show ((i 0).val * 5632 + (i 1).val) % 5632 = (i 1).val; omega)
  have e11 := padded x w 2 (by decide) (i 0) (i 1) (idx_main_v11 (idx_main_v25 i)) (by show ((i 0).val * 5632 + (i 1).val) / 11534336 = (i 0).val / 2048; omega)
    (by show ((i 0).val * 5632 + (i 1).val) / 5632 % 2048 = (i 0).val % 2048 + 2 - 2; omega) (by show ((i 0).val * 5632 + (i 1).val) % 5632 = (i 1).val; omega)
  have e18 := padded x w 1 (by decide) (i 0) (i 1) (idx_main_v18 (idx_main_v25 i)) (by show ((i 0).val * 5632 + (i 1).val) / 11534336 = (i 0).val / 2048; omega)
    (by show 1 + ((i 0).val * 5632 + (i 1).val) / 5632 % 2048 = (i 0).val % 2048 + 2 - 1; omega) (by show ((i 0).val * 5632 + (i 1).val) % 5632 = (i 1).val; omega)
  have e0 : earlier 0 x w (i 0) (i 1) = up x w (i 0) (i 1) := if_pos (Nat.zero_le _)
  rw [e5, e11, e18, e0]
  unfold conv
  refine congrArg₂ (α := EReal) (β := EReal) (· + ·) (congrArg₂ (α := EReal) (β := EReal) (· + ·) ?_ ?_) ?_ <;>
    refine (mul_comm (G := EReal) _ _).trans (congrArg (fun q : EReal => q * _) (congrArg g (funext fun a => ?_)))
  · match a with
    | ⟨0, _⟩ => rfl
    | ⟨1, _⟩ => exact Fin.ext (by show ((i 0).val * 5632 + (i 1).val) % 5632 % 5632 = (i 1).val; omega)
  · match a with
    | ⟨0, _⟩ => rfl
    | ⟨1, _⟩ => exact Fin.ext (by show ((i 0).val * 5632 + (i 1).val) % 5632 % 5632 = (i 1).val; omega)
  · match a with
    | ⟨0, _⟩ => rfl
    | ⟨1, _⟩ => exact Fin.ext (by show ((i 0).val * 5632 + (i 1).val) % 5632 % 5632 = (i 1).val; omega)

/-- The reference's halves of the up projection. -/
theorem result33 (x : S8192x1024.Idx → EReal) (w : S1024x5632.Idx → EReal) : val_main_v33 (F := Ideal) x w = half left x w := by
  funext i
  rw [val_main_v33_apply, val_main_v28_apply]
  refine (congrArg (val_main_v2 (F := Ideal) x w) (funext fun a => ?_)).trans (product x w (i 0) (left (i 1)))
  match a with
  | ⟨0, _⟩ => rfl
  | ⟨1, _⟩ => rfl

theorem result34 (x : S8192x1024.Idx → EReal) (w : S1024x5632.Idx → EReal) : val_main_v34 (F := Ideal) x w = half right x w := by
  funext i
  rw [val_main_v34_apply, val_main_v29_apply]
  refine (congrArg (val_main_v2 (F := Ideal) x w) (funext fun a => ?_)).trans (product x w (i 0) (right (i 1)))
  match a with
  | ⟨0, _⟩ => rfl
  | ⟨1, _⟩ => rfl

/-- The reference's halves of the convolution. -/
theorem left_half (x : S8192x1024.Idx → EReal) (w : S1024x5632.Idx → EReal) (g : S3x5632.Idx → EReal) : val_main_v26 (F := Ideal) x w g = halfConv left x w g := by
  funext i
  rw [val_main_v26_apply, convolved]
  rfl

theorem right_half (x : S8192x1024.Idx → EReal) (w : S1024x5632.Idx → EReal) (g : S3x5632.Idx → EReal) : val_main_v27 (F := Ideal) x w g = halfConv right x w g := by
  funext i
  rw [val_main_v27_apply, convolved]
  rfl

theorem result35 (x : S8192x1024.Idx → EReal) (w : S1024x5632.Idx → EReal) (g : S3x5632.Idx → EReal) : val_main_v35 (F := Ideal) x w g = halfConv left x w g :=
  left_half x w g

theorem result36 (x : S8192x1024.Idx → EReal) (w : S1024x5632.Idx → EReal) (g : S3x5632.Idx → EReal) : val_main_v36 (F := Ideal) x w g = halfConv right x w g :=
  right_half x w g

/-- The reference's gated activation. -/
theorem result32 (x : S8192x1024.Idx → EReal) (w : S1024x5632.Idx → EReal) (g : S3x5632.Idx → EReal) : val_main_v32 (F := Ideal) x w g = gated x w g := by
  funext i
  simp only [val_main_v32_apply, val_main_v31_apply, val_main_v30_apply, val_main_call1_v5_apply, val_main_call1_v4_apply, val_main_call1_v3_apply,
    val_main_call1_v2_apply, val_main_call1_v1_apply, val_main_call1_v0_apply, val_main_call1_cst_apply, val_main_call1_cst_0_apply, left_half, right_half]
  have one : FloatOps.ofBits (F := Ideal) .f32 0x3F800000#32 = (1 : EReal) := Ideal.ofBits_one_f32
  rw [one]
  rfl

end Cert.Reference15Ideal.Read
namespace Cert.Proof.UpAct

open Idealize.ShloMosaic Idealize.SL.Sem

/-- The call and its reference leave equal results. -/
theorem algebraic : Cert.algebraic_Kernel15Ideal_Reference15Ideal := by
  pair_intro
  · run_from Cert.Kernel15Ideal.Value.run_blocks m g
  · run_from Cert.Reference15Ideal.Value.run m' g'
    · rw [Cert.Kernel15Ideal.Sum.final5 m c, Cert.Reference15Ideal.Read.val_main_v32_eq, (hagree c).1, (hagree c).2.1, (hagree c).2.2]
      exact Cert.Reference15Ideal.Read.result32 _ _ _
    · rw [Cert.Kernel15Ideal.Sum.final6 m c, Cert.Reference15Ideal.Read.val_main_v33_eq]
      exact Cert.Reference15Ideal.Read.result33 _ _
    · rw [Cert.Kernel15Ideal.Sum.final7 m c, Cert.Reference15Ideal.Read.val_main_v34_eq]
      exact Cert.Reference15Ideal.Read.result34 _ _
    · rw [Cert.Kernel15Ideal.Sum.final8 m c, Cert.Reference15Ideal.Read.val_main_v35_eq]
      exact Cert.Reference15Ideal.Read.result35 _ _ _
    · rw [Cert.Kernel15Ideal.Sum.final9 m c, Cert.Reference15Ideal.Read.val_main_v36_eq]
      exact Cert.Reference15Ideal.Read.result36 _ _ _

end Cert.Proof.UpAct

end
-- ==== Proof.Adam.lean ====
module

public import Idealize.ShloMosaic.Lib.Pipeline.ValueKit
public import Idealize.ShloMosaic.Lib.Pointwise
public import Idealize.ShloMosaic.Lib.Claim

/-!
One entry of an AdamW step: the moments and the change of the weight.
-/

@[expose] public section

set_option maxRecDepth 16384

noncomputable section

namespace Cert.Proof.Adam

open Idealize.ShloMosaic

/-- The new first moment. -/
def first (g m : EReal) : EReal := Ideal.ofBits .f32 0x3F666666#32 * m + Ideal.ofBits .f32 0x3DCCCCCD#32 * g

/-- The new second moment. -/
def second (g v : EReal) : EReal := Ideal.ofBits .f32 0x3F7FBE77#32 * v + Ideal.ofBits .f32 0x3A83126F#32 * (g * g)

/-- The change of the weight. -/
def change (w g m v : EReal) : EReal :=
  Ideal.ofBits .f32 0xBA83126F#32 * (Ideal.div (Ideal.div (first g m) (Ideal.ofBits .f32 0x3F26BD02#32))
    (Ideal.sqrt (Ideal.div (second g v) (Ideal.ofBits .f32 0x3C231ACC#32)) + Ideal.ofBits .f32 0x322BCC77#32) + Ideal.ofBits .f32 0x3C23D70A#32 * w)

end Cert.Proof.Adam

end
-- ==== Proof.Adam16.lean ====
module

public import proofs.«01_k».proof.Defs
public import proofs.«01_k».proof.Proof.Adam
public import proofs.«01_k».proof.Proof.Gen.Kernel16Ideal.Value
public import proofs.«01_k».proof.Proof.Gen.Reference16Ideal.Run
public import proofs.«01_k».proof.Proof.Gen.Reference16Ideal.Read
public import Idealize.ShloMosaic.Lib.Pipeline.ValueKit
public import Idealize.ShloMosaic.Lib.Pointwise
public import Idealize.ShloMosaic.Lib.Claim

/-!
The AdamW step on an array of the shape 1282x1024, that of w_in, block by block.
-/

@[expose] public section

set_option maxRecDepth 16384

noncomputable section

namespace Cert.Kernel16Ideal.Sum

open Cert.Kernel16Ideal Cert.Kernel16Ideal.Gen Idealize.ShloMosaic Idealize.ShloMosaic.TcCoe Idealize.SL.Sem

variable (m : (ℓ : Loc nD τ sig) → Buf (Elt Ideal) ℓ)

/-- The block of window 0 at each grid point. -/
theorem place0 : ∀ t : Fin cfg0.N, win0_0.index t = ![0, t.val] :=
  (by decide +kernel : ∀ t : Fin grid0.N, win0_0.index t = ![0, t.val])

/-- The block of window 1 at each grid point. -/
theorem place1 : ∀ t : Fin cfg0.N, win0_1.index t = ![0, t.val] :=
  (by decide +kernel : ∀ t : Fin grid0.N, win0_1.index t = ![0, t.val])

/-- The block of window 2 at each grid point. -/
theorem place2 : ∀ t : Fin cfg0.N, win0_2.index t = ![0, t.val] :=
  (by decide +kernel : ∀ t : Fin grid0.N, win0_2.index t = ![0, t.val])

/-- The block of window 3 at each grid point. -/
theorem place3 : ∀ t : Fin cfg0.N, win0_3.index t = ![0, t.val] :=
  (by decide +kernel : ∀ t : Fin grid0.N, win0_3.index t = ![0, t.val])

/-- The block of window 4 at each grid point. -/
theorem place4 : ∀ t : Fin cfg0.N, win0_4.index t = ![0, t.val] :=
  (by decide +kernel : ∀ t : Fin grid0.N, win0_4.index t = ![0, t.val])

/-- The block of window 5 at each grid point. -/
theorem place5 : ∀ t : Fin cfg0.N, win0_5.index t = ![0, t.val] :=
  (by decide +kernel : ∀ t : Fin grid0.N, win0_5.index t = ![0, t.val])

/-- The block of window 6 at each grid point. -/
theorem place6 : ∀ t : Fin cfg0.N, win0_6.index t = ![0, t.val] :=
  (by decide +kernel : ∀ t : Fin grid0.N, win0_6.index t = ![0, t.val])

/-- What the call leaves of the change. -/
theorem final4 (c : Dev nD) : (dats m 0 c).arrAt 4 cfg0.N = fun i => Cert.Proof.Adam.change ((m ((c : Thread nD τ).loc main_arg0)) i) ((m ((c : Thread nD τ).loc main_arg1)) i) ((m ((c : Thread nD τ).loc main_arg2)) i) ((m ((c : Thread nD τ).loc main_arg3)) i) := by
  refine (dats m 0 c).arrAt_eq_of_covers 4 _ (by decide +kernel) fun t hf y => ?_
  blk_simp
  rw [after0_4]
  unfold out0_4
  frame_out
  have e0 : iblk m c 0 t y = (m ((c : Thread nD τ).loc main_arg0)) (((View.whole main_v0_0).slice (win0_4.rect t)).emb y) := by
    blk_ext! [iblk, V, place0 t, place4 t]
  have e1 : iblk m c 1 t y = (m ((c : Thread nD τ).loc main_arg1)) (((View.whole main_v0_0).slice (win0_4.rect t)).emb y) := by
    blk_ext! [iblk, V, place1 t, place4 t]
  have e2 : iblk m c 2 t y = (m ((c : Thread nD τ).loc main_arg2)) (((View.whole main_v0_0).slice (win0_4.rect t)).emb y) := by
    blk_ext! [iblk, V, place2 t, place4 t]
  have e3 : iblk m c 3 t y = (m ((c : Thread nD τ).loc main_arg3)) (((View.whole main_v0_0).slice (win0_4.rect t)).emb y) := by
    blk_ext! [iblk, V, place3 t, place4 t]
  rw [← e0]
  rw [← e1]
  rw [← e2]
  rw [← e3]
  rfl

/-- What the call leaves of the new first moment. -/
theorem final5 (c : Dev nD) : (dats m 0 c).arrAt 5 cfg0.N = fun i => Cert.Proof.Adam.first ((m ((c : Thread nD τ).loc main_arg1)) i) ((m ((c : Thread nD τ).loc main_arg2)) i) := by
  refine (dats m 0 c).arrAt_eq_of_covers 5 _ (by decide +kernel) fun t hf y => ?_
  blk_simp
  rw [after0_5]
  unfold out0_5
  frame_out
  have e1 : iblk m c 1 t y = (m ((c : Thread nD τ).loc main_arg1)) (((View.whole main_v0_1).slice (win0_5.rect t)).emb y) := by
    blk_ext! [iblk, V, place1 t, place5 t]
  have e2 : iblk m c 2 t y = (m ((c : Thread nD τ).loc main_arg2)) (((View.whole main_v0_1).slice (win0_5.rect t)).emb y) := by
    blk_ext! [iblk, V, place2 t, place5 t]
  rw [← e1]
  rw [← e2]
  rfl

/-- What the call leaves of the new second moment. -/
theorem final6 (c : Dev nD) : (dats m 0 c).arrAt 6 cfg0.N = fun i => Cert.Proof.Adam.second ((m ((c : Thread nD τ).loc main_arg1)) i) ((m ((c : Thread nD τ).loc main_arg3)) i) := by
  refine (dats m 0 c).arrAt_eq_of_covers 6 _ (by decide +kernel) fun t hf y => ?_
  blk_simp
  rw [after0_6]
  unfold out0_6
  frame_out
  have e1 : iblk m c 1 t y = (m ((c : Thread nD τ).loc main_arg1)) (((View.whole main_v0_2).slice (win0_6.rect t)).emb y) := by
    blk_ext! [iblk, V, place1 t, place6 t]
  have e3 : iblk m c 3 t y = (m ((c : Thread nD τ).loc main_arg3)) (((View.whole main_v0_2).slice (win0_6.rect t)).emb y) := by
    blk_ext! [iblk, V, place3 t, place6 t]
  rw [← e1]
  rw [← e3]
  rfl

end Cert.Kernel16Ideal.Sum

namespace Cert.Reference16Ideal.Read

open Idealize.ShloMosaic Idealize.ShloMosaic.TcCoe

/-- The reference's result is the same function of each entry. -/
theorem change (x0 x1 x2 x3 : S1282x1024.Idx → EReal) : val_main_v23 (F := Ideal) x0 x1 x2 x3 = fun i => Cert.Proof.Adam.change (x0 i) (x1 i) (x2 i) (x3 i) := by
  funext i
  simp only [val_main_cst_apply, val_main_v0_apply, val_main_v1_apply, val_main_cst_0_apply, val_main_v2_apply, val_main_v3_apply, val_main_v4_apply, val_main_cst_1_apply, val_main_v5_apply, val_main_v6_apply, val_main_v7_apply, val_main_cst_2_apply, val_main_v8_apply, val_main_v9_apply, val_main_v10_apply, val_main_cst_3_apply, val_main_v11_apply, val_main_v12_apply, val_main_cst_4_apply, val_main_v13_apply, val_main_v14_apply, val_main_v15_apply, val_main_cst_5_apply, val_main_v16_apply, val_main_v17_apply, val_main_v18_apply, val_main_cst_6_apply, val_main_v19_apply, val_main_v20_apply, val_main_v21_apply, val_main_cst_7_apply, val_main_v22_apply, val_main_v23_apply]
  rfl

/-- The reference's result is the same function of each entry. -/
theorem first (x1 x2 : S1282x1024.Idx → EReal) : val_main_v4 (F := Ideal) x1 x2 = fun i => Cert.Proof.Adam.first (x1 i) (x2 i) := by
  funext i
  simp only [val_main_cst_apply, val_main_v0_apply, val_main_v1_apply, val_main_cst_0_apply, val_main_v2_apply, val_main_v3_apply, val_main_v4_apply]
  rfl

/-- The reference's result is the same function of each entry. -/
theorem second (x1 x3 : S1282x1024.Idx → EReal) : val_main_v10 (F := Ideal) x1 x3 = fun i => Cert.Proof.Adam.second (x1 i) (x3 i) := by
  funext i
  simp only [val_main_cst_1_apply, val_main_v5_apply, val_main_v6_apply, val_main_v7_apply, val_main_cst_2_apply, val_main_v8_apply, val_main_v9_apply, val_main_v10_apply]
  rfl

end Cert.Reference16Ideal.Read

namespace Cert.Proof.Adam16

open Idealize.ShloMosaic Idealize.SL.Sem

/-- The call and its reference leave equal results. -/
theorem algebraic : Cert.algebraic_Kernel16Ideal_Reference16Ideal := by
  pair_intro
  · run_from Cert.Kernel16Ideal.Value.run_blocks m g
  · run_from Cert.Reference16Ideal.Value.run m' g'
    · rw [Cert.Kernel16Ideal.Sum.final4 m c, Cert.Reference16Ideal.Read.val_main_v23_eq]
      exact Cert.Reference16Ideal.Read.change _ _ _ _
    · rw [Cert.Kernel16Ideal.Sum.final5 m c, Cert.Reference16Ideal.Read.val_main_v4_eq]
      exact Cert.Reference16Ideal.Read.first _ _
    · rw [Cert.Kernel16Ideal.Sum.final6 m c, Cert.Reference16Ideal.Read.val_main_v10_eq]
      exact Cert.Reference16Ideal.Read.second _ _

end Cert.Proof.Adam16

end
-- ==== Proof.Adam17.lean ====
module

public import proofs.«01_k».proof.Defs
public import proofs.«01_k».proof.Proof.Adam
public import proofs.«01_k».proof.Proof.Gen.Kernel17Ideal.Value
public import proofs.«01_k».proof.Proof.Gen.Reference17Ideal.Run
public import proofs.«01_k».proof.Proof.Gen.Reference17Ideal.Read
public import Idealize.ShloMosaic.Lib.Pipeline.ValueKit
public import Idealize.ShloMosaic.Lib.Pointwise
public import Idealize.ShloMosaic.Lib.Claim

/-!
The AdamW step on an array of the shape 256x1024, that of w_o, block by block.
-/

@[expose] public section

set_option maxRecDepth 16384

noncomputable section

namespace Cert.Kernel17Ideal.Sum

open Cert.Kernel17Ideal Cert.Kernel17Ideal.Gen Idealize.ShloMosaic Idealize.ShloMosaic.TcCoe Idealize.SL.Sem

variable (m : (ℓ : Loc nD τ sig) → Buf (Elt Ideal) ℓ)

/-- The block of window 0 at each grid point. -/
theorem place0 : ∀ t : Fin cfg0.N, win0_0.index t = ![0, 0] :=
  (by decide +kernel : ∀ t : Fin grid0.N, win0_0.index t = ![0, 0])

/-- The block of window 1 at each grid point. -/
theorem place1 : ∀ t : Fin cfg0.N, win0_1.index t = ![0, 0] :=
  (by decide +kernel : ∀ t : Fin grid0.N, win0_1.index t = ![0, 0])

/-- The block of window 2 at each grid point. -/
theorem place2 : ∀ t : Fin cfg0.N, win0_2.index t = ![0, 0] :=
  (by decide +kernel : ∀ t : Fin grid0.N, win0_2.index t = ![0, 0])

/-- The block of window 3 at each grid point. -/
theorem place3 : ∀ t : Fin cfg0.N, win0_3.index t = ![0, 0] :=
  (by decide +kernel : ∀ t : Fin grid0.N, win0_3.index t = ![0, 0])

/-- The block of window 4 at each grid point. -/
theorem place4 : ∀ t : Fin cfg0.N, win0_4.index t = ![0, 0] :=
  (by decide +kernel : ∀ t : Fin grid0.N, win0_4.index t = ![0, 0])

/-- The block of window 5 at each grid point. -/
theorem place5 : ∀ t : Fin cfg0.N, win0_5.index t = ![0, 0] :=
  (by decide +kernel : ∀ t : Fin grid0.N, win0_5.index t = ![0, 0])

/-- The block of window 6 at each grid point. -/
theorem place6 : ∀ t : Fin cfg0.N, win0_6.index t = ![0, 0] :=
  (by decide +kernel : ∀ t : Fin grid0.N, win0_6.index t = ![0, 0])

/-- What the call leaves of the change. -/
theorem final4 (c : Dev nD) : (dats m 0 c).arrAt 4 cfg0.N = fun i => Cert.Proof.Adam.change ((m ((c : Thread nD τ).loc main_arg0)) i) ((m ((c : Thread nD τ).loc main_arg1)) i) ((m ((c : Thread nD τ).loc main_arg2)) i) ((m ((c : Thread nD τ).loc main_arg3)) i) := by
  refine (dats m 0 c).arrAt_eq_of_covers 4 _ (by decide +kernel) fun t hf y => ?_
  blk_simp
  rw [after0_4]
  unfold out0_4
  frame_out
  have e0 : iblk m c 0 t y = (m ((c : Thread nD τ).loc main_arg0)) (((View.whole main_v0_0).slice (win0_4.rect t)).emb y) := by
    blk_ext! [iblk, V, place0 t, place4 t]
  have e1 : iblk m c 1 t y = (m ((c : Thread nD τ).loc main_arg1)) (((View.whole main_v0_0).slice (win0_4.rect t)).emb y) := by
    blk_ext! [iblk, V, place1 t, place4 t]
  have e2 : iblk m c 2 t y = (m ((c : Thread nD τ).loc main_arg2)) (((View.whole main_v0_0).slice (win0_4.rect t)).emb y) := by
    blk_ext! [iblk, V, place2 t, place4 t]
  have e3 : iblk m c 3 t y = (m ((c : Thread nD τ).loc main_arg3)) (((View.whole main_v0_0).slice (win0_4.rect t)).emb y) := by
    blk_ext! [iblk, V, place3 t, place4 t]
  rw [← e0]
  rw [← e1]
  rw [← e2]
  rw [← e3]
  rfl

/-- What the call leaves of the new first moment. -/
theorem final5 (c : Dev nD) : (dats m 0 c).arrAt 5 cfg0.N = fun i => Cert.Proof.Adam.first ((m ((c : Thread nD τ).loc main_arg1)) i) ((m ((c : Thread nD τ).loc main_arg2)) i) := by
  refine (dats m 0 c).arrAt_eq_of_covers 5 _ (by decide +kernel) fun t hf y => ?_
  blk_simp
  rw [after0_5]
  unfold out0_5
  frame_out
  have e1 : iblk m c 1 t y = (m ((c : Thread nD τ).loc main_arg1)) (((View.whole main_v0_1).slice (win0_5.rect t)).emb y) := by
    blk_ext! [iblk, V, place1 t, place5 t]
  have e2 : iblk m c 2 t y = (m ((c : Thread nD τ).loc main_arg2)) (((View.whole main_v0_1).slice (win0_5.rect t)).emb y) := by
    blk_ext! [iblk, V, place2 t, place5 t]
  rw [← e1]
  rw [← e2]
  rfl

/-- What the call leaves of the new second moment. -/
theorem final6 (c : Dev nD) : (dats m 0 c).arrAt 6 cfg0.N = fun i => Cert.Proof.Adam.second ((m ((c : Thread nD τ).loc main_arg1)) i) ((m ((c : Thread nD τ).loc main_arg3)) i) := by
  refine (dats m 0 c).arrAt_eq_of_covers 6 _ (by decide +kernel) fun t hf y => ?_
  blk_simp
  rw [after0_6]
  unfold out0_6
  frame_out
  have e1 : iblk m c 1 t y = (m ((c : Thread nD τ).loc main_arg1)) (((View.whole main_v0_2).slice (win0_6.rect t)).emb y) := by
    blk_ext! [iblk, V, place1 t, place6 t]
  have e3 : iblk m c 3 t y = (m ((c : Thread nD τ).loc main_arg3)) (((View.whole main_v0_2).slice (win0_6.rect t)).emb y) := by
    blk_ext! [iblk, V, place3 t, place6 t]
  rw [← e1]
  rw [← e3]
  rfl

end Cert.Kernel17Ideal.Sum

namespace Cert.Reference17Ideal.Read

open Idealize.ShloMosaic Idealize.ShloMosaic.TcCoe

/-- The reference's result is the same function of each entry. -/
theorem change (x0 x1 x2 x3 : S256x1024.Idx → EReal) : val_main_v23 (F := Ideal) x0 x1 x2 x3 = fun i => Cert.Proof.Adam.change (x0 i) (x1 i) (x2 i) (x3 i) := by
  funext i
  simp only [val_main_cst_apply, val_main_v0_apply, val_main_v1_apply, val_main_cst_0_apply, val_main_v2_apply, val_main_v3_apply, val_main_v4_apply, val_main_cst_1_apply, val_main_v5_apply, val_main_v6_apply, val_main_v7_apply, val_main_cst_2_apply, val_main_v8_apply, val_main_v9_apply, val_main_v10_apply, val_main_cst_3_apply, val_main_v11_apply, val_main_v12_apply, val_main_cst_4_apply, val_main_v13_apply, val_main_v14_apply, val_main_v15_apply, val_main_cst_5_apply, val_main_v16_apply, val_main_v17_apply, val_main_v18_apply, val_main_cst_6_apply, val_main_v19_apply, val_main_v20_apply, val_main_v21_apply, val_main_cst_7_apply, val_main_v22_apply, val_main_v23_apply]
  rfl

/-- The reference's result is the same function of each entry. -/
theorem first (x1 x2 : S256x1024.Idx → EReal) : val_main_v4 (F := Ideal) x1 x2 = fun i => Cert.Proof.Adam.first (x1 i) (x2 i) := by
  funext i
  simp only [val_main_cst_apply, val_main_v0_apply, val_main_v1_apply, val_main_cst_0_apply, val_main_v2_apply, val_main_v3_apply, val_main_v4_apply]
  rfl

/-- The reference's result is the same function of each entry. -/
theorem second (x1 x3 : S256x1024.Idx → EReal) : val_main_v10 (F := Ideal) x1 x3 = fun i => Cert.Proof.Adam.second (x1 i) (x3 i) := by
  funext i
  simp only [val_main_cst_1_apply, val_main_v5_apply, val_main_v6_apply, val_main_v7_apply, val_main_cst_2_apply, val_main_v8_apply, val_main_v9_apply, val_main_v10_apply]
  rfl

end Cert.Reference17Ideal.Read

namespace Cert.Proof.Adam17

open Idealize.ShloMosaic Idealize.SL.Sem

/-- The call and its reference leave equal results. -/
theorem algebraic : Cert.algebraic_Kernel17Ideal_Reference17Ideal := by
  pair_intro
  · run_from Cert.Kernel17Ideal.Value.run_blocks m g
  · run_from Cert.Reference17Ideal.Value.run m' g'
    · rw [Cert.Kernel17Ideal.Sum.final4 m c, Cert.Reference17Ideal.Read.val_main_v23_eq]
      exact Cert.Reference17Ideal.Read.change _ _ _ _
    · rw [Cert.Kernel17Ideal.Sum.final5 m c, Cert.Reference17Ideal.Read.val_main_v4_eq]
      exact Cert.Reference17Ideal.Read.first _ _
    · rw [Cert.Kernel17Ideal.Sum.final6 m c, Cert.Reference17Ideal.Read.val_main_v10_eq]
      exact Cert.Reference17Ideal.Read.second _ _

end Cert.Proof.Adam17

end
-- ==== Proof.Adam18.lean ====
module

public import proofs.«01_k».proof.Defs
public import proofs.«01_k».proof.Proof.Adam
public import proofs.«01_k».proof.Proof.Gen.Kernel18Ideal.Value
public import proofs.«01_k».proof.Proof.Gen.Reference18Ideal.Run
public import proofs.«01_k».proof.Proof.Gen.Reference18Ideal.Read
public import Idealize.ShloMosaic.Lib.Pipeline.ValueKit
public import Idealize.ShloMosaic.Lib.Pointwise
public import Idealize.ShloMosaic.Lib.Claim

/-!
The AdamW step on an array of the shape 1024x1408, that of w_up, block by block.
-/

@[expose] public section

set_option maxRecDepth 16384

noncomputable section

namespace Cert.Kernel18Ideal.Sum

open Cert.Kernel18Ideal Cert.Kernel18Ideal.Gen Idealize.ShloMosaic Idealize.ShloMosaic.TcCoe Idealize.SL.Sem

variable (m : (ℓ : Loc nD τ sig) → Buf (Elt Ideal) ℓ)

/-- The block of window 0 at each grid point. -/
theorem place0 : ∀ t : Fin cfg0.N, win0_0.index t = ![t.val, 0] :=
  (by decide +kernel : ∀ t : Fin grid0.N, win0_0.index t = ![t.val, 0])

/-- The block of window 1 at each grid point. -/
theorem place1 : ∀ t : Fin cfg0.N, win0_1.index t = ![t.val, 0] :=
  (by decide +kernel : ∀ t : Fin grid0.N, win0_1.index t = ![t.val, 0])

/-- The block of window 2 at each grid point. -/
theorem place2 : ∀ t : Fin cfg0.N, win0_2.index t = ![t.val, 0] :=
  (by decide +kernel : ∀ t : Fin grid0.N, win0_2.index t = ![t.val, 0])

/-- The block of window 3 at each grid point. -/
theorem place3 : ∀ t : Fin cfg0.N, win0_3.index t = ![t.val, 0] :=
  (by decide +kernel : ∀ t : Fin grid0.N, win0_3.index t = ![t.val, 0])

/-- The block of window 4 at each grid point. -/
theorem place4 : ∀ t : Fin cfg0.N, win0_4.index t = ![t.val, 0] :=
  (by decide +kernel : ∀ t : Fin grid0.N, win0_4.index t = ![t.val, 0])

/-- The block of window 5 at each grid point. -/
theorem place5 : ∀ t : Fin cfg0.N, win0_5.index t = ![t.val, 0] :=
  (by decide +kernel : ∀ t : Fin grid0.N, win0_5.index t = ![t.val, 0])

/-- The block of window 6 at each grid point. -/
theorem place6 : ∀ t : Fin cfg0.N, win0_6.index t = ![t.val, 0] :=
  (by decide +kernel : ∀ t : Fin grid0.N, win0_6.index t = ![t.val, 0])

/-- What the call leaves of the change. -/
theorem final4 (c : Dev nD) : (dats m 0 c).arrAt 4 cfg0.N = fun i => Cert.Proof.Adam.change ((m ((c : Thread nD τ).loc main_arg0)) i) ((m ((c : Thread nD τ).loc main_arg1)) i) ((m ((c : Thread nD τ).loc main_arg2)) i) ((m ((c : Thread nD τ).loc main_arg3)) i) := by
  refine (dats m 0 c).arrAt_eq_of_covers 4 _ (by decide +kernel) fun t hf y => ?_
  blk_simp
  rw [after0_4]
  unfold out0_4
  frame_out
  have e0 : iblk m c 0 t y = (m ((c : Thread nD τ).loc main_arg0)) (((View.whole main_v0_0).slice (win0_4.rect t)).emb y) := by
    blk_ext! [iblk, V, place0 t, place4 t]
  have e1 : iblk m c 1 t y = (m ((c : Thread nD τ).loc main_arg1)) (((View.whole main_v0_0).slice (win0_4.rect t)).emb y) := by
    blk_ext! [iblk, V, place1 t, place4 t]
  have e2 : iblk m c 2 t y = (m ((c : Thread nD τ).loc main_arg2)) (((View.whole main_v0_0).slice (win0_4.rect t)).emb y) := by
    blk_ext! [iblk, V, place2 t, place4 t]
  have e3 : iblk m c 3 t y = (m ((c : Thread nD τ).loc main_arg3)) (((View.whole main_v0_0).slice (win0_4.rect t)).emb y) := by
    blk_ext! [iblk, V, place3 t, place4 t]
  rw [← e0]
  rw [← e1]
  rw [← e2]
  rw [← e3]
  rfl

/-- What the call leaves of the new first moment. -/
theorem final5 (c : Dev nD) : (dats m 0 c).arrAt 5 cfg0.N = fun i => Cert.Proof.Adam.first ((m ((c : Thread nD τ).loc main_arg1)) i) ((m ((c : Thread nD τ).loc main_arg2)) i) := by
  refine (dats m 0 c).arrAt_eq_of_covers 5 _ (by decide +kernel) fun t hf y => ?_
  blk_simp
  rw [after0_5]
  unfold out0_5
  frame_out
  have e1 : iblk m c 1 t y = (m ((c : Thread nD τ).loc main_arg1)) (((View.whole main_v0_1).slice (win0_5.rect t)).emb y) := by
    blk_ext! [iblk, V, place1 t, place5 t]
  have e2 : iblk m c 2 t y = (m ((c : Thread nD τ).loc main_arg2)) (((View.whole main_v0_1).slice (win0_5.rect t)).emb y) := by
    blk_ext! [iblk, V, place2 t, place5 t]
  rw [← e1]
  rw [← e2]
  rfl

/-- What the call leaves of the new second moment. -/
theorem final6 (c : Dev nD) : (dats m 0 c).arrAt 6 cfg0.N = fun i => Cert.Proof.Adam.second ((m ((c : Thread nD τ).loc main_arg1)) i) ((m ((c : Thread nD τ).loc main_arg3)) i) := by
  refine (dats m 0 c).arrAt_eq_of_covers 6 _ (by decide +kernel) fun t hf y => ?_
  blk_simp
  rw [after0_6]
  unfold out0_6
  frame_out
  have e1 : iblk m c 1 t y = (m ((c : Thread nD τ).loc main_arg1)) (((View.whole main_v0_2).slice (win0_6.rect t)).emb y) := by
    blk_ext! [iblk, V, place1 t, place6 t]
  have e3 : iblk m c 3 t y = (m ((c : Thread nD τ).loc main_arg3)) (((View.whole main_v0_2).slice (win0_6.rect t)).emb y) := by
    blk_ext! [iblk, V, place3 t, place6 t]
  rw [← e1]
  rw [← e3]
  rfl

end Cert.Kernel18Ideal.Sum

namespace Cert.Reference18Ideal.Read

open Idealize.ShloMosaic Idealize.ShloMosaic.TcCoe

/-- The reference's result is the same function of each entry. -/
theorem change (x0 x1 x2 x3 : S1024x1408.Idx → EReal) : val_main_v23 (F := Ideal) x0 x1 x2 x3 = fun i => Cert.Proof.Adam.change (x0 i) (x1 i) (x2 i) (x3 i) := by
  funext i
  simp only [val_main_cst_apply, val_main_v0_apply, val_main_v1_apply, val_main_cst_0_apply, val_main_v2_apply, val_main_v3_apply, val_main_v4_apply, val_main_cst_1_apply, val_main_v5_apply, val_main_v6_apply, val_main_v7_apply, val_main_cst_2_apply, val_main_v8_apply, val_main_v9_apply, val_main_v10_apply, val_main_cst_3_apply, val_main_v11_apply, val_main_v12_apply, val_main_cst_4_apply, val_main_v13_apply, val_main_v14_apply, val_main_v15_apply, val_main_cst_5_apply, val_main_v16_apply, val_main_v17_apply, val_main_v18_apply, val_main_cst_6_apply, val_main_v19_apply, val_main_v20_apply, val_main_v21_apply, val_main_cst_7_apply, val_main_v22_apply, val_main_v23_apply]
  rfl

/-- The reference's result is the same function of each entry. -/
theorem first (x1 x2 : S1024x1408.Idx → EReal) : val_main_v4 (F := Ideal) x1 x2 = fun i => Cert.Proof.Adam.first (x1 i) (x2 i) := by
  funext i
  simp only [val_main_cst_apply, val_main_v0_apply, val_main_v1_apply, val_main_cst_0_apply, val_main_v2_apply, val_main_v3_apply, val_main_v4_apply]
  rfl

/-- The reference's result is the same function of each entry. -/
theorem second (x1 x3 : S1024x1408.Idx → EReal) : val_main_v10 (F := Ideal) x1 x3 = fun i => Cert.Proof.Adam.second (x1 i) (x3 i) := by
  funext i
  simp only [val_main_cst_1_apply, val_main_v5_apply, val_main_v6_apply, val_main_v7_apply, val_main_cst_2_apply, val_main_v8_apply, val_main_v9_apply, val_main_v10_apply]
  rfl

end Cert.Reference18Ideal.Read

namespace Cert.Proof.Adam18

open Idealize.ShloMosaic Idealize.SL.Sem

/-- The call and its reference leave equal results. -/
theorem algebraic : Cert.algebraic_Kernel18Ideal_Reference18Ideal := by
  pair_intro
  · run_from Cert.Kernel18Ideal.Value.run_blocks m g
  · run_from Cert.Reference18Ideal.Value.run m' g'
    · rw [Cert.Kernel18Ideal.Sum.final4 m c, Cert.Reference18Ideal.Read.val_main_v23_eq]
      exact Cert.Reference18Ideal.Read.change _ _ _ _
    · rw [Cert.Kernel18Ideal.Sum.final5 m c, Cert.Reference18Ideal.Read.val_main_v4_eq]
      exact Cert.Reference18Ideal.Read.first _ _
    · rw [Cert.Kernel18Ideal.Sum.final6 m c, Cert.Reference18Ideal.Read.val_main_v10_eq]
      exact Cert.Reference18Ideal.Read.second _ _

end Cert.Proof.Adam18

end
-- ==== Proof.Adam19.lean ====
module

public import proofs.«01_k».proof.Defs
public import proofs.«01_k».proof.Proof.Adam
public import proofs.«01_k».proof.Proof.Gen.Kernel19Ideal.Value
public import proofs.«01_k».proof.Proof.Gen.Reference19Ideal.Run
public import proofs.«01_k».proof.Proof.Gen.Reference19Ideal.Read
public import Idealize.ShloMosaic.Lib.Pipeline.ValueKit
public import Idealize.ShloMosaic.Lib.Pointwise
public import Idealize.ShloMosaic.Lib.Claim

/-!
The AdamW step on an array of the shape 704x1024, that of w_down, block by block.
-/

@[expose] public section

set_option maxRecDepth 16384

noncomputable section

namespace Cert.Kernel19Ideal.Sum

open Cert.Kernel19Ideal Cert.Kernel19Ideal.Gen Idealize.ShloMosaic Idealize.ShloMosaic.TcCoe Idealize.SL.Sem

variable (m : (ℓ : Loc nD τ sig) → Buf (Elt Ideal) ℓ)

/-- The block of window 0 at each grid point. -/
theorem place0 : ∀ t : Fin cfg0.N, win0_0.index t = ![t.val, 0] :=
  (by decide +kernel : ∀ t : Fin grid0.N, win0_0.index t = ![t.val, 0])

/-- The block of window 1 at each grid point. -/
theorem place1 : ∀ t : Fin cfg0.N, win0_1.index t = ![t.val, 0] :=
  (by decide +kernel : ∀ t : Fin grid0.N, win0_1.index t = ![t.val, 0])

/-- The block of window 2 at each grid point. -/
theorem place2 : ∀ t : Fin cfg0.N, win0_2.index t = ![t.val, 0] :=
  (by decide +kernel : ∀ t : Fin grid0.N, win0_2.index t = ![t.val, 0])

/-- The block of window 3 at each grid point. -/
theorem place3 : ∀ t : Fin cfg0.N, win0_3.index t = ![t.val, 0] :=
  (by decide +kernel : ∀ t : Fin grid0.N, win0_3.index t = ![t.val, 0])

/-- The block of window 4 at each grid point. -/
theorem place4 : ∀ t : Fin cfg0.N, win0_4.index t = ![t.val, 0] :=
  (by decide +kernel : ∀ t : Fin grid0.N, win0_4.index t = ![t.val, 0])

/-- The block of window 5 at each grid point. -/
theorem place5 : ∀ t : Fin cfg0.N, win0_5.index t = ![t.val, 0] :=
  (by decide +kernel : ∀ t : Fin grid0.N, win0_5.index t = ![t.val, 0])

/-- The block of window 6 at each grid point. -/
theorem place6 : ∀ t : Fin cfg0.N, win0_6.index t = ![t.val, 0] :=
  (by decide +kernel : ∀ t : Fin grid0.N, win0_6.index t = ![t.val, 0])

/-- What the call leaves of the change. -/
theorem final4 (c : Dev nD) : (dats m 0 c).arrAt 4 cfg0.N = fun i => Cert.Proof.Adam.change ((m ((c : Thread nD τ).loc main_arg0)) i) ((m ((c : Thread nD τ).loc main_arg1)) i) ((m ((c : Thread nD τ).loc main_arg2)) i) ((m ((c : Thread nD τ).loc main_arg3)) i) := by
  refine (dats m 0 c).arrAt_eq_of_covers 4 _ (by decide +kernel) fun t hf y => ?_
  blk_simp
  rw [after0_4]
  unfold out0_4
  frame_out
  have e0 : iblk m c 0 t y = (m ((c : Thread nD τ).loc main_arg0)) (((View.whole main_v0_0).slice (win0_4.rect t)).emb y) := by
    blk_ext! [iblk, V, place0 t, place4 t]
  have e1 : iblk m c 1 t y = (m ((c : Thread nD τ).loc main_arg1)) (((View.whole main_v0_0).slice (win0_4.rect t)).emb y) := by
    blk_ext! [iblk, V, place1 t, place4 t]
  have e2 : iblk m c 2 t y = (m ((c : Thread nD τ).loc main_arg2)) (((View.whole main_v0_0).slice (win0_4.rect t)).emb y) := by
    blk_ext! [iblk, V, place2 t, place4 t]
  have e3 : iblk m c 3 t y = (m ((c : Thread nD τ).loc main_arg3)) (((View.whole main_v0_0).slice (win0_4.rect t)).emb y) := by
    blk_ext! [iblk, V, place3 t, place4 t]
  rw [← e0]
  rw [← e1]
  rw [← e2]
  rw [← e3]
  rfl

/-- What the call leaves of the new first moment. -/
theorem final5 (c : Dev nD) : (dats m 0 c).arrAt 5 cfg0.N = fun i => Cert.Proof.Adam.first ((m ((c : Thread nD τ).loc main_arg1)) i) ((m ((c : Thread nD τ).loc main_arg2)) i) := by
  refine (dats m 0 c).arrAt_eq_of_covers 5 _ (by decide +kernel) fun t hf y => ?_
  blk_simp
  rw [after0_5]
  unfold out0_5
  frame_out
  have e1 : iblk m c 1 t y = (m ((c : Thread nD τ).loc main_arg1)) (((View.whole main_v0_1).slice (win0_5.rect t)).emb y) := by
    blk_ext! [iblk, V, place1 t, place5 t]
  have e2 : iblk m c 2 t y = (m ((c : Thread nD τ).loc main_arg2)) (((View.whole main_v0_1).slice (win0_5.rect t)).emb y) := by
    blk_ext! [iblk, V, place2 t, place5 t]
  rw [← e1]
  rw [← e2]
  rfl

/-- What the call leaves of the new second moment. -/
theorem final6 (c : Dev nD) : (dats m 0 c).arrAt 6 cfg0.N = fun i => Cert.Proof.Adam.second ((m ((c : Thread nD τ).loc main_arg1)) i) ((m ((c : Thread nD τ).loc main_arg3)) i) := by
  refine (dats m 0 c).arrAt_eq_of_covers 6 _ (by decide +kernel) fun t hf y => ?_
  blk_simp
  rw [after0_6]
  unfold out0_6
  frame_out
  have e1 : iblk m c 1 t y = (m ((c : Thread nD τ).loc main_arg1)) (((View.whole main_v0_2).slice (win0_6.rect t)).emb y) := by
    blk_ext! [iblk, V, place1 t, place6 t]
  have e3 : iblk m c 3 t y = (m ((c : Thread nD τ).loc main_arg3)) (((View.whole main_v0_2).slice (win0_6.rect t)).emb y) := by
    blk_ext! [iblk, V, place3 t, place6 t]
  rw [← e1]
  rw [← e3]
  rfl

end Cert.Kernel19Ideal.Sum

namespace Cert.Reference19Ideal.Read

open Idealize.ShloMosaic Idealize.ShloMosaic.TcCoe

/-- The reference's result is the same function of each entry. -/
theorem change (x0 x1 x2 x3 : S704x1024.Idx → EReal) : val_main_v23 (F := Ideal) x0 x1 x2 x3 = fun i => Cert.Proof.Adam.change (x0 i) (x1 i) (x2 i) (x3 i) := by
  funext i
  simp only [val_main_cst_apply, val_main_v0_apply, val_main_v1_apply, val_main_cst_0_apply, val_main_v2_apply, val_main_v3_apply, val_main_v4_apply, val_main_cst_1_apply, val_main_v5_apply, val_main_v6_apply, val_main_v7_apply, val_main_cst_2_apply, val_main_v8_apply, val_main_v9_apply, val_main_v10_apply, val_main_cst_3_apply, val_main_v11_apply, val_main_v12_apply, val_main_cst_4_apply, val_main_v13_apply, val_main_v14_apply, val_main_v15_apply, val_main_cst_5_apply, val_main_v16_apply, val_main_v17_apply, val_main_v18_apply, val_main_cst_6_apply, val_main_v19_apply, val_main_v20_apply, val_main_v21_apply, val_main_cst_7_apply, val_main_v22_apply, val_main_v23_apply]
  rfl

/-- The reference's result is the same function of each entry. -/
theorem first (x1 x2 : S704x1024.Idx → EReal) : val_main_v4 (F := Ideal) x1 x2 = fun i => Cert.Proof.Adam.first (x1 i) (x2 i) := by
  funext i
  simp only [val_main_cst_apply, val_main_v0_apply, val_main_v1_apply, val_main_cst_0_apply, val_main_v2_apply, val_main_v3_apply, val_main_v4_apply]
  rfl

/-- The reference's result is the same function of each entry. -/
theorem second (x1 x3 : S704x1024.Idx → EReal) : val_main_v10 (F := Ideal) x1 x3 = fun i => Cert.Proof.Adam.second (x1 i) (x3 i) := by
  funext i
  simp only [val_main_cst_1_apply, val_main_v5_apply, val_main_v6_apply, val_main_v7_apply, val_main_cst_2_apply, val_main_v8_apply, val_main_v9_apply, val_main_v10_apply]
  rfl

end Cert.Reference19Ideal.Read

namespace Cert.Proof.Adam19

open Idealize.ShloMosaic Idealize.SL.Sem

/-- The call and its reference leave equal results. -/
theorem algebraic : Cert.algebraic_Kernel19Ideal_Reference19Ideal := by
  pair_intro
  · run_from Cert.Kernel19Ideal.Value.run_blocks m g
  · run_from Cert.Reference19Ideal.Value.run m' g'
    · rw [Cert.Kernel19Ideal.Sum.final4 m c, Cert.Reference19Ideal.Read.val_main_v23_eq]
      exact Cert.Reference19Ideal.Read.change _ _ _ _
    · rw [Cert.Kernel19Ideal.Sum.final5 m c, Cert.Reference19Ideal.Read.val_main_v4_eq]
      exact Cert.Reference19Ideal.Read.first _ _
    · rw [Cert.Kernel19Ideal.Sum.final6 m c, Cert.Reference19Ideal.Read.val_main_v10_eq]
      exact Cert.Reference19Ideal.Read.second _ _

end Cert.Proof.Adam19

end
-- ==== Proof.Adam20.lean ====
module

public import proofs.«01_k».proof.Defs
public import proofs.«01_k».proof.Proof.Adam
public import proofs.«01_k».proof.Proof.Gen.Kernel20Ideal.Value
public import proofs.«01_k».proof.Proof.Gen.Reference20Ideal.Run
public import proofs.«01_k».proof.Proof.Gen.Reference20Ideal.Read
public import Idealize.ShloMosaic.Lib.Pipeline.ValueKit
public import Idealize.ShloMosaic.Lib.Pointwise
public import Idealize.ShloMosaic.Lib.Claim

/-!
The AdamW step on an array of the shape 512x256, that of w_out_conv and w_out_attn, block by block.
-/

@[expose] public section

set_option maxRecDepth 16384

noncomputable section

namespace Cert.Kernel20Ideal.Sum

open Cert.Kernel20Ideal Cert.Kernel20Ideal.Gen Idealize.ShloMosaic Idealize.ShloMosaic.TcCoe Idealize.SL.Sem

variable (m : (ℓ : Loc nD τ sig) → Buf (Elt Ideal) ℓ)

/-- The block of window 0 at each grid point. -/
theorem place0 : ∀ t : Fin cfg0.N, win0_0.index t = ![t.val, 0] :=
  (by decide +kernel : ∀ t : Fin grid0.N, win0_0.index t = ![t.val, 0])

/-- The block of window 1 at each grid point. -/
theorem place1 : ∀ t : Fin cfg0.N, win0_1.index t = ![t.val, 0] :=
  (by decide +kernel : ∀ t : Fin grid0.N, win0_1.index t = ![t.val, 0])

/-- The block of window 2 at each grid point. -/
theorem place2 : ∀ t : Fin cfg0.N, win0_2.index t = ![t.val, 0] :=
  (by decide +kernel : ∀ t : Fin grid0.N, win0_2.index t = ![t.val, 0])

/-- The block of window 3 at each grid point. -/
theorem place3 : ∀ t : Fin cfg0.N, win0_3.index t = ![t.val, 0] :=
  (by decide +kernel : ∀ t : Fin grid0.N, win0_3.index t = ![t.val, 0])

/-- The block of window 4 at each grid point. -/
theorem place4 : ∀ t : Fin cfg0.N, win0_4.index t = ![t.val, 0] :=
  (by decide +kernel : ∀ t : Fin grid0.N, win0_4.index t = ![t.val, 0])

/-- The block of window 5 at each grid point. -/
theorem place5 : ∀ t : Fin cfg0.N, win0_5.index t = ![t.val, 0] :=
  (by decide +kernel : ∀ t : Fin grid0.N, win0_5.index t = ![t.val, 0])

/-- The block of window 6 at each grid point. -/
theorem place6 : ∀ t : Fin cfg0.N, win0_6.index t = ![t.val, 0] :=
  (by decide +kernel : ∀ t : Fin grid0.N, win0_6.index t = ![t.val, 0])

/-- What the call leaves of the change. -/
theorem final4 (c : Dev nD) : (dats m 0 c).arrAt 4 cfg0.N = fun i => Cert.Proof.Adam.change ((m ((c : Thread nD τ).loc main_arg0)) i) ((m ((c : Thread nD τ).loc main_arg1)) i) ((m ((c : Thread nD τ).loc main_arg2)) i) ((m ((c : Thread nD τ).loc main_arg3)) i) := by
  refine (dats m 0 c).arrAt_eq_of_covers 4 _ (by decide +kernel) fun t hf y => ?_
  blk_simp
  rw [after0_4]
  unfold out0_4
  frame_out
  have e0 : iblk m c 0 t y = (m ((c : Thread nD τ).loc main_arg0)) (((View.whole main_v0_0).slice (win0_4.rect t)).emb y) := by
    blk_ext! [iblk, V, place0 t, place4 t]
  have e1 : iblk m c 1 t y = (m ((c : Thread nD τ).loc main_arg1)) (((View.whole main_v0_0).slice (win0_4.rect t)).emb y) := by
    blk_ext! [iblk, V, place1 t, place4 t]
  have e2 : iblk m c 2 t y = (m ((c : Thread nD τ).loc main_arg2)) (((View.whole main_v0_0).slice (win0_4.rect t)).emb y) := by
    blk_ext! [iblk, V, place2 t, place4 t]
  have e3 : iblk m c 3 t y = (m ((c : Thread nD τ).loc main_arg3)) (((View.whole main_v0_0).slice (win0_4.rect t)).emb y) := by
    blk_ext! [iblk, V, place3 t, place4 t]
  rw [← e0]
  rw [← e1]
  rw [← e2]
  rw [← e3]
  rfl

/-- What the call leaves of the new first moment. -/
theorem final5 (c : Dev nD) : (dats m 0 c).arrAt 5 cfg0.N = fun i => Cert.Proof.Adam.first ((m ((c : Thread nD τ).loc main_arg1)) i) ((m ((c : Thread nD τ).loc main_arg2)) i) := by
  refine (dats m 0 c).arrAt_eq_of_covers 5 _ (by decide +kernel) fun t hf y => ?_
  blk_simp
  rw [after0_5]
  unfold out0_5
  frame_out
  have e1 : iblk m c 1 t y = (m ((c : Thread nD τ).loc main_arg1)) (((View.whole main_v0_1).slice (win0_5.rect t)).emb y) := by
    blk_ext! [iblk, V, place1 t, place5 t]
  have e2 : iblk m c 2 t y = (m ((c : Thread nD τ).loc main_arg2)) (((View.whole main_v0_1).slice (win0_5.rect t)).emb y) := by
    blk_ext! [iblk, V, place2 t, place5 t]
  rw [← e1]
  rw [← e2]
  rfl

/-- What the call leaves of the new second moment. -/
theorem final6 (c : Dev nD) : (dats m 0 c).arrAt 6 cfg0.N = fun i => Cert.Proof.Adam.second ((m ((c : Thread nD τ).loc main_arg1)) i) ((m ((c : Thread nD τ).loc main_arg3)) i) := by
  refine (dats m 0 c).arrAt_eq_of_covers 6 _ (by decide +kernel) fun t hf y => ?_
  blk_simp
  rw [after0_6]
  unfold out0_6
  frame_out
  have e1 : iblk m c 1 t y = (m ((c : Thread nD τ).loc main_arg1)) (((View.whole main_v0_2).slice (win0_6.rect t)).emb y) := by
    blk_ext! [iblk, V, place1 t, place6 t]
  have e3 : iblk m c 3 t y = (m ((c : Thread nD τ).loc main_arg3)) (((View.whole main_v0_2).slice (win0_6.rect t)).emb y) := by
    blk_ext! [iblk, V, place3 t, place6 t]
  rw [← e1]
  rw [← e3]
  rfl

end Cert.Kernel20Ideal.Sum

namespace Cert.Reference20Ideal.Read

open Idealize.ShloMosaic Idealize.ShloMosaic.TcCoe

/-- The reference's result is the same function of each entry. -/
theorem change (x0 x1 x2 x3 : S512x256.Idx → EReal) : val_main_v23 (F := Ideal) x0 x1 x2 x3 = fun i => Cert.Proof.Adam.change (x0 i) (x1 i) (x2 i) (x3 i) := by
  funext i
  simp only [val_main_cst_apply, val_main_v0_apply, val_main_v1_apply, val_main_cst_0_apply, val_main_v2_apply, val_main_v3_apply, val_main_v4_apply, val_main_cst_1_apply, val_main_v5_apply, val_main_v6_apply, val_main_v7_apply, val_main_cst_2_apply, val_main_v8_apply, val_main_v9_apply, val_main_v10_apply, val_main_cst_3_apply, val_main_v11_apply, val_main_v12_apply, val_main_cst_4_apply, val_main_v13_apply, val_main_v14_apply, val_main_v15_apply, val_main_cst_5_apply, val_main_v16_apply, val_main_v17_apply, val_main_v18_apply, val_main_cst_6_apply, val_main_v19_apply, val_main_v20_apply, val_main_v21_apply, val_main_cst_7_apply, val_main_v22_apply, val_main_v23_apply]
  rfl

/-- The reference's result is the same function of each entry. -/
theorem first (x1 x2 : S512x256.Idx → EReal) : val_main_v4 (F := Ideal) x1 x2 = fun i => Cert.Proof.Adam.first (x1 i) (x2 i) := by
  funext i
  simp only [val_main_cst_apply, val_main_v0_apply, val_main_v1_apply, val_main_cst_0_apply, val_main_v2_apply, val_main_v3_apply, val_main_v4_apply]
  rfl

/-- The reference's result is the same function of each entry. -/
theorem second (x1 x3 : S512x256.Idx → EReal) : val_main_v10 (F := Ideal) x1 x3 = fun i => Cert.Proof.Adam.second (x1 i) (x3 i) := by
  funext i
  simp only [val_main_cst_1_apply, val_main_v5_apply, val_main_v6_apply, val_main_v7_apply, val_main_cst_2_apply, val_main_v8_apply, val_main_v9_apply, val_main_v10_apply]
  rfl

end Cert.Reference20Ideal.Read

namespace Cert.Proof.Adam20

open Idealize.ShloMosaic Idealize.SL.Sem

/-- The call and its reference leave equal results. -/
theorem algebraic : Cert.algebraic_Kernel20Ideal_Reference20Ideal := by
  pair_intro
  · run_from Cert.Kernel20Ideal.Value.run_blocks m g
  · run_from Cert.Reference20Ideal.Value.run m' g'
    · rw [Cert.Kernel20Ideal.Sum.final4 m c, Cert.Reference20Ideal.Read.val_main_v23_eq]
      exact Cert.Reference20Ideal.Read.change _ _ _ _
    · rw [Cert.Kernel20Ideal.Sum.final5 m c, Cert.Reference20Ideal.Read.val_main_v4_eq]
      exact Cert.Reference20Ideal.Read.first _ _
    · rw [Cert.Kernel20Ideal.Sum.final6 m c, Cert.Reference20Ideal.Read.val_main_v10_eq]
      exact Cert.Reference20Ideal.Read.second _ _

end Cert.Proof.Adam20

end
-- ==== Proof.Adam21.lean ====
module

public import proofs.«01_k».proof.Defs
public import proofs.«01_k».proof.Proof.Adam
public import proofs.«01_k».proof.Proof.Gen.Kernel21Ideal.Value
public import proofs.«01_k».proof.Proof.Gen.Reference21Ideal.Run
public import proofs.«01_k».proof.Proof.Gen.Reference21Ideal.Read
public import Idealize.ShloMosaic.Lib.Pipeline.ValueKit
public import Idealize.ShloMosaic.Lib.Pointwise
public import Idealize.ShloMosaic.Lib.Claim

/-!
The AdamW step on an array of the shape 3x1408, that of conv_ffn_w, block by block.
-/

@[expose] public section

set_option maxRecDepth 16384

noncomputable section

namespace Cert.Kernel21Ideal.Sum

open Cert.Kernel21Ideal Cert.Kernel21Ideal.Gen Idealize.ShloMosaic Idealize.ShloMosaic.TcCoe Idealize.SL.Sem

variable (m : (ℓ : Loc nD τ sig) → Buf (Elt Ideal) ℓ)

/-- The block of window 0 at each grid point. -/
theorem place0 : ∀ t : Fin cfg0.N, win0_0.index t = ![0, t.val] :=
  (by decide +kernel : ∀ t : Fin grid0.N, win0_0.index t = ![0, t.val])

/-- The block of window 1 at each grid point. -/
theorem place1 : ∀ t : Fin cfg0.N, win0_1.index t = ![0, t.val] :=
  (by decide +kernel : ∀ t : Fin grid0.N, win0_1.index t = ![0, t.val])

/-- The block of window 2 at each grid point. -/
theorem place2 : ∀ t : Fin cfg0.N, win0_2.index t = ![0, t.val] :=
  (by decide +kernel : ∀ t : Fin grid0.N, win0_2.index t = ![0, t.val])

/-- The block of window 3 at each grid point. -/
theorem place3 : ∀ t : Fin cfg0.N, win0_3.index t = ![0, t.val] :=
  (by decide +kernel : ∀ t : Fin grid0.N, win0_3.index t = ![0, t.val])

/-- The block of window 4 at each grid point. -/
theorem place4 : ∀ t : Fin cfg0.N, win0_4.index t = ![0, t.val] :=
  (by decide +kernel : ∀ t : Fin grid0.N, win0_4.index t = ![0, t.val])

/-- The block of window 5 at each grid point. -/
theorem place5 : ∀ t : Fin cfg0.N, win0_5.index t = ![0, t.val] :=
  (by decide +kernel : ∀ t : Fin grid0.N, win0_5.index t = ![0, t.val])

/-- The block of window 6 at each grid point. -/
theorem place6 : ∀ t : Fin cfg0.N, win0_6.index t = ![0, t.val] :=
  (by decide +kernel : ∀ t : Fin grid0.N, win0_6.index t = ![0, t.val])

/-- What the call leaves of the change. -/
theorem final4 (c : Dev nD) : (dats m 0 c).arrAt 4 cfg0.N = fun i => Cert.Proof.Adam.change ((m ((c : Thread nD τ).loc main_arg0)) i) ((m ((c : Thread nD τ).loc main_arg1)) i) ((m ((c : Thread nD τ).loc main_arg2)) i) ((m ((c : Thread nD τ).loc main_arg3)) i) := by
  refine (dats m 0 c).arrAt_eq_of_covers 4 _ (by decide +kernel) fun t hf y => ?_
  blk_simp
  rw [after0_4]
  unfold out0_4
  frame_out
  have e0 : iblk m c 0 t y = (m ((c : Thread nD τ).loc main_arg0)) (((View.whole main_v0_0).slice (win0_4.rect t)).emb y) := by
    blk_ext! [iblk, V, place0 t, place4 t]
  have e1 : iblk m c 1 t y = (m ((c : Thread nD τ).loc main_arg1)) (((View.whole main_v0_0).slice (win0_4.rect t)).emb y) := by
    blk_ext! [iblk, V, place1 t, place4 t]
  have e2 : iblk m c 2 t y = (m ((c : Thread nD τ).loc main_arg2)) (((View.whole main_v0_0).slice (win0_4.rect t)).emb y) := by
    blk_ext! [iblk, V, place2 t, place4 t]
  have e3 : iblk m c 3 t y = (m ((c : Thread nD τ).loc main_arg3)) (((View.whole main_v0_0).slice (win0_4.rect t)).emb y) := by
    blk_ext! [iblk, V, place3 t, place4 t]
  rw [← e0]
  rw [← e1]
  rw [← e2]
  rw [← e3]
  rfl

/-- What the call leaves of the new first moment. -/
theorem final5 (c : Dev nD) : (dats m 0 c).arrAt 5 cfg0.N = fun i => Cert.Proof.Adam.first ((m ((c : Thread nD τ).loc main_arg1)) i) ((m ((c : Thread nD τ).loc main_arg2)) i) := by
  refine (dats m 0 c).arrAt_eq_of_covers 5 _ (by decide +kernel) fun t hf y => ?_
  blk_simp
  rw [after0_5]
  unfold out0_5
  frame_out
  have e1 : iblk m c 1 t y = (m ((c : Thread nD τ).loc main_arg1)) (((View.whole main_v0_1).slice (win0_5.rect t)).emb y) := by
    blk_ext! [iblk, V, place1 t, place5 t]
  have e2 : iblk m c 2 t y = (m ((c : Thread nD τ).loc main_arg2)) (((View.whole main_v0_1).slice (win0_5.rect t)).emb y) := by
    blk_ext! [iblk, V, place2 t, place5 t]
  rw [← e1]
  rw [← e2]
  rfl

/-- What the call leaves of the new second moment. -/
theorem final6 (c : Dev nD) : (dats m 0 c).arrAt 6 cfg0.N = fun i => Cert.Proof.Adam.second ((m ((c : Thread nD τ).loc main_arg1)) i) ((m ((c : Thread nD τ).loc main_arg3)) i) := by
  refine (dats m 0 c).arrAt_eq_of_covers 6 _ (by decide +kernel) fun t hf y => ?_
  blk_simp
  rw [after0_6]
  unfold out0_6
  frame_out
  have e1 : iblk m c 1 t y = (m ((c : Thread nD τ).loc main_arg1)) (((View.whole main_v0_2).slice (win0_6.rect t)).emb y) := by
    blk_ext! [iblk, V, place1 t, place6 t]
  have e3 : iblk m c 3 t y = (m ((c : Thread nD τ).loc main_arg3)) (((View.whole main_v0_2).slice (win0_6.rect t)).emb y) := by
    blk_ext! [iblk, V, place3 t, place6 t]
  rw [← e1]
  rw [← e3]
  rfl

end Cert.Kernel21Ideal.Sum

namespace Cert.Reference21Ideal.Read

open Idealize.ShloMosaic Idealize.ShloMosaic.TcCoe

/-- The reference's result is the same function of each entry. -/
theorem change (x0 x1 x2 x3 : S3x1408.Idx → EReal) : val_main_v23 (F := Ideal) x0 x1 x2 x3 = fun i => Cert.Proof.Adam.change (x0 i) (x1 i) (x2 i) (x3 i) := by
  funext i
  simp only [val_main_cst_apply, val_main_v0_apply, val_main_v1_apply, val_main_cst_0_apply, val_main_v2_apply, val_main_v3_apply, val_main_v4_apply, val_main_cst_1_apply, val_main_v5_apply, val_main_v6_apply, val_main_v7_apply, val_main_cst_2_apply, val_main_v8_apply, val_main_v9_apply, val_main_v10_apply, val_main_cst_3_apply, val_main_v11_apply, val_main_v12_apply, val_main_cst_4_apply, val_main_v13_apply, val_main_v14_apply, val_main_v15_apply, val_main_cst_5_apply, val_main_v16_apply, val_main_v17_apply, val_main_v18_apply, val_main_cst_6_apply, val_main_v19_apply, val_main_v20_apply, val_main_v21_apply, val_main_cst_7_apply, val_main_v22_apply, val_main_v23_apply]
  rfl

/-- The reference's result is the same function of each entry. -/
theorem first (x1 x2 : S3x1408.Idx → EReal) : val_main_v4 (F := Ideal) x1 x2 = fun i => Cert.Proof.Adam.first (x1 i) (x2 i) := by
  funext i
  simp only [val_main_cst_apply, val_main_v0_apply, val_main_v1_apply, val_main_cst_0_apply, val_main_v2_apply, val_main_v3_apply, val_main_v4_apply]
  rfl

/-- The reference's result is the same function of each entry. -/
theorem second (x1 x3 : S3x1408.Idx → EReal) : val_main_v10 (F := Ideal) x1 x3 = fun i => Cert.Proof.Adam.second (x1 i) (x3 i) := by
  funext i
  simp only [val_main_cst_1_apply, val_main_v5_apply, val_main_v6_apply, val_main_v7_apply, val_main_cst_2_apply, val_main_v8_apply, val_main_v9_apply, val_main_v10_apply]
  rfl

end Cert.Reference21Ideal.Read

namespace Cert.Proof.Adam21

open Idealize.ShloMosaic Idealize.SL.Sem

/-- The call and its reference leave equal results. -/
theorem algebraic : Cert.algebraic_Kernel21Ideal_Reference21Ideal := by
  pair_intro
  · run_from Cert.Kernel21Ideal.Value.run_blocks m g
  · run_from Cert.Reference21Ideal.Value.run m' g'
    · rw [Cert.Kernel21Ideal.Sum.final4 m c, Cert.Reference21Ideal.Read.val_main_v23_eq]
      exact Cert.Reference21Ideal.Read.change _ _ _ _
    · rw [Cert.Kernel21Ideal.Sum.final5 m c, Cert.Reference21Ideal.Read.val_main_v4_eq]
      exact Cert.Reference21Ideal.Read.first _ _
    · rw [Cert.Kernel21Ideal.Sum.final6 m c, Cert.Reference21Ideal.Read.val_main_v10_eq]
      exact Cert.Reference21Ideal.Read.second _ _

end Cert.Proof.Adam21

end
-- ==== Proof.Adam22.lean ====
module

public import proofs.«01_k».proof.Defs
public import proofs.«01_k».proof.Proof.Adam
public import proofs.«01_k».proof.Proof.Gen.Kernel22Ideal.Value
public import proofs.«01_k».proof.Proof.Gen.Reference22Ideal.Run
public import proofs.«01_k».proof.Proof.Gen.Reference22Ideal.Read
public import Idealize.ShloMosaic.Lib.Pipeline.ValueKit
public import Idealize.ShloMosaic.Lib.Pointwise
public import Idealize.ShloMosaic.Lib.Claim

/-!
The AdamW step on an array of the shape 3x128, that of conv_mix_w, block by block.
-/

@[expose] public section

set_option maxRecDepth 16384

noncomputable section

namespace Cert.Kernel22Ideal.Sum

open Cert.Kernel22Ideal Cert.Kernel22Ideal.Gen Idealize.ShloMosaic Idealize.ShloMosaic.TcCoe Idealize.SL.Sem

variable (m : (ℓ : Loc nD τ sig) → Buf (Elt Ideal) ℓ)

/-- The block of window 0 at each grid point. -/
theorem place0 : ∀ t : Fin cfg0.N, win0_0.index t = ![0, 0] :=
  (by decide +kernel : ∀ t : Fin grid0.N, win0_0.index t = ![0, 0])

/-- The block of window 1 at each grid point. -/
theorem place1 : ∀ t : Fin cfg0.N, win0_1.index t = ![0, 0] :=
  (by decide +kernel : ∀ t : Fin grid0.N, win0_1.index t = ![0, 0])

/-- The block of window 2 at each grid point. -/
theorem place2 : ∀ t : Fin cfg0.N, win0_2.index t = ![0, 0] :=
  (by decide +kernel : ∀ t : Fin grid0.N, win0_2.index t = ![0, 0])

/-- The block of window 3 at each grid point. -/
theorem place3 : ∀ t : Fin cfg0.N, win0_3.index t = ![0, 0] :=
  (by decide +kernel : ∀ t : Fin grid0.N, win0_3.index t = ![0, 0])

/-- The block of window 4 at each grid point. -/
theorem place4 : ∀ t : Fin cfg0.N, win0_4.index t = ![0, 0] :=
  (by decide +kernel : ∀ t : Fin grid0.N, win0_4.index t = ![0, 0])

/-- The block of window 5 at each grid point. -/
theorem place5 : ∀ t : Fin cfg0.N, win0_5.index t = ![0, 0] :=
  (by decide +kernel : ∀ t : Fin grid0.N, win0_5.index t = ![0, 0])

/-- The block of window 6 at each grid point. -/
theorem place6 : ∀ t : Fin cfg0.N, win0_6.index t = ![0, 0] :=
  (by decide +kernel : ∀ t : Fin grid0.N, win0_6.index t = ![0, 0])

/-- What the call leaves of the change. -/
theorem final4 (c : Dev nD) : (dats m 0 c).arrAt 4 cfg0.N = fun i => Cert.Proof.Adam.change ((m ((c : Thread nD τ).loc main_arg0)) i) ((m ((c : Thread nD τ).loc main_arg1)) i) ((m ((c : Thread nD τ).loc main_arg2)) i) ((m ((c : Thread nD τ).loc main_arg3)) i) := by
  refine (dats m 0 c).arrAt_eq_of_covers 4 _ (by decide +kernel) fun t hf y => ?_
  blk_simp
  rw [after0_4]
  unfold out0_4
  frame_out
  have e0 : iblk m c 0 t y = (m ((c : Thread nD τ).loc main_arg0)) (((View.whole main_v0_0).slice (win0_4.rect t)).emb y) := by
    blk_ext! [iblk, V, place0 t, place4 t]
  have e1 : iblk m c 1 t y = (m ((c : Thread nD τ).loc main_arg1)) (((View.whole main_v0_0).slice (win0_4.rect t)).emb y) := by
    blk_ext! [iblk, V, place1 t, place4 t]
  have e2 : iblk m c 2 t y = (m ((c : Thread nD τ).loc main_arg2)) (((View.whole main_v0_0).slice (win0_4.rect t)).emb y) := by
    blk_ext! [iblk, V, place2 t, place4 t]
  have e3 : iblk m c 3 t y = (m ((c : Thread nD τ).loc main_arg3)) (((View.whole main_v0_0).slice (win0_4.rect t)).emb y) := by
    blk_ext! [iblk, V, place3 t, place4 t]
  rw [← e0]
  rw [← e1]
  rw [← e2]
  rw [← e3]
  rfl

/-- What the call leaves of the new first moment. -/
theorem final5 (c : Dev nD) : (dats m 0 c).arrAt 5 cfg0.N = fun i => Cert.Proof.Adam.first ((m ((c : Thread nD τ).loc main_arg1)) i) ((m ((c : Thread nD τ).loc main_arg2)) i) := by
  refine (dats m 0 c).arrAt_eq_of_covers 5 _ (by decide +kernel) fun t hf y => ?_
  blk_simp
  rw [after0_5]
  unfold out0_5
  frame_out
  have e1 : iblk m c 1 t y = (m ((c : Thread nD τ).loc main_arg1)) (((View.whole main_v0_1).slice (win0_5.rect t)).emb y) := by
    blk_ext! [iblk, V, place1 t, place5 t]
  have e2 : iblk m c 2 t y = (m ((c : Thread nD τ).loc main_arg2)) (((View.whole main_v0_1).slice (win0_5.rect t)).emb y) := by
    blk_ext! [iblk, V, place2 t, place5 t]
  rw [← e1]
  rw [← e2]
  rfl

/-- What the call leaves of the new second moment. -/
theorem final6 (c : Dev nD) : (dats m 0 c).arrAt 6 cfg0.N = fun i => Cert.Proof.Adam.second ((m ((c : Thread nD τ).loc main_arg1)) i) ((m ((c : Thread nD τ).loc main_arg3)) i) := by
  refine (dats m 0 c).arrAt_eq_of_covers 6 _ (by decide +kernel) fun t hf y => ?_
  blk_simp
  rw [after0_6]
  unfold out0_6
  frame_out
  have e1 : iblk m c 1 t y = (m ((c : Thread nD τ).loc main_arg1)) (((View.whole main_v0_2).slice (win0_6.rect t)).emb y) := by
    blk_ext! [iblk, V, place1 t, place6 t]
  have e3 : iblk m c 3 t y = (m ((c : Thread nD τ).loc main_arg3)) (((View.whole main_v0_2).slice (win0_6.rect t)).emb y) := by
    blk_ext! [iblk, V, place3 t, place6 t]
  rw [← e1]
  rw [← e3]
  rfl

end Cert.Kernel22Ideal.Sum

namespace Cert.Reference22Ideal.Read

open Idealize.ShloMosaic Idealize.ShloMosaic.TcCoe

/-- The reference's result is the same function of each entry. -/
theorem change (x0 x1 x2 x3 : S3x128.Idx → EReal) : val_main_v23 (F := Ideal) x0 x1 x2 x3 = fun i => Cert.Proof.Adam.change (x0 i) (x1 i) (x2 i) (x3 i) := by
  funext i
  simp only [val_main_cst_apply, val_main_v0_apply, val_main_v1_apply, val_main_cst_0_apply, val_main_v2_apply, val_main_v3_apply, val_main_v4_apply, val_main_cst_1_apply, val_main_v5_apply, val_main_v6_apply, val_main_v7_apply, val_main_cst_2_apply, val_main_v8_apply, val_main_v9_apply, val_main_v10_apply, val_main_cst_3_apply, val_main_v11_apply, val_main_v12_apply, val_main_cst_4_apply, val_main_v13_apply, val_main_v14_apply, val_main_v15_apply, val_main_cst_5_apply, val_main_v16_apply, val_main_v17_apply, val_main_v18_apply, val_main_cst_6_apply, val_main_v19_apply, val_main_v20_apply, val_main_v21_apply, val_main_cst_7_apply, val_main_v22_apply, val_main_v23_apply]
  rfl

/-- The reference's result is the same function of each entry. -/
theorem first (x1 x2 : S3x128.Idx → EReal) : val_main_v4 (F := Ideal) x1 x2 = fun i => Cert.Proof.Adam.first (x1 i) (x2 i) := by
  funext i
  simp only [val_main_cst_apply, val_main_v0_apply, val_main_v1_apply, val_main_cst_0_apply, val_main_v2_apply, val_main_v3_apply, val_main_v4_apply]
  rfl

/-- The reference's result is the same function of each entry. -/
theorem second (x1 x3 : S3x128.Idx → EReal) : val_main_v10 (F := Ideal) x1 x3 = fun i => Cert.Proof.Adam.second (x1 i) (x3 i) := by
  funext i
  simp only [val_main_cst_1_apply, val_main_v5_apply, val_main_v6_apply, val_main_v7_apply, val_main_cst_2_apply, val_main_v8_apply, val_main_v9_apply, val_main_v10_apply]
  rfl

end Cert.Reference22Ideal.Read

namespace Cert.Proof.Adam22

open Idealize.ShloMosaic Idealize.SL.Sem

/-- The call and its reference leave equal results. -/
theorem algebraic : Cert.algebraic_Kernel22Ideal_Reference22Ideal := by
  pair_intro
  · run_from Cert.Kernel22Ideal.Value.run_blocks m g
  · run_from Cert.Reference22Ideal.Value.run m' g'
    · rw [Cert.Kernel22Ideal.Sum.final4 m c, Cert.Reference22Ideal.Read.val_main_v23_eq]
      exact Cert.Reference22Ideal.Read.change _ _ _ _
    · rw [Cert.Kernel22Ideal.Sum.final5 m c, Cert.Reference22Ideal.Read.val_main_v4_eq]
      exact Cert.Reference22Ideal.Read.first _ _
    · rw [Cert.Kernel22Ideal.Sum.final6 m c, Cert.Reference22Ideal.Read.val_main_v10_eq]
      exact Cert.Reference22Ideal.Read.second _ _

end Cert.Proof.Adam22

end
-- ==== Proof.Adam23.lean ====
module

public import proofs.«01_k».proof.Defs
public import proofs.«01_k».proof.Proof.Adam
public import proofs.«01_k».proof.Proof.Gen.Kernel23Ideal.Value
public import proofs.«01_k».proof.Proof.Gen.Reference23Ideal.Run
public import proofs.«01_k».proof.Proof.Gen.Reference23Ideal.Read
public import Idealize.ShloMosaic.Lib.Pipeline.ValueKit
public import Idealize.ShloMosaic.Lib.Pointwise
public import Idealize.ShloMosaic.Lib.Claim

/-!
The AdamW step on an array of the shape 1x1024, that of norm_mix_g, norm_ffn_g and norm_f_g, block by block.
-/

@[expose] public section

set_option maxRecDepth 16384

noncomputable section

namespace Cert.Kernel23Ideal.Sum

open Cert.Kernel23Ideal Cert.Kernel23Ideal.Gen Idealize.ShloMosaic Idealize.ShloMosaic.TcCoe Idealize.SL.Sem

variable (m : (ℓ : Loc nD τ sig) → Buf (Elt Ideal) ℓ)

/-- The block of window 0 at each grid point. -/
theorem place0 : ∀ t : Fin cfg0.N, win0_0.index t = ![0, t.val] :=
  (by decide +kernel : ∀ t : Fin grid0.N, win0_0.index t = ![0, t.val])

/-- The block of window 1 at each grid point. -/
theorem place1 : ∀ t : Fin cfg0.N, win0_1.index t = ![0, t.val] :=
  (by decide +kernel : ∀ t : Fin grid0.N, win0_1.index t = ![0, t.val])

/-- The block of window 2 at each grid point. -/
theorem place2 : ∀ t : Fin cfg0.N, win0_2.index t = ![0, t.val] :=
  (by decide +kernel : ∀ t : Fin grid0.N, win0_2.index t = ![0, t.val])

/-- The block of window 3 at each grid point. -/
theorem place3 : ∀ t : Fin cfg0.N, win0_3.index t = ![0, t.val] :=
  (by decide +kernel : ∀ t : Fin grid0.N, win0_3.index t = ![0, t.val])

/-- The block of window 4 at each grid point. -/
theorem place4 : ∀ t : Fin cfg0.N, win0_4.index t = ![0, t.val] :=
  (by decide +kernel : ∀ t : Fin grid0.N, win0_4.index t = ![0, t.val])

/-- The block of window 5 at each grid point. -/
theorem place5 : ∀ t : Fin cfg0.N, win0_5.index t = ![0, t.val] :=
  (by decide +kernel : ∀ t : Fin grid0.N, win0_5.index t = ![0, t.val])

/-- The block of window 6 at each grid point. -/
theorem place6 : ∀ t : Fin cfg0.N, win0_6.index t = ![0, t.val] :=
  (by decide +kernel : ∀ t : Fin grid0.N, win0_6.index t = ![0, t.val])

/-- What the call leaves of the change. -/
theorem final4 (c : Dev nD) : (dats m 0 c).arrAt 4 cfg0.N = fun i => Cert.Proof.Adam.change ((m ((c : Thread nD τ).loc main_arg0)) i) ((m ((c : Thread nD τ).loc main_arg1)) i) ((m ((c : Thread nD τ).loc main_arg2)) i) ((m ((c : Thread nD τ).loc main_arg3)) i) := by
  refine (dats m 0 c).arrAt_eq_of_covers 4 _ (by decide +kernel) fun t hf y => ?_
  blk_simp
  rw [after0_4]
  unfold out0_4
  frame_out
  have e0 : iblk m c 0 t y = (m ((c : Thread nD τ).loc main_arg0)) (((View.whole main_v0_0).slice (win0_4.rect t)).emb y) := by
    blk_ext! [iblk, V, place0 t, place4 t]
  have e1 : iblk m c 1 t y = (m ((c : Thread nD τ).loc main_arg1)) (((View.whole main_v0_0).slice (win0_4.rect t)).emb y) := by
    blk_ext! [iblk, V, place1 t, place4 t]
  have e2 : iblk m c 2 t y = (m ((c : Thread nD τ).loc main_arg2)) (((View.whole main_v0_0).slice (win0_4.rect t)).emb y) := by
    blk_ext! [iblk, V, place2 t, place4 t]
  have e3 : iblk m c 3 t y = (m ((c : Thread nD τ).loc main_arg3)) (((View.whole main_v0_0).slice (win0_4.rect t)).emb y) := by
    blk_ext! [iblk, V, place3 t, place4 t]
  rw [← e0]
  rw [← e1]
  rw [← e2]
  rw [← e3]
  rfl

/-- What the call leaves of the new first moment. -/
theorem final5 (c : Dev nD) : (dats m 0 c).arrAt 5 cfg0.N = fun i => Cert.Proof.Adam.first ((m ((c : Thread nD τ).loc main_arg1)) i) ((m ((c : Thread nD τ).loc main_arg2)) i) := by
  refine (dats m 0 c).arrAt_eq_of_covers 5 _ (by decide +kernel) fun t hf y => ?_
  blk_simp
  rw [after0_5]
  unfold out0_5
  frame_out
  have e1 : iblk m c 1 t y = (m ((c : Thread nD τ).loc main_arg1)) (((View.whole main_v0_1).slice (win0_5.rect t)).emb y) := by
    blk_ext! [iblk, V, place1 t, place5 t]
  have e2 : iblk m c 2 t y = (m ((c : Thread nD τ).loc main_arg2)) (((View.whole main_v0_1).slice (win0_5.rect t)).emb y) := by
    blk_ext! [iblk, V, place2 t, place5 t]
  rw [← e1]
  rw [← e2]
  rfl

/-- What the call leaves of the new second moment. -/
theorem final6 (c : Dev nD) : (dats m 0 c).arrAt 6 cfg0.N = fun i => Cert.Proof.Adam.second ((m ((c : Thread nD τ).loc main_arg1)) i) ((m ((c : Thread nD τ).loc main_arg3)) i) := by
  refine (dats m 0 c).arrAt_eq_of_covers 6 _ (by decide +kernel) fun t hf y => ?_
  blk_simp
  rw [after0_6]
  unfold out0_6
  frame_out
  have e1 : iblk m c 1 t y = (m ((c : Thread nD τ).loc main_arg1)) (((View.whole main_v0_2).slice (win0_6.rect t)).emb y) := by
    blk_ext! [iblk, V, place1 t, place6 t]
  have e3 : iblk m c 3 t y = (m ((c : Thread nD τ).loc main_arg3)) (((View.whole main_v0_2).slice (win0_6.rect t)).emb y) := by
    blk_ext! [iblk, V, place3 t, place6 t]
  rw [← e1]
  rw [← e3]
  rfl

end Cert.Kernel23Ideal.Sum

namespace Cert.Reference23Ideal.Read

open Idealize.ShloMosaic Idealize.ShloMosaic.TcCoe

/-- The reference's result is the same function of each entry. -/
theorem change (x0 x1 x2 x3 : S1x1024.Idx → EReal) : val_main_v23 (F := Ideal) x0 x1 x2 x3 = fun i => Cert.Proof.Adam.change (x0 i) (x1 i) (x2 i) (x3 i) := by
  funext i
  simp only [val_main_cst_apply, val_main_v0_apply, val_main_v1_apply, val_main_cst_0_apply, val_main_v2_apply, val_main_v3_apply, val_main_v4_apply, val_main_cst_1_apply, val_main_v5_apply, val_main_v6_apply, val_main_v7_apply, val_main_cst_2_apply, val_main_v8_apply, val_main_v9_apply, val_main_v10_apply, val_main_cst_3_apply, val_main_v11_apply, val_main_v12_apply, val_main_cst_4_apply, val_main_v13_apply, val_main_v14_apply, val_main_v15_apply, val_main_cst_5_apply, val_main_v16_apply, val_main_v17_apply, val_main_v18_apply, val_main_cst_6_apply, val_main_v19_apply, val_main_v20_apply, val_main_v21_apply, val_main_cst_7_apply, val_main_v22_apply, val_main_v23_apply]
  rfl

/-- The reference's result is the same function of each entry. -/
theorem first (x1 x2 : S1x1024.Idx → EReal) : val_main_v4 (F := Ideal) x1 x2 = fun i => Cert.Proof.Adam.first (x1 i) (x2 i) := by
  funext i
  simp only [val_main_cst_apply, val_main_v0_apply, val_main_v1_apply, val_main_cst_0_apply, val_main_v2_apply, val_main_v3_apply, val_main_v4_apply]
  rfl

/-- The reference's result is the same function of each entry. -/
theorem second (x1 x3 : S1x1024.Idx → EReal) : val_main_v10 (F := Ideal) x1 x3 = fun i => Cert.Proof.Adam.second (x1 i) (x3 i) := by
  funext i
  simp only [val_main_cst_1_apply, val_main_v5_apply, val_main_v6_apply, val_main_v7_apply, val_main_cst_2_apply, val_main_v8_apply, val_main_v9_apply, val_main_v10_apply]
  rfl

end Cert.Reference23Ideal.Read

namespace Cert.Proof.Adam23

open Idealize.ShloMosaic Idealize.SL.Sem

/-- The call and its reference leave equal results. -/
theorem algebraic : Cert.algebraic_Kernel23Ideal_Reference23Ideal := by
  pair_intro
  · run_from Cert.Kernel23Ideal.Value.run_blocks m g
  · run_from Cert.Reference23Ideal.Value.run m' g'
    · rw [Cert.Kernel23Ideal.Sum.final4 m c, Cert.Reference23Ideal.Read.val_main_v23_eq]
      exact Cert.Reference23Ideal.Read.change _ _ _ _
    · rw [Cert.Kernel23Ideal.Sum.final5 m c, Cert.Reference23Ideal.Read.val_main_v4_eq]
      exact Cert.Reference23Ideal.Read.first _ _
    · rw [Cert.Kernel23Ideal.Sum.final6 m c, Cert.Reference23Ideal.Read.val_main_v10_eq]
      exact Cert.Reference23Ideal.Read.second _ _

end Cert.Proof.Adam23

end
-- ==== Proof.Adam24.lean ====
module

public import proofs.«01_k».proof.Defs
public import proofs.«01_k».proof.Proof.Adam
public import proofs.«01_k».proof.Proof.Gen.Kernel24Ideal.Value
public import proofs.«01_k».proof.Proof.Gen.Reference24Ideal.Run
public import proofs.«01_k».proof.Proof.Gen.Reference24Ideal.Read
public import Idealize.ShloMosaic.Lib.Pipeline.ValueKit
public import Idealize.ShloMosaic.Lib.Pointwise
public import Idealize.ShloMosaic.Lib.Claim

/-!
The AdamW step on an array of the shape 1x2048, that of b_gate, block by block.
-/

@[expose] public section

set_option maxRecDepth 16384

noncomputable section

namespace Cert.Kernel24Ideal.Sum

open Cert.Kernel24Ideal Cert.Kernel24Ideal.Gen Idealize.ShloMosaic Idealize.ShloMosaic.TcCoe Idealize.SL.Sem

variable (m : (ℓ : Loc nD τ sig) → Buf (Elt Ideal) ℓ)

/-- The block of window 0 at each grid point. -/
theorem place0 : ∀ t : Fin cfg0.N, win0_0.index t = ![0, t.val] :=
  (by decide +kernel : ∀ t : Fin grid0.N, win0_0.index t = ![0, t.val])

/-- The block of window 1 at each grid point. -/
theorem place1 : ∀ t : Fin cfg0.N, win0_1.index t = ![0, t.val] :=
  (by decide +kernel : ∀ t : Fin grid0.N, win0_1.index t = ![0, t.val])

/-- The block of window 2 at each grid point. -/
theorem place2 : ∀ t : Fin cfg0.N, win0_2.index t = ![0, t.val] :=
  (by decide +kernel : ∀ t : Fin grid0.N, win0_2.index t = ![0, t.val])

/-- The block of window 3 at each grid point. -/
theorem place3 : ∀ t : Fin cfg0.N, win0_3.index t = ![0, t.val] :=
  (by decide +kernel : ∀ t : Fin grid0.N, win0_3.index t = ![0, t.val])

/-- The block of window 4 at each grid point. -/
theorem place4 : ∀ t : Fin cfg0.N, win0_4.index t = ![0, t.val] :=
  (by decide +kernel : ∀ t : Fin grid0.N, win0_4.index t = ![0, t.val])

/-- The block of window 5 at each grid point. -/
theorem place5 : ∀ t : Fin cfg0.N, win0_5.index t = ![0, t.val] :=
  (by decide +kernel : ∀ t : Fin grid0.N, win0_5.index t = ![0, t.val])

/-- The block of window 6 at each grid point. -/
theorem place6 : ∀ t : Fin cfg0.N, win0_6.index t = ![0, t.val] :=
  (by decide +kernel : ∀ t : Fin grid0.N, win0_6.index t = ![0, t.val])

/-- What the call leaves of the change. -/
theorem final4 (c : Dev nD) : (dats m 0 c).arrAt 4 cfg0.N = fun i => Cert.Proof.Adam.change ((m ((c : Thread nD τ).loc main_arg0)) i) ((m ((c : Thread nD τ).loc main_arg1)) i) ((m ((c : Thread nD τ).loc main_arg2)) i) ((m ((c : Thread nD τ).loc main_arg3)) i) := by
  refine (dats m 0 c).arrAt_eq_of_covers 4 _ (by decide +kernel) fun t hf y => ?_
  blk_simp
  rw [after0_4]
  unfold out0_4
  frame_out
  have e0 : iblk m c 0 t y = (m ((c : Thread nD τ).loc main_arg0)) (((View.whole main_v0_0).slice (win0_4.rect t)).emb y) := by
    blk_ext! [iblk, V, place0 t, place4 t]
  have e1 : iblk m c 1 t y = (m ((c : Thread nD τ).loc main_arg1)) (((View.whole main_v0_0).slice (win0_4.rect t)).emb y) := by
    blk_ext! [iblk, V, place1 t, place4 t]
  have e2 : iblk m c 2 t y = (m ((c : Thread nD τ).loc main_arg2)) (((View.whole main_v0_0).slice (win0_4.rect t)).emb y) := by
    blk_ext! [iblk, V, place2 t, place4 t]
  have e3 : iblk m c 3 t y = (m ((c : Thread nD τ).loc main_arg3)) (((View.whole main_v0_0).slice (win0_4.rect t)).emb y) := by
    blk_ext! [iblk, V, place3 t, place4 t]
  rw [← e0]
  rw [← e1]
  rw [← e2]
  rw [← e3]
  rfl

/-- What the call leaves of the new first moment. -/
theorem final5 (c : Dev nD) : (dats m 0 c).arrAt 5 cfg0.N = fun i => Cert.Proof.Adam.first ((m ((c : Thread nD τ).loc main_arg1)) i) ((m ((c : Thread nD τ).loc main_arg2)) i) := by
  refine (dats m 0 c).arrAt_eq_of_covers 5 _ (by decide +kernel) fun t hf y => ?_
  blk_simp
  rw [after0_5]
  unfold out0_5
  frame_out
  have e1 : iblk m c 1 t y = (m ((c : Thread nD τ).loc main_arg1)) (((View.whole main_v0_1).slice (win0_5.rect t)).emb y) := by
    blk_ext! [iblk, V, place1 t, place5 t]
  have e2 : iblk m c 2 t y = (m ((c : Thread nD τ).loc main_arg2)) (((View.whole main_v0_1).slice (win0_5.rect t)).emb y) := by
    blk_ext! [iblk, V, place2 t, place5 t]
  rw [← e1]
  rw [← e2]
  rfl

/-- What the call leaves of the new second moment. -/
theorem final6 (c : Dev nD) : (dats m 0 c).arrAt 6 cfg0.N = fun i => Cert.Proof.Adam.second ((m ((c : Thread nD τ).loc main_arg1)) i) ((m ((c : Thread nD τ).loc main_arg3)) i) := by
  refine (dats m 0 c).arrAt_eq_of_covers 6 _ (by decide +kernel) fun t hf y => ?_
  blk_simp
  rw [after0_6]
  unfold out0_6
  frame_out
  have e1 : iblk m c 1 t y = (m ((c : Thread nD τ).loc main_arg1)) (((View.whole main_v0_2).slice (win0_6.rect t)).emb y) := by
    blk_ext! [iblk, V, place1 t, place6 t]
  have e3 : iblk m c 3 t y = (m ((c : Thread nD τ).loc main_arg3)) (((View.whole main_v0_2).slice (win0_6.rect t)).emb y) := by
    blk_ext! [iblk, V, place3 t, place6 t]
  rw [← e1]
  rw [← e3]
  rfl

end Cert.Kernel24Ideal.Sum

namespace Cert.Reference24Ideal.Read

open Idealize.ShloMosaic Idealize.ShloMosaic.TcCoe

/-- The reference's result is the same function of each entry. -/
theorem change (x0 x1 x2 x3 : S1x2048.Idx → EReal) : val_main_v23 (F := Ideal) x0 x1 x2 x3 = fun i => Cert.Proof.Adam.change (x0 i) (x1 i) (x2 i) (x3 i) := by
  funext i
  simp only [val_main_cst_apply, val_main_v0_apply, val_main_v1_apply, val_main_cst_0_apply, val_main_v2_apply, val_main_v3_apply, val_main_v4_apply, val_main_cst_1_apply, val_main_v5_apply, val_main_v6_apply, val_main_v7_apply, val_main_cst_2_apply, val_main_v8_apply, val_main_v9_apply, val_main_v10_apply, val_main_cst_3_apply, val_main_v11_apply, val_main_v12_apply, val_main_cst_4_apply, val_main_v13_apply, val_main_v14_apply, val_main_v15_apply, val_main_cst_5_apply, val_main_v16_apply, val_main_v17_apply, val_main_v18_apply, val_main_cst_6_apply, val_main_v19_apply, val_main_v20_apply, val_main_v21_apply, val_main_cst_7_apply, val_main_v22_apply, val_main_v23_apply]
  rfl

/-- The reference's result is the same function of each entry. -/
theorem first (x1 x2 : S1x2048.Idx → EReal) : val_main_v4 (F := Ideal) x1 x2 = fun i => Cert.Proof.Adam.first (x1 i) (x2 i) := by
  funext i
  simp only [val_main_cst_apply, val_main_v0_apply, val_main_v1_apply, val_main_cst_0_apply, val_main_v2_apply, val_main_v3_apply, val_main_v4_apply]
  rfl

/-- The reference's result is the same function of each entry. -/
theorem second (x1 x3 : S1x2048.Idx → EReal) : val_main_v10 (F := Ideal) x1 x3 = fun i => Cert.Proof.Adam.second (x1 i) (x3 i) := by
  funext i
  simp only [val_main_cst_1_apply, val_main_v5_apply, val_main_v6_apply, val_main_v7_apply, val_main_cst_2_apply, val_main_v8_apply, val_main_v9_apply, val_main_v10_apply]
  rfl

end Cert.Reference24Ideal.Read

namespace Cert.Proof.Adam24

open Idealize.ShloMosaic Idealize.SL.Sem

/-- The call and its reference leave equal results. -/
theorem algebraic : Cert.algebraic_Kernel24Ideal_Reference24Ideal := by
  pair_intro
  · run_from Cert.Kernel24Ideal.Value.run_blocks m g
  · run_from Cert.Reference24Ideal.Value.run m' g'
    · rw [Cert.Kernel24Ideal.Sum.final4 m c, Cert.Reference24Ideal.Read.val_main_v23_eq]
      exact Cert.Reference24Ideal.Read.change _ _ _ _
    · rw [Cert.Kernel24Ideal.Sum.final5 m c, Cert.Reference24Ideal.Read.val_main_v4_eq]
      exact Cert.Reference24Ideal.Read.first _ _
    · rw [Cert.Kernel24Ideal.Sum.final6 m c, Cert.Reference24Ideal.Read.val_main_v10_eq]
      exact Cert.Reference24Ideal.Read.second _ _

end Cert.Proof.Adam24

end
-- ==== Proof.Adam25.lean ====
module

public import proofs.«01_k».proof.Defs
public import proofs.«01_k».proof.Proof.Adam
public import proofs.«01_k».proof.Proof.Gen.Kernel25Ideal.Value
public import proofs.«01_k».proof.Proof.Gen.Reference25Ideal.Run
public import proofs.«01_k».proof.Proof.Gen.Reference25Ideal.Read
public import Idealize.ShloMosaic.Lib.Pipeline.ValueKit
public import Idealize.ShloMosaic.Lib.Pointwise
public import Idealize.ShloMosaic.Lib.Claim

/-!
The AdamW step on an array of the shape 1x8, that of b_f, block by block.
-/

@[expose] public section

set_option maxRecDepth 16384

noncomputable section

namespace Cert.Kernel25Ideal.Sum

open Cert.Kernel25Ideal Cert.Kernel25Ideal.Gen Idealize.ShloMosaic Idealize.ShloMosaic.TcCoe Idealize.SL.Sem

variable (m : (ℓ : Loc nD τ sig) → Buf (Elt Ideal) ℓ)

/-- The block of window 0 at each grid point. -/
theorem place0 : ∀ t : Fin cfg0.N, win0_0.index t = ![0, 0] :=
  (by decide +kernel : ∀ t : Fin grid0.N, win0_0.index t = ![0, 0])

/-- The block of window 1 at each grid point. -/
theorem place1 : ∀ t : Fin cfg0.N, win0_1.index t = ![0, 0] :=
  (by decide +kernel : ∀ t : Fin grid0.N, win0_1.index t = ![0, 0])

/-- The block of window 2 at each grid point. -/
theorem place2 : ∀ t : Fin cfg0.N, win0_2.index t = ![0, 0] :=
  (by decide +kernel : ∀ t : Fin grid0.N, win0_2.index t = ![0, 0])

/-- The block of window 3 at each grid point. -/
theorem place3 : ∀ t : Fin cfg0.N, win0_3.index t = ![0, 0] :=
  (by decide +kernel : ∀ t : Fin grid0.N, win0_3.index t = ![0, 0])

/-- The block of window 4 at each grid point. -/
theorem place4 : ∀ t : Fin cfg0.N, win0_4.index t = ![0, 0] :=
  (by decide +kernel : ∀ t : Fin grid0.N, win0_4.index t = ![0, 0])

/-- The block of window 5 at each grid point. -/
theorem place5 : ∀ t : Fin cfg0.N, win0_5.index t = ![0, 0] :=
  (by decide +kernel : ∀ t : Fin grid0.N, win0_5.index t = ![0, 0])

/-- The block of window 6 at each grid point. -/
theorem place6 : ∀ t : Fin cfg0.N, win0_6.index t = ![0, 0] :=
  (by decide +kernel : ∀ t : Fin grid0.N, win0_6.index t = ![0, 0])

/-- What the call leaves of the change. -/
theorem final4 (c : Dev nD) : (dats m 0 c).arrAt 4 cfg0.N = fun i => Cert.Proof.Adam.change ((m ((c : Thread nD τ).loc main_arg0)) i) ((m ((c : Thread nD τ).loc main_arg1)) i) ((m ((c : Thread nD τ).loc main_arg2)) i) ((m ((c : Thread nD τ).loc main_arg3)) i) := by
  refine (dats m 0 c).arrAt_eq_of_covers 4 _ (by decide +kernel) fun t hf y => ?_
  blk_simp
  rw [after0_4]
  unfold out0_4
  frame_out
  have e0 : iblk m c 0 t y = (m ((c : Thread nD τ).loc main_arg0)) (((View.whole main_v0_0).slice (win0_4.rect t)).emb y) := by
    blk_ext! [iblk, V, place0 t, place4 t]
  have e1 : iblk m c 1 t y = (m ((c : Thread nD τ).loc main_arg1)) (((View.whole main_v0_0).slice (win0_4.rect t)).emb y) := by
    blk_ext! [iblk, V, place1 t, place4 t]
  have e2 : iblk m c 2 t y = (m ((c : Thread nD τ).loc main_arg2)) (((View.whole main_v0_0).slice (win0_4.rect t)).emb y) := by
    blk_ext! [iblk, V, place2 t, place4 t]
  have e3 : iblk m c 3 t y = (m ((c : Thread nD τ).loc main_arg3)) (((View.whole main_v0_0).slice (win0_4.rect t)).emb y) := by
    blk_ext! [iblk, V, place3 t, place4 t]
  rw [← e0]
  rw [← e1]
  rw [← e2]
  rw [← e3]
  rfl

/-- What the call leaves of the new first moment. -/
theorem final5 (c : Dev nD) : (dats m 0 c).arrAt 5 cfg0.N = fun i => Cert.Proof.Adam.first ((m ((c : Thread nD τ).loc main_arg1)) i) ((m ((c : Thread nD τ).loc main_arg2)) i) := by
  refine (dats m 0 c).arrAt_eq_of_covers 5 _ (by decide +kernel) fun t hf y => ?_
  blk_simp
  rw [after0_5]
  unfold out0_5
  frame_out
  have e1 : iblk m c 1 t y = (m ((c : Thread nD τ).loc main_arg1)) (((View.whole main_v0_1).slice (win0_5.rect t)).emb y) := by
    blk_ext! [iblk, V, place1 t, place5 t]
  have e2 : iblk m c 2 t y = (m ((c : Thread nD τ).loc main_arg2)) (((View.whole main_v0_1).slice (win0_5.rect t)).emb y) := by
    blk_ext! [iblk, V, place2 t, place5 t]
  rw [← e1]
  rw [← e2]
  rfl

/-- What the call leaves of the new second moment. -/
theorem final6 (c : Dev nD) : (dats m 0 c).arrAt 6 cfg0.N = fun i => Cert.Proof.Adam.second ((m ((c : Thread nD τ).loc main_arg1)) i) ((m ((c : Thread nD τ).loc main_arg3)) i) := by
  refine (dats m 0 c).arrAt_eq_of_covers 6 _ (by decide +kernel) fun t hf y => ?_
  blk_simp
  rw [after0_6]
  unfold out0_6
  frame_out
  have e1 : iblk m c 1 t y = (m ((c : Thread nD τ).loc main_arg1)) (((View.whole main_v0_2).slice (win0_6.rect t)).emb y) := by
    blk_ext! [iblk, V, place1 t, place6 t]
  have e3 : iblk m c 3 t y = (m ((c : Thread nD τ).loc main_arg3)) (((View.whole main_v0_2).slice (win0_6.rect t)).emb y) := by
    blk_ext! [iblk, V, place3 t, place6 t]
  rw [← e1]
  rw [← e3]
  rfl

end Cert.Kernel25Ideal.Sum

namespace Cert.Reference25Ideal.Read

open Idealize.ShloMosaic Idealize.ShloMosaic.TcCoe

/-- The reference's result is the same function of each entry. -/
theorem change (x0 x1 x2 x3 : S1x8.Idx → EReal) : val_main_v23 (F := Ideal) x0 x1 x2 x3 = fun i => Cert.Proof.Adam.change (x0 i) (x1 i) (x2 i) (x3 i) := by
  funext i
  simp only [val_main_cst_apply, val_main_v0_apply, val_main_v1_apply, val_main_cst_0_apply, val_main_v2_apply, val_main_v3_apply, val_main_v4_apply, val_main_cst_1_apply, val_main_v5_apply, val_main_v6_apply, val_main_v7_apply, val_main_cst_2_apply, val_main_v8_apply, val_main_v9_apply, val_main_v10_apply, val_main_cst_3_apply, val_main_v11_apply, val_main_v12_apply, val_main_cst_4_apply, val_main_v13_apply, val_main_v14_apply, val_main_v15_apply, val_main_cst_5_apply, val_main_v16_apply, val_main_v17_apply, val_main_v18_apply, val_main_cst_6_apply, val_main_v19_apply, val_main_v20_apply, val_main_v21_apply, val_main_cst_7_apply, val_main_v22_apply, val_main_v23_apply]
  rfl

/-- The reference's result is the same function of each entry. -/
theorem first (x1 x2 : S1x8.Idx → EReal) : val_main_v4 (F := Ideal) x1 x2 = fun i => Cert.Proof.Adam.first (x1 i) (x2 i) := by
  funext i
  simp only [val_main_cst_apply, val_main_v0_apply, val_main_v1_apply, val_main_cst_0_apply, val_main_v2_apply, val_main_v3_apply, val_main_v4_apply]
  rfl

/-- The reference's result is the same function of each entry. -/
theorem second (x1 x3 : S1x8.Idx → EReal) : val_main_v10 (F := Ideal) x1 x3 = fun i => Cert.Proof.Adam.second (x1 i) (x3 i) := by
  funext i
  simp only [val_main_cst_1_apply, val_main_v5_apply, val_main_v6_apply, val_main_v7_apply, val_main_cst_2_apply, val_main_v8_apply, val_main_v9_apply, val_main_v10_apply]
  rfl

end Cert.Reference25Ideal.Read

namespace Cert.Proof.Adam25

open Idealize.ShloMosaic Idealize.SL.Sem

/-- The call and its reference leave equal results. -/
theorem algebraic : Cert.algebraic_Kernel25Ideal_Reference25Ideal := by
  pair_intro
  · run_from Cert.Kernel25Ideal.Value.run_blocks m g
  · run_from Cert.Reference25Ideal.Value.run m' g'
    · rw [Cert.Kernel25Ideal.Sum.final4 m c, Cert.Reference25Ideal.Read.val_main_v23_eq]
      exact Cert.Reference25Ideal.Read.change _ _ _ _
    · rw [Cert.Kernel25Ideal.Sum.final5 m c, Cert.Reference25Ideal.Read.val_main_v4_eq]
      exact Cert.Reference25Ideal.Read.first _ _
    · rw [Cert.Kernel25Ideal.Sum.final6 m c, Cert.Reference25Ideal.Read.val_main_v10_eq]
      exact Cert.Reference25Ideal.Read.second _ _

end Cert.Proof.Adam25

end
-- ==== Proof.Rms.lean ====
module

public import Idealize.ShloMosaic.Lib.Pipeline.ValueKit
public import Idealize.ShloMosaic.Lib.Pointwise
public import Idealize.ShloMosaic.Lib.Claim

/-!
One row of the norm that divides by the root of the mean of the squares, and the gradient of its input. The factor of a
row is never negative and never infinite, whatever the row holds, so it may be multiplied into any sum.
-/

@[expose] public section

set_option maxRecDepth 16384

noncomputable section

namespace Cert.Proof.Rms

open Idealize.ShloMosaic

/-- The length of a row. -/
def size : EReal := Ideal.ofBits .f32 0x44800000#32

/-- The mean of the squares with the small addend. -/
def mean (x : Fin 1024 → EReal) : EReal := Ideal.div (∑ k, x k * x k) size + Ideal.ofBits .f32 0x358637BD#32

/-- The factor of a row. -/
def factor (x : Fin 1024 → EReal) : EReal := Ideal.rsqrt (mean x)

/-- The gradient of an entry as the call works it out, from the row and the scaled cotangents. -/
def slope (x p : Fin 1024 → EReal) (j : Fin 1024) : EReal :=
  factor x * (p j - x j * factor x * Ideal.div (∑ k, p k * (x k * factor x)) size)

/-- What the chain rule sends through the mean. -/
def through (x p : Fin 1024 → EReal) : EReal :=
  Ideal.div ((∑ k, x k * p k) * (Ideal.ofBits .f32 0xBF000000#32 * Ideal.div (factor x) (mean x))) size

theorem size_eq : size = ((1024 : ℝ) : EReal) := by
  simp [size, Ideal.ofBits, Ideal.ieee, -EReal.coe_mul]; norm_num

theorem half_eq : Ideal.ofBits .f32 0xBF000000#32 = -((1 / 2 : ℝ) : EReal) := by
  rw [← EReal.coe_neg]
  simp [Ideal.ofBits, Ideal.ieee, -EReal.coe_mul, -EReal.coe_neg]; norm_num

theorem addend_pos : ∃ e : ℝ, 0 < e ∧ Ideal.ofBits .f32 0x358637BD#32 = (e : EReal) := by
  refine ⟨_, ?_, by simp [Ideal.ofBits, Ideal.ieee, -EReal.coe_mul]; rfl⟩
  norm_num

/-- A square is not negative. -/
theorem square_nonneg (a : EReal) : 0 ≤ a * a := by
  rcases le_total 0 a with h | h
  · exact EReal.mul_nonneg h h
  · exact EReal.mul_nonneg_iff.mpr (.inr ⟨h, h⟩)

theorem div_size (a : EReal) : Ideal.div a size = a * ((1 / 1024 : ℝ) : EReal) := by
  rw [size_eq, Ideal.div_coe (by norm_num)]

/-- The mean with its addend is positive. -/
theorem mean_pos (x : Fin 1024 → EReal) : 0 < mean x := by
  obtain ⟨e, he, hq⟩ := addend_pos
  unfold mean
  rw [div_size, hq]
  have h : (0 : EReal) ≤ (∑ k, x k * x k) * ((1 / 1024 : ℝ) : EReal) :=
    EReal.mul_nonneg (Finset.sum_nonneg fun k _ => square_nonneg _) (by exact_mod_cast (by norm_num : (0 : ℝ) ≤ 1 / 1024))
  exact lt_of_lt_of_le (by exact_mod_cast he : (0 : EReal) < e) (le_add_of_nonneg_left h)

/-- The factor is a real number that is not negative, and over the mean it is its own cube. -/
theorem factor_real (x : Fin 1024 → EReal) : ∃ r : ℝ, 0 ≤ r ∧ factor x = (r : EReal)
    ∧ Ideal.div (factor x) (mean x) = ((r * r * r : ℝ) : EReal) := by
  have h := mean_pos x
  unfold factor
  generalize mean x = s at h
  induction s using EReal.rec with
  | bot => exact absurd h (by simp)
  | top => exact ⟨0, le_rfl, by simp, by simp [Ideal.div]⟩
  | coe s =>
    have hs : 0 < s := by exact_mod_cast h
    have hr : Ideal.rsqrt (s : EReal) = (((Real.sqrt s)⁻¹ : ℝ) : EReal) := by
      rw [Ideal.rsqrt_coe, if_neg hs.le.not_gt, if_neg hs.ne']
    refine ⟨(Real.sqrt s)⁻¹, inv_nonneg.mpr (Real.sqrt_nonneg s), hr, ?_⟩
    rw [hr, Ideal.div_coe hs.ne', ← EReal.coe_mul]
    congr 1
    have h2 : (Real.sqrt s)⁻¹ * (Real.sqrt s)⁻¹ = 1 / s := by
      rw [← mul_inv, Real.mul_self_sqrt hs.le, one_div]
    rw [mul_assoc, h2]

/-- A real number that is not negative goes into a sum of extended reals. -/
theorem mul_sum (r : ℝ) (hr : 0 ≤ r) (a : Fin 1024 → EReal) : (r : EReal) * ∑ k, a k = ∑ k, (r : EReal) * a k := by
  have h : ∀ s : Finset (Fin 1024), (r : EReal) * ∑ k ∈ s, a k = ∑ k ∈ s, (r : EReal) * a k := by
    intro s
    induction s using Finset.induction_on with
    | empty => simp
    | insert k s hk ih =>
      rw [Finset.sum_insert hk, Finset.sum_insert hk,
        EReal.left_distrib_of_nonneg_of_ne_top (by exact_mod_cast hr) (EReal.coe_ne_top r), ih]
  exact h _

/-- Two halves are a whole. -/
theorem halves (a : EReal) : a * ((1 / 2 : ℝ) : EReal) + a * ((1 / 2 : ℝ) : EReal) = a := by
  have h : (0 : EReal) ≤ ((1 / 2 : ℝ) : EReal) := by exact_mod_cast (by norm_num : (0 : ℝ) ≤ 1 / 2)
  rw [← EReal.left_distrib_of_nonneg h h, ← EReal.coe_add, show (1 / 2 + 1 / 2 : ℝ) = 1 by norm_num, EReal.coe_one, mul_one]

/-- The chain rule's three terms are the call's gradient. -/
theorem chain (x p : Fin 1024 → EReal) (j : Fin 1024) :
    p j * factor x + x j * through x p + through x p * x j = slope x p j := by
  obtain ⟨r, hr, hf, hd⟩ := factor_real x
  have hr' : (0 : EReal) ≤ (r : EReal) := by exact_mod_cast hr
  have hs : ∑ k, p k * (x k * (r : EReal)) = (r : EReal) * ∑ k, x k * p k := by
    rw [mul_sum r hr]
    exact Finset.sum_congr rfl fun k _ => by rw [← mul_assoc, mul_comm, mul_comm (p k)]
  unfold slope through
  rw [hd, hf, hs, div_size, div_size, half_eq]
  generalize (∑ k, x k * p k) = S
  generalize hw : x j * (S * ((r * r * r : ℝ) : EReal) * ((1 / 1024 : ℝ) : EReal)) = w
  have h1 : x j * (S * (-((1 / 2 : ℝ) : EReal) * ((r * r * r : ℝ) : EReal)) * ((1 / 1024 : ℝ) : EReal))
      = -(w * ((1 / 2 : ℝ) : EReal)) := by
    rw [← hw]; simp only [mul_neg, neg_mul]; congr 1
    simp only [mul_assoc, mul_comm, mul_left_comm]
  have h2 : (r : EReal) * (x j * (r : EReal) * ((r : EReal) * S * ((1 / 1024 : ℝ) : EReal))) = w := by
    rw [← hw, EReal.coe_mul, EReal.coe_mul]
    simp only [mul_assoc, mul_comm, mul_left_comm]
  rw [mul_comm _ (x j), h1, sub_eq_add_neg, EReal.left_distrib_of_nonneg_of_ne_top hr' (EReal.coe_ne_top r), mul_neg, h2,
    add_assoc, ← EReal.neg_mul, halves, mul_comm]

end Cert.Proof.Rms

end
-- ==== Proof.NormBwd.lean ====
module

public import proofs.«01_k».proof.Defs
public import proofs.«01_k».proof.Proof.Rms
public import proofs.«01_k».proof.Proof.Gen.Kernel26Ideal.Value
public import proofs.«01_k».proof.Proof.Gen.Reference26Ideal.Run
public import proofs.«01_k».proof.Proof.Gen.Reference26Ideal.Read
public import Idealize.ShloMosaic.Lib.Pipeline.ValueKit
public import Idealize.ShloMosaic.Lib.Pointwise
public import Idealize.ShloMosaic.Lib.Claim

/-!
The gradient of the norm: that of its input, added to what comes past it, row by row, and that of its weights, a sum over
all rows that the grid's sixteen points add up.
-/

@[expose] public section

set_option maxRecDepth 16384

noncomputable section

namespace Cert.Kernel26Ideal.Sum

open Cert.Kernel26Ideal Cert.Kernel26Ideal.Gen Idealize.ShloMosaic Idealize.ShloMosaic.TcCoe Idealize.SL.Sem
open Cert.Proof

variable (m : (ℓ : Loc nD τ sig) → Buf (Elt Ideal) ℓ)

/-- The gradient of the input with what is added to it. -/
def inner (x d : S8192x1024.Idx → EReal) (g : S1x1024.Idx → EReal) (res : S8192x1024.Idx → EReal) : S8192x1024.Idx → EReal :=
  fun i => res i + Rms.slope (fun k => x (ix2 (i 0) k)) (fun k => d (ix2 (i 0) k) * g (ix2 (0 : Fin 1) k)) (i 1)

/-- One row's part of the gradient of the weights. -/
def part (x d : S8192x1024.Idx → EReal) (n : Fin 8192) (q : Fin 1024) : EReal :=
  d (ix2 n q) * (x (ix2 n q) * Rms.factor fun k => x (ix2 n k))

/-- The gradient of the weights. -/
def outer (x d : S8192x1024.Idx → EReal) : S1x1024.Idx → EReal := fun i => ∑ n : Fin 8192, part x d n (i 1)

/-- The factor of a row of a block. -/
theorem factor_block (x : Vec Ideal S512x1024 .f32) (p : Fin 512) :
    k0_pay2 (F := Ideal) x (ix2 p (0 : Fin 1)) = Rms.factor fun k => x (ix2 p k) := by
  unfold k0_pay2
  simp only [pointwise]
  rfl

/-- An entry of a block times its row's factor. -/
theorem scaled_block (x : Vec Ideal S512x1024 .f32) (p : Fin 512) (q : Fin 1024) :
    k0_pay3 (F := Ideal) x (ix2 p q) = x (ix2 p q) * Rms.factor fun k => x (ix2 p k) := by
  unfold k0_pay3
  simp only [pointwise]
  exact congrArg (α := EReal) (x (ix2 p q) * ·) (factor_block x p)

/-- An entry of the block that a point stores. -/
theorem inner_block (x : Vec Ideal S512x1024 .f32) (d : Vec Ideal S512x1024 .bf16) (g : Vec Ideal S1x1024 .f32)
    (res : Vec Ideal S512x1024 .f32) (p : Fin 512) (q : Fin 1024) : k0_pay5 (F := Ideal) x d g res (ix2 p q)
      = res (ix2 p q) + Rms.slope (fun k => x (ix2 p k)) (fun k => d (ix2 p k) * g (ix2 (0 : Fin 1) k)) q := by
  unfold k0_pay5 k0_pay4
  simp only [pointwise]
  show (res (ix2 p q) + k0_pay2 (F := Ideal) x (ix2 p (0 : Fin 1)) * (d (ix2 p q) * g (ix2 (0 : Fin 1) q)
    - k0_pay3 (F := Ideal) x (ix2 p q) * Ideal.div
      (∑ k : Fin 1024, d (ix2 p k) * g (ix2 (0 : Fin 1) k) * k0_pay3 (F := Ideal) x (ix2 p k)) Rms.size) : EReal) = _
  simp only [factor_block, scaled_block]
  rfl

/-- What a point's rows add to the gradient of the weights. -/
theorem outer_block (x : Vec Ideal S512x1024 .f32) (d : Vec Ideal S512x1024 .bf16) (q : Fin 1024) :
    k0_pay8 (F := Ideal) x d (ix2 (0 : Fin 1) q)
      = ∑ n : Fin 512, d (ix2 n q) * (x (ix2 n q) * Rms.factor fun k => x (ix2 n k)) := by
  unfold k0_pay8 k0_pay4
  simp only [pointwise]
  exact Finset.sum_congr (M := EReal) rfl fun n _ => congrArg (α := EReal) (d (ix2 n q) * ·) (scaled_block x n q)

/-- A point adds its rows to what it finds. -/
theorem step (p b : Vec Ideal S1x1024 .f32) (j : S1x1024.Idx) :
    k0_pay1 (F := Ideal) (k0_pay7 (F := Ideal) p) b j = p j + b j := by
  unfold k0_pay1 k0_pay7
  simp only [pointwise]

/-- The block of window 0 at each grid point. -/
theorem place0 : ∀ t : Fin cfg0.N, win0_0.index t = ![t.val, 0] :=
  (by decide +kernel : ∀ t : Fin grid0.N, win0_0.index t = ![t.val, 0])

/-- The block of window 1 at each grid point. -/
theorem place1 : ∀ t : Fin cfg0.N, win0_1.index t = ![t.val, 0] :=
  (by decide +kernel : ∀ t : Fin grid0.N, win0_1.index t = ![t.val, 0])

/-- The block of window 2 at each grid point. -/
theorem place2 : ∀ t : Fin cfg0.N, win0_2.index t = ![0, 0] :=
  (by decide +kernel : ∀ t : Fin grid0.N, win0_2.index t = ![0, 0])

/-- The block of window 3 at each grid point. -/
theorem place3 : ∀ t : Fin cfg0.N, win0_3.index t = ![t.val, 0] :=
  (by decide +kernel : ∀ t : Fin grid0.N, win0_3.index t = ![t.val, 0])

/-- The block of window 4 at each grid point. -/
theorem place4 : ∀ t : Fin cfg0.N, win0_4.index t = ![t.val, 0] :=
  (by decide +kernel : ∀ t : Fin grid0.N, win0_4.index t = ![t.val, 0])

/-- The block of window 5 at each grid point. -/
theorem place5 : ∀ t : Fin cfg0.N, win0_5.index t = ![0, 0] :=
  (by decide +kernel : ∀ t : Fin grid0.N, win0_5.index t = ![0, 0])

/-- The row of the whole array that is row `p` of point `t`'s block. -/
def rowAt (t : Fin cfg0.N) (p : Fin 512) : Fin 8192 :=
  ⟨t.val * 512 + p.val, by have ht : t.val < 16 := lt_of_lt_of_eq t.isLt N_0; have := p.isLt; omega⟩

theorem block0 (c : Dev nD) (t : Fin cfg0.N) (p : Fin 512) (q : Fin 1024) :
    iblk m c 0 t (ix2 p q) = m ((c : Thread nD τ).loc main_arg0) (ix2 (rowAt t p) q) := by
  blk_ext! [iblk, V, place0 t, rowAt]

theorem block1 (c : Dev nD) (t : Fin cfg0.N) (p : Fin 512) (q : Fin 1024) :
    iblk m c 1 t (ix2 p q) = m ((c : Thread nD τ).loc main_arg1) (ix2 (rowAt t p) q) := by
  blk_ext! [iblk, V, place1 t, rowAt]

theorem block2 (c : Dev nD) (t : Fin cfg0.N) (q : Fin 1024) :
    iblk m c 2 t (ix2 (0 : Fin 1) q) = m ((c : Thread nD τ).loc main_arg2) (ix2 (0 : Fin 1) q) := by
  blk_ext! [iblk, V, place2 t]

theorem block3 (c : Dev nD) (t : Fin cfg0.N) (p : Fin 512) (q : Fin 1024) :
    iblk m c 3 t (ix2 p q) = m ((c : Thread nD τ).loc main_arg3) (ix2 (rowAt t p) q) := by
  blk_ext! [iblk, V, place3 t, rowAt]

/-- Every point stores its block of the gradient of the input. -/
theorem stored (c : Dev nD) (t : Fin cfg0.N) : (outsAt0 m c t.val t.isLt).1
    = k0_pay5 (F := Ideal) (iblk m c 0 t) (iblk m c 1 t) (iblk m c 2 t) (iblk m c 3 t) := by
  funext y
  by_cases h : t.val % 16 = 0
  · rw [outsAt0_A m c t h]; frame_out
  · rw [outsAt0_B m c t h]; frame_out

/-- What the call leaves of the gradient of the input. -/
theorem final4 (c : Dev nD) : (dats m 0 c).arrAt 4 cfg0.N = inner (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, stored]
  have hy : (y : S512x1024.Idx) = ix2 (y 0) (y 1) := funext fun a => match a with | ⟨0, _⟩ => rfl | ⟨1, _⟩ => rfl
  refine (congrArg (k0_pay5 (F := Ideal) (iblk m c 0 t) (iblk m c 1 t) (iblk m c 2 t) (iblk m c 3 t)) hy).trans
    ((inner_block _ _ _ _ (y 0) (y 1)).trans ?_)
  refine Eq.trans (b := inner (m ((c : Thread nD τ).loc main_arg0)) (m ((c : Thread nD τ).loc main_arg1))
    (m ((c : Thread nD τ).loc main_arg2)) (m ((c : Thread nD τ).loc main_arg3)) (ix2 (rowAt t (y 0)) (y 1))) ?_ ?_
  · rw [block3 m c t (y 0) (y 1), funext (block0 m c t (y 0)),
      funext fun k => congrArg₂ (α := EReal) (β := EReal) (· * ·) (block1 m c t (y 0) k) (block2 m c t k)]
    rfl
  · generalize inner (m ((c : Thread nD τ).loc main_arg0)) (m ((c : Thread nD τ).loc main_arg1))
      (m ((c : Thread nD τ).loc main_arg2)) (m ((c : Thread nD τ).loc main_arg3)) = f
    blk_ext! [place4 t, rowAt]

/-- What the call leaves of the gradient of the weights. -/
theorem final5 (c : Dev nD) : (dats m 0 c).arrAt 5 cfg0.N = outer (m ((c : Thread nD τ).loc main_arg0))
    (m ((c : Thread nD τ).loc main_arg1)) := by
  refine (dats m 0 c).arrAt_eq_of_covers 5 _ (by decide +kernel) fun t hf y => ?_
  blk_simp
  have hr := (flush0_5 t).mp hf
  have ht : t.val < 16 := lt_of_lt_of_eq t.isLt N_0
  rw [after0_5, Pipeline.eq_sum_fin_of_reset_step_apply_last (fun n h => (outsAt0 m c n h).2) 16 (fun _ => 0)
    (fun t => k0_pay8 (F := Ideal) (iblk m c 0 t) (iblk m c 1 t))
    (fun t h j => by
      have ht : t.val < 16 := lt_of_lt_of_eq t.isLt N_0
      show (outsAt0 m c t.val t.isLt).2 j = _
      rw [outsAt0_A m c t h]; frame_out
      exact (step _ _ _).trans (congrArg (α := EReal) (· + _) (by unfold k0_pay6; simp only [pointwise])))
    (fun t h j => by
      show (outsAt0 m c t.val t.isLt).2 j = _
      rw [outsAt0_B m c t h]; frame_out; exact step _ _ _)
    (le_of_eq N_0) t ((show t.val + 1 = 16 by omega).trans N_0.symm) y]
  have hy : (y : S1x1024.Idx) = ix2 (0 : Fin 1) (y 1) :=
    funext fun a => match a with | ⟨0, _⟩ => Subsingleton.elim (α := Fin 1) _ _ | ⟨1, _⟩ => rfl
  refine Eq.trans (b := outer (m ((c : Thread nD τ).loc main_arg0)) (m ((c : Thread nD τ).loc main_arg1))
    (ix2 (0 : Fin 1) (y 1))) ?_ ?_
  · rw [zero_add (M := EReal)]
    refine (Finset.sum_congr (M := EReal) rfl fun p _ =>
      (congrArg (k0_pay8 (F := Ideal) (iblk m c 0 p) (iblk m c 1 p)) hy).trans (outer_block _ _ (y 1))).trans ?_
    refine Fin.sum_mul_add_congr (M := EReal) (S := 16) (n := 512) fun s k hl => ?_
    rw [block1 m c s k (y 1), block0 m c s k (y 1), funext (block0 m c s k)]
    rfl
  · generalize outer (m ((c : Thread nD τ).loc main_arg0)) (m ((c : Thread nD τ).loc main_arg1)) = f
    blk_ext! [place5 t]

end Cert.Kernel26Ideal.Sum

namespace Cert.Reference26Ideal.Read

open Cert.Proof Idealize.ShloMosaic Idealize.ShloMosaic.TcCoe

/-- The reference's mean of a row. -/
theorem mean_row (x : S8192x1024.Idx → EReal) (n : Fin 8192) :
    val_main_v6 (F := Ideal) x (ix2 n (0 : Fin 1)) = Rms.mean fun k => x (ix2 n k) := by
  have h : ∀ k : Fin 1024, idx_main_v1 (idx_main_v2 (ix2 n (0 : Fin 1))) k = ix2 n k :=
    fun k => funext fun a => match a with | ⟨0, _⟩ => rfl | ⟨1, _⟩ => rfl
  simp only [val_main_v0_apply, val_main_cst_apply, val_main_v1_apply, val_main_v2_apply, val_main_cst_0_apply, val_main_v3_apply, val_main_v4_apply, val_main_cst_1_apply, val_main_v5_apply, val_main_v6_apply, h]
  rw [show FloatOps.ofBits (F := Ideal) .f32 0x00000000#32 = (0 : EReal) from Ideal.ofBits_zero_f32, zero_add (M := EReal)]
  rfl

/-- The reference's factor of a row. -/
theorem factor_row (x : S8192x1024.Idx → EReal) (n : Fin 8192) :
    val_main_v7 (F := Ideal) x (ix2 n (0 : Fin 1)) = Rms.factor fun k => x (ix2 n k) := by
  rw [val_main_v7_apply, mean_row]
  rfl

/-- What the reference sends through a row's mean. -/
theorem through_row (x d : S8192x1024.Idx → EReal) (g : S1x1024.Idx → EReal) (n : Fin 8192) :
    val_main_v28 (F := Ideal) x d g (ix2 n (0 : Fin 1))
      = Rms.through (fun k => x (ix2 n k)) (fun k => d (ix2 n k) * g (ix2 (0 : Fin 1) k)) := by
  have h : ∀ k : Fin 1024, idx_main_v22 (idx_main_v23 (ix2 n (0 : Fin 1))) k = ix2 n k :=
    fun k => funext fun a => match a with | ⟨0, _⟩ => Fin.ext (Nat.zero_add _) | ⟨1, _⟩ => rfl
  have hg : ∀ k : Fin 1024, idx_main_v19 (ix2 n k) = ix2 (0 : Fin 1) k :=
    fun k => funext fun a => match a with | ⟨0, _⟩ => rfl | ⟨1, _⟩ => rfl
  simp only [val_main_v19_apply, val_main_v20_apply, val_main_v21_apply, val_main_cst_4_apply, val_main_v22_apply, val_main_v23_apply, val_main_v26_apply, val_main_cst_5_apply, val_main_v27_apply, val_main_v28_apply, val_main_v15_apply, val_main_v8_apply, val_main_cst_2_apply, val_main_v9_apply, val_main_v10_apply, h, hg, mean_row, factor_row]
  rw [show FloatOps.ofBits (F := Ideal) .f32 0x00000000#32 = (0 : EReal) from Ideal.ofBits_zero_f32, zero_add (M := EReal)]
  rfl

/-- The reference's gradient of the input is the call's. -/
theorem inner (x d : S8192x1024.Idx → EReal) (g : S1x1024.Idx → EReal) (res : S8192x1024.Idx → EReal) :
    val_main_v35 (F := Ideal) x d g res = Cert.Kernel26Ideal.Sum.inner x d g res := by
  funext i
  obtain ⟨p, q, rfl⟩ : ∃ (p : Fin 8192) (q : Fin 1024), i = ix2 p q :=
    ⟨i 0, i 1, funext fun a => match a with | ⟨0, _⟩ => rfl | ⟨1, _⟩ => rfl⟩
  have h24 : idx_main_v24 (ix2 p q) = ix2 p (0 : Fin 1) := funext fun a => match a with | ⟨0, _⟩ => rfl | ⟨1, _⟩ => rfl
  have h19 : idx_main_v19 (ix2 p q) = ix2 (0 : Fin 1) q := funext fun a => match a with | ⟨0, _⟩ => rfl | ⟨1, _⟩ => rfl
  have h29 : ∀ k : Fin 1, idx_main_v29 (idx_main_v30 (ix2 p q)) k = ix2 p (0 : Fin 1) :=
    fun k => funext fun a => match a with | ⟨0, _⟩ => rfl | ⟨1, _⟩ => Subsingleton.elim (α := Fin 1) _ _
  simp only [val_main_v29_apply, val_main_v30_apply, val_main_v31_apply, val_main_v32_apply, val_main_v33_apply, val_main_v34_apply, val_main_v35_apply, val_main_v25_apply, val_main_v24_apply, val_main_v20_apply, val_main_v19_apply,
    val_main_v15_apply, val_main_cst_6_apply, h24, h19, h29, through_row, factor_row]
  rw [show FloatOps.ofBits (F := Ideal) .f32 0x00000000#32 = (0 : EReal) from Ideal.ofBits_zero_f32, zero_add (M := EReal), Fin.sum_univ_one]
  exact congrArg (α := EReal) (res (ix2 p q) + ·)
    (Rms.chain (fun k => x (ix2 p k)) (fun k => d (ix2 p k) * g (ix2 (0 : Fin 1) k)) q)

/-- The reference's gradient of the weights is the call's. -/
theorem outer (x d : S8192x1024.Idx → EReal) :
    val_main_v18 (F := Ideal) x d = Cert.Kernel26Ideal.Sum.outer x d := by
  funext i
  obtain ⟨q, rfl⟩ : ∃ q : Fin 1024, i = ix2 (0 : Fin 1) q :=
    ⟨i 1, funext fun a => match a with | ⟨0, _⟩ => Subsingleton.elim (α := Fin 1) _ _ | ⟨1, _⟩ => rfl⟩
  have h : ∀ n : Fin 8192, idx_main_v17 (idx_main_v18 (ix2 (0 : Fin 1) q)) n = ix2 n q :=
    fun n => funext fun a => match a with
      | ⟨0, _⟩ => rfl
      | ⟨1, _⟩ => Fin.ext (show 0 * 1024 + q.val = q.val by omega)
  have h11 : ∀ n : Fin 8192, idx_main_v11 (ix2 n q) = ix2 n (0 : Fin 1) :=
    fun n => funext fun a => match a with | ⟨0, _⟩ => rfl | ⟨1, _⟩ => rfl
  rw [val_main_v18_apply, val_main_v17_apply, val_main_cst_3_apply, show FloatOps.ofBits (F := Ideal) .f32 0x00000000#32
    = (0 : EReal) from Ideal.ofBits_zero_f32, zero_add (M := EReal)]
  refine Finset.sum_congr (M := EReal) rfl fun n _ => ?_
  rw [h n, val_main_v16_apply, val_main_v12_apply, val_main_v11_apply, h11 n, factor_row, val_main_v15_apply]
  exact mul_comm (G := EReal) _ _

end Cert.Reference26Ideal.Read

namespace Cert.Reference26Ideal.Sum

open Cert.Reference26Ideal Cert.Reference26Ideal.Gen Idealize.ShloMosaic Idealize.ShloMosaic.TcCoe Idealize.SL.Sem

/-- What the reference leaves, as the two functions that the call leaves. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v35)
        = Cert.Kernel26Ideal.Sum.inner (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_v18)
        = Cert.Kernel26Ideal.Sum.outer (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans ((Read.val_main_v35_eq _ _ _ _).trans (Read.inner _ _ _ _)),
    (h c).2.1.trans ((Read.val_main_v18_eq _ _).trans (Read.outer _ _)), (h c).2.2⟩) (Value.run m ρ)

end Cert.Reference26Ideal.Sum

namespace Cert.Proof.NormBwd

open Idealize.ShloMosaic Idealize.SL.Sem

/-- The call and its reference leave equal results. -/
theorem algebraic : Cert.algebraic_Kernel26Ideal_Reference26Ideal := by
  pair_intro
  · run_from Cert.Kernel26Ideal.Value.run_blocks m g
  · run_from Cert.Reference26Ideal.Sum.run m' g'
    · exact (Cert.Kernel26Ideal.Sum.final4 m c).symm
    · exact (Cert.Kernel26Ideal.Sum.final5 m c).symm

end Cert.Proof.NormBwd

end
-- ==== Proof.Norm.lean ====
module

public import proofs.«01_k».proof.Defs
public import proofs.«01_k».proof.Proof.Rms
public import proofs.«01_k».proof.Proof.Gen.Kernel27Ideal.Value
public import proofs.«01_k».proof.Proof.Gen.Reference27Ideal.Run
public import proofs.«01_k».proof.Proof.Gen.Reference27Ideal.Read
public import Idealize.ShloMosaic.Lib.Pipeline.ValueKit
public import Idealize.ShloMosaic.Lib.Pointwise
public import Idealize.ShloMosaic.Lib.Claim

/-!
The norm, row by row.
-/

@[expose] public section

set_option maxRecDepth 16384

noncomputable section

namespace Cert.Kernel27Ideal.Sum

open Cert.Kernel27Ideal Cert.Kernel27Ideal.Gen Idealize.ShloMosaic Idealize.ShloMosaic.TcCoe Idealize.SL.Sem
open Cert.Proof

variable (m : (ℓ : Loc nD τ sig) → Buf (Elt Ideal) ℓ)

/-- Each entry times its row's factor and its column's weight. -/
def normed (x : S8192x1024.Idx → EReal) (g : S1x1024.Idx → EReal) : S8192x1024.Idx → EReal :=
  fun i => x i * (Rms.factor fun k => x (ix2 (i 0) k)) * g (ix2 (0 : Fin 1) (i 1))

/-- An entry of the block that a point stores. -/
theorem normed_block (x : Vec Ideal S512x1024 .f32) (g : Vec Ideal S1x1024 .f32) (p : Fin 512) (q : Fin 1024) :
    k0_pay1 (F := Ideal) x g (ix2 p q)
      = x (ix2 p q) * (Rms.factor fun k => x (ix2 p k)) * g (ix2 (0 : Fin 1) q) := by
  unfold k0_pay1
  simp only [pointwise]
  rfl

/-- The block of window 0 at each grid point. -/
theorem place0 : ∀ t : Fin cfg0.N, win0_0.index t = ![t.val, 0] :=
  (by decide +kernel : ∀ t : Fin grid0.N, win0_0.index t = ![t.val, 0])

/-- The block of window 1 at each grid point. -/
theorem place1 : ∀ t : Fin cfg0.N, win0_1.index t = ![0, 0] :=
  (by decide +kernel : ∀ t : Fin grid0.N, win0_1.index t = ![0, 0])

/-- The block of window 2 at each grid point. -/
theorem place2 : ∀ t : Fin cfg0.N, win0_2.index t = ![t.val, 0] :=
  (by decide +kernel : ∀ t : Fin grid0.N, win0_2.index t = ![t.val, 0])

/-- The row of the whole array that is row `p` of point `t`'s block. -/
def rowAt (t : Fin cfg0.N) (p : Fin 512) : Fin 8192 :=
  ⟨t.val * 512 + p.val, by have ht : t.val < 16 := lt_of_lt_of_eq t.isLt N_0; have := p.isLt; omega⟩

theorem block0 (c : Dev nD) (t : Fin cfg0.N) (p : Fin 512) (q : Fin 1024) :
    iblk m c 0 t (ix2 p q) = m ((c : Thread nD τ).loc main_arg0) (ix2 (rowAt t p) q) := by
  blk_ext! [iblk, V, place0 t, rowAt]

theorem block1 (c : Dev nD) (t : Fin cfg0.N) (q : Fin 1024) :
    iblk m c 1 t (ix2 (0 : Fin 1) q) = m ((c : Thread nD τ).loc main_arg1) (ix2 (0 : Fin 1) q) := by
  blk_ext! [iblk, V, place1 t]

/-- What the call leaves in its result. -/
theorem final (c : Dev nD) : (dats m 0 c).arrAt 2 cfg0.N
    = normed (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  have hy : (y : S512x1024.Idx) = ix2 (y 0) (y 1) := funext fun a => match a with | ⟨0, _⟩ => rfl | ⟨1, _⟩ => rfl
  refine (congrArg (k0_pay1 (F := Ideal) (iblk m c 0 t) (iblk m c 1 t)) hy).trans
    ((normed_block _ _ (y 0) (y 1)).trans ?_)
  refine Eq.trans (b := normed (m ((c : Thread nD τ).loc main_arg0)) (m ((c : Thread nD τ).loc main_arg1))
    (ix2 (rowAt t (y 0)) (y 1))) ?_ ?_
  · rw [block0 m c t (y 0) (y 1), funext (block0 m c t (y 0)), block1 m c t (y 1)]
    rfl
  · generalize normed (m ((c : Thread nD τ).loc main_arg0)) (m ((c : Thread nD τ).loc main_arg1)) = f
    blk_ext! [place2 t, rowAt]

end Cert.Kernel27Ideal.Sum

namespace Cert.Reference27Ideal.Read

open Cert.Proof Idealize.ShloMosaic Idealize.ShloMosaic.TcCoe

/-- The reference's mean of a row. -/
theorem mean_row (x : S8192x1024.Idx → EReal) (n : Fin 8192) :
    val_main_v6 (F := Ideal) x (ix2 n (0 : Fin 1)) = Rms.mean fun k => x (ix2 n k) := by
  have h : ∀ k : Fin 1024, idx_main_v1 (idx_main_v2 (ix2 n (0 : Fin 1))) k = ix2 n k :=
    fun k => funext fun a => match a with | ⟨0, _⟩ => rfl | ⟨1, _⟩ => rfl
  simp only [val_main_v0_apply, val_main_cst_apply, val_main_v1_apply, val_main_v2_apply, val_main_cst_0_apply, val_main_v3_apply, val_main_v4_apply, val_main_cst_1_apply, val_main_v5_apply, val_main_v6_apply, h]
  rw [show FloatOps.ofBits (F := Ideal) .f32 0x00000000#32 = (0 : EReal) from Ideal.ofBits_zero_f32, zero_add (M := EReal)]
  rfl

/-- The reference's factor of a row. -/
theorem factor_row (x : S8192x1024.Idx → EReal) (n : Fin 8192) :
    val_main_v7 (F := Ideal) x (ix2 n (0 : Fin 1)) = Rms.factor fun k => x (ix2 n k) := by
  rw [val_main_v7_apply, mean_row]
  rfl

/-- The reference's result is the call's. -/
theorem normed (x : S8192x1024.Idx → EReal) (g : S1x1024.Idx → EReal) :
    val_main_v12 (F := Ideal) x g = Cert.Kernel27Ideal.Sum.normed x g := by
  funext i
  obtain ⟨p, q, rfl⟩ : ∃ (p : Fin 8192) (q : Fin 1024), i = ix2 p q :=
    ⟨i 0, i 1, funext fun a => match a with | ⟨0, _⟩ => rfl | ⟨1, _⟩ => rfl⟩
  have h8 : idx_main_v8 (ix2 p q) = ix2 p (0 : Fin 1) := funext fun a => match a with | ⟨0, _⟩ => rfl | ⟨1, _⟩ => rfl
  have h10 : idx_main_v10 (ix2 p q) = ix2 (0 : Fin 1) q := funext fun a => match a with | ⟨0, _⟩ => rfl | ⟨1, _⟩ => rfl
  simp only [val_main_v8_apply, val_main_v9_apply, val_main_v10_apply, val_main_v11_apply, val_main_v12_apply, h8, h10, factor_row]
  rfl

end Cert.Reference27Ideal.Read

namespace Cert.Proof.Norm

open Idealize.ShloMosaic Idealize.SL.Sem

/-- The call and its reference leave equal results. -/
theorem algebraic : Cert.algebraic_Kernel27Ideal_Reference27Ideal := by
  pair_intro
  · run_from Cert.Kernel27Ideal.Value.run_blocks m g
  · run_from Cert.Reference27Ideal.Value.run m' g'
    rw [Cert.Kernel27Ideal.Sum.final m c, Cert.Reference27Ideal.Read.val_main_v12_eq]
    exact Cert.Reference27Ideal.Read.normed _ _

end Cert.Proof.Norm

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24.Frame
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25.Frame
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26.Frame
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27.Frame
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Frames
public import proofs.«01_k».proof.Proof.Up
public import proofs.«01_k».proof.Proof.DwIn
public import proofs.«01_k».proof.Proof.NormMix
public import proofs.«01_k».proof.Proof.DwDown
public import proofs.«01_k».proof.Proof.FfnDown
public import proofs.«01_k».proof.Proof.ProjIn
public import proofs.«01_k».proof.Proof.DwUp
public import proofs.«01_k».proof.Proof.Merge
public import proofs.«01_k».proof.Proof.MixOut
public import proofs.«01_k».proof.Proof.DwO
public import proofs.«01_k».proof.Proof.Branch
public import proofs.«01_k».proof.Proof.BranchBwd
public import proofs.«01_k».proof.Proof.BranchDw
public import proofs.«01_k».proof.Proof.UpAct
public import proofs.«01_k».proof.Proof.Adam16
public import proofs.«01_k».proof.Proof.Adam17
public import proofs.«01_k».proof.Proof.Adam18
public import proofs.«01_k».proof.Proof.Adam19
public import proofs.«01_k».proof.Proof.Adam20
public import proofs.«01_k».proof.Proof.Adam21
public import proofs.«01_k».proof.Proof.Adam22
public import proofs.«01_k».proof.Proof.Adam23
public import proofs.«01_k».proof.Proof.Adam24
public import proofs.«01_k».proof.Proof.Adam25
public import proofs.«01_k».proof.Proof.NormBwd
public import proofs.«01_k».proof.Proof.Norm

@[expose] public section

set_option maxRecDepth 16384

noncomputable section

namespace Cert.Proof

open Idealize.ShloMosaic Idealize.SL.Sem

/-- The reference of the attention is a straight-line host program: it keeps its arguments and has no semaphore. -/
theorem reference_frame : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run m ρ)

/-- The reference of the up projection is a straight-line host program: it keeps its arguments and has no semaphore. -/
theorem reference2_frame : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- The reference of the projection weights is a straight-line host program: it keeps its arguments and has no semaphore. -/
theorem reference3_frame : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

/-- The reference of the projection input is a straight-line host program: it keeps its arguments and has no semaphore. -/
theorem reference4_frame : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

/-- The reference of the down projection weights is a straight-line host program: it keeps its arguments and has no semaphore. -/
theorem reference5_frame : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

/-- The reference of the down projection is a straight-line host program: it keeps its arguments and has no semaphore. -/
theorem reference6_frame : Cert.quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

/-- The reference of the input projection is a straight-line host program: it keeps its arguments and has no semaphore. -/
theorem reference7_frame : Cert.quiescent_Reference7Ideal := fun m ρ _ =>
  (θ_run Cert.Reference7Ideal.defs _ _).mono (fun r h => ⟨fun c => (h c).2.2.2.2, sem_eq_zero_of_no_sems (by decide) r.2⟩)
    (Cert.Reference7Ideal.Value.run m ρ)

/-- The reference of the up projection weights is a straight-line host program: it keeps its arguments and has no semaphore. -/
theorem reference8_frame : Cert.quiescent_Reference8Ideal := fun m ρ _ =>
  (θ_run Cert.Reference8Ideal.defs _ _).mono (fun r h => ⟨fun c => (h c).2, sem_eq_zero_of_no_sems (by decide) r.2⟩)
    (Cert.Reference8Ideal.Value.run m ρ)

/-- The reference of the merge is a straight-line host program: it keeps its arguments and has no semaphore. -/
theorem reference9_frame : Cert.quiescent_Reference9Ideal := fun m ρ _ =>
  (θ_run Cert.Reference9Ideal.defs _ _).mono (fun r h => ⟨fun c => (h c).2, sem_eq_zero_of_no_sems (by decide) r.2⟩)
    (Cert.Reference9Ideal.Value.run m ρ)

/-- The reference of the output projection is a straight-line host program: it keeps its arguments and has no semaphore. -/
theorem reference10_frame : Cert.quiescent_Reference10Ideal := fun m ρ _ =>
  (θ_run Cert.Reference10Ideal.defs _ _).mono (fun r h => ⟨fun c => (h c).2, sem_eq_zero_of_no_sems (by decide) r.2⟩)
    (Cert.Reference10Ideal.Value.run m ρ)

/-- The reference of the output projection weights is a straight-line host program: it keeps its arguments and has no semaphore. -/
theorem reference11_frame : Cert.quiescent_Reference11Ideal := fun m ρ _ =>
  (θ_run Cert.Reference11Ideal.defs _ _).mono (fun r h => ⟨fun c => (h c).2, sem_eq_zero_of_no_sems (by decide) r.2⟩)
    (Cert.Reference11Ideal.Value.run m ρ)

/-- The reference of the branch projections is a straight-line host program: it keeps its arguments and has no semaphore. -/
theorem reference12_frame : Cert.quiescent_Reference12Ideal := fun m ρ _ =>
  (θ_run Cert.Reference12Ideal.defs _ _).mono (fun r h => ⟨fun c => (h c).2, sem_eq_zero_of_no_sems (by decide) r.2⟩)
    (Cert.Reference12Ideal.Value.run m ρ)

/-- The reference of the branch projection inputs is a straight-line host program: it keeps its arguments and has no semaphore. -/
theorem reference13_frame : Cert.quiescent_Reference13Ideal := fun m ρ _ =>
  (θ_run Cert.Reference13Ideal.defs _ _).mono (fun r h => ⟨fun c => (h c).2.2, sem_eq_zero_of_no_sems (by decide) r.2⟩)
    (Cert.Reference13Ideal.Value.run m ρ)

/-- The reference of the branch projection weights is a straight-line host program: it keeps its arguments and has no semaphore. -/
theorem reference14_frame : Cert.quiescent_Reference14Ideal := fun m ρ _ =>
  (θ_run Cert.Reference14Ideal.defs _ _).mono (fun r h => ⟨fun c => (h c).2.2, sem_eq_zero_of_no_sems (by decide) r.2⟩)
    (Cert.Reference14Ideal.Value.run m ρ)

/-- The reference of the up projection with its convolution and gate is a straight-line host program: it keeps its arguments and has no semaphore. -/
theorem reference15_frame : Cert.quiescent_Reference15Ideal := fun m ρ _ =>
  (θ_run Cert.Reference15Ideal.defs _ _).mono (fun r h => ⟨fun c => (h c).2.2.2.2.2, sem_eq_zero_of_no_sems (by decide) r.2⟩)
    (Cert.Reference15Ideal.Value.run m ρ)

/-- The reference of the optimiser on w_in is a straight-line host program: it keeps its arguments and has no semaphore. -/
theorem reference16_frame : Cert.quiescent_Reference16Ideal := fun m ρ _ =>
  (θ_run Cert.Reference16Ideal.defs _ _).mono (fun r h => ⟨fun c => (h c).2.2.2, sem_eq_zero_of_no_sems (by decide) r.2⟩)
    (Cert.Reference16Ideal.Value.run m ρ)

/-- The reference of the optimiser on w_o is a straight-line host program: it keeps its arguments and has no semaphore. -/
theorem reference17_frame : Cert.quiescent_Reference17Ideal := fun m ρ _ =>
  (θ_run Cert.Reference17Ideal.defs _ _).mono (fun r h => ⟨fun c => (h c).2.2.2, sem_eq_zero_of_no_sems (by decide) r.2⟩)
    (Cert.Reference17Ideal.Value.run m ρ)

/-- The reference of the optimiser on w_up is a straight-line host program: it keeps its arguments and has no semaphore. -/
theorem reference18_frame : Cert.quiescent_Reference18Ideal := fun m ρ _ =>
  (θ_run Cert.Reference18Ideal.defs _ _).mono (fun r h => ⟨fun c => (h c).2.2.2, sem_eq_zero_of_no_sems (by decide) r.2⟩)
    (Cert.Reference18Ideal.Value.run m ρ)

/-- The reference of the optimiser on w_down is a straight-line host program: it keeps its arguments and has no semaphore. -/
theorem reference19_frame : Cert.quiescent_Reference19Ideal := fun m ρ _ =>
  (θ_run Cert.Reference19Ideal.defs _ _).mono (fun r h => ⟨fun c => (h c).2.2.2, sem_eq_zero_of_no_sems (by decide) r.2⟩)
    (Cert.Reference19Ideal.Value.run m ρ)

/-- The reference of the optimiser on w_out_conv is a straight-line host program: it keeps its arguments and has no semaphore. -/
theorem reference20_frame : Cert.quiescent_Reference20Ideal := fun m ρ _ =>
  (θ_run Cert.Reference20Ideal.defs _ _).mono (fun r h => ⟨fun c => (h c).2.2.2, sem_eq_zero_of_no_sems (by decide) r.2⟩)
    (Cert.Reference20Ideal.Value.run m ρ)

/-- The reference of the optimiser on conv_ffn_w is a straight-line host program: it keeps its arguments and has no semaphore. -/
theorem reference21_frame : Cert.quiescent_Reference21Ideal := fun m ρ _ =>
  (θ_run Cert.Reference21Ideal.defs _ _).mono (fun r h => ⟨fun c => (h c).2.2.2, sem_eq_zero_of_no_sems (by decide) r.2⟩)
    (Cert.Reference21Ideal.Value.run m ρ)

/-- The reference of the optimiser on conv_mix_w is a straight-line host program: it keeps its arguments and has no semaphore. -/
theorem reference22_frame : Cert.quiescent_Reference22Ideal := fun m ρ _ =>
  (θ_run Cert.Reference22Ideal.defs _ _).mono (fun r h => ⟨fun c => (h c).2.2.2, sem_eq_zero_of_no_sems (by decide) r.2⟩)
    (Cert.Reference22Ideal.Value.run m ρ)

/-- The reference of the optimiser on norm_mix_g is a straight-line host program: it keeps its arguments and has no semaphore. -/
theorem reference23_frame : Cert.quiescent_Reference23Ideal := fun m ρ _ =>
  (θ_run Cert.Reference23Ideal.defs _ _).mono (fun r h => ⟨fun c => (h c).2.2.2, sem_eq_zero_of_no_sems (by decide) r.2⟩)
    (Cert.Reference23Ideal.Value.run m ρ)

/-- The reference of the optimiser on b_gate is a straight-line host program: it keeps its arguments and has no semaphore. -/
theorem reference24_frame : Cert.quiescent_Reference24Ideal := fun m ρ _ =>
  (θ_run Cert.Reference24Ideal.defs _ _).mono (fun r h => ⟨fun c => (h c).2.2.2, sem_eq_zero_of_no_sems (by decide) r.2⟩)
    (Cert.Reference24Ideal.Value.run m ρ)

/-- The reference of the optimiser on b_f is a straight-line host program: it keeps its arguments and has no semaphore. -/
theorem reference25_frame : Cert.quiescent_Reference25Ideal := fun m ρ _ =>
  (θ_run Cert.Reference25Ideal.defs _ _).mono (fun r h => ⟨fun c => (h c).2.2.2, sem_eq_zero_of_no_sems (by decide) r.2⟩)
    (Cert.Reference25Ideal.Value.run m ρ)

/-- The reference of the gradient of the norm is a straight-line host program: it keeps its arguments and has no semaphore. -/
theorem reference26_frame : Cert.quiescent_Reference26Ideal := fun m ρ _ =>
  (θ_run Cert.Reference26Ideal.defs _ _).mono (fun r h => ⟨fun c => (h c).2.2, sem_eq_zero_of_no_sems (by decide) r.2⟩)
    (Cert.Reference26Ideal.Value.run m ρ)

/-- The reference of the norm is a straight-line host program: it keeps its arguments and has no semaphore. -/
theorem reference27_frame : Cert.quiescent_Reference27Ideal := fun m ρ _ =>
  (θ_run Cert.Reference27Ideal.defs _ _).mono (fun r h => ⟨fun c => (h c).2, sem_eq_zero_of_no_sems (by decide) r.2⟩)
    (Cert.Reference27Ideal.Value.run m ρ)

/-- The claims, in the order they are stated. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts,
  Attention.frame_kernel,
  Attention.frame_ideal,
  reference_frame,
  fun m ρ _ => Cert.Kernel2.Gen.frame m ρ,
  fun m ρ _ => Cert.Kernel2Ideal.Gen.frame m ρ,
  reference2_frame,
  fun m ρ _ => Cert.Kernel3.Gen.frame m ρ,
  fun m ρ _ => Cert.Kernel3Ideal.Gen.frame m ρ,
  reference3_frame,
  fun m ρ _ => Cert.Kernel4.Gen.frame m ρ,
  fun m ρ _ => Cert.Kernel4Ideal.Gen.frame m ρ,
  reference4_frame,
  fun m ρ _ => Cert.Kernel5.Gen.frame m ρ,
  fun m ρ _ => Cert.Kernel5Ideal.Gen.frame m ρ,
  reference5_frame,
  fun m ρ _ => Cert.Kernel6.Gen.frame m ρ,
  fun m ρ _ => Cert.Kernel6Ideal.Gen.frame m ρ,
  reference6_frame,
  fun m ρ _ => Cert.Kernel7.Gen.frame m ρ,
  fun m ρ _ => Cert.Kernel7Ideal.Gen.frame m ρ,
  reference7_frame,
  fun m ρ _ => Cert.Kernel8.Gen.frame m ρ,
  fun m ρ _ => Cert.Kernel8Ideal.Gen.frame m ρ,
  reference8_frame,
  fun m ρ _ => Cert.Kernel9.Gen.frame m ρ,
  fun m ρ _ => Cert.Kernel9Ideal.Gen.frame m ρ,
  reference9_frame,
  fun m ρ _ => Cert.Kernel10.Gen.frame m ρ,
  fun m ρ _ => Cert.Kernel10Ideal.Gen.frame m ρ,
  reference10_frame,
  fun m ρ _ => Cert.Kernel11.Gen.frame m ρ,
  fun m ρ _ => Cert.Kernel11Ideal.Gen.frame m ρ,
  reference11_frame,
  fun m ρ _ => Cert.Kernel12.Gen.frame m ρ,
  fun m ρ _ => Cert.Kernel12Ideal.Gen.frame m ρ,
  reference12_frame,
  fun m ρ _ => Cert.Kernel13.Gen.frame m ρ,
  fun m ρ _ => Cert.Kernel13Ideal.Gen.frame m ρ,
  reference13_frame,
  fun m ρ _ => Cert.Kernel14.Gen.frame m ρ,
  fun m ρ _ => Cert.Kernel14Ideal.Gen.frame m ρ,
  reference14_frame,
  fun m ρ _ => Cert.Kernel15.Gen.frame m ρ,
  fun m ρ _ => Cert.Kernel15Ideal.Gen.frame m ρ,
  reference15_frame,
  fun m ρ _ => Cert.Kernel16.Gen.frame m ρ,
  fun m ρ _ => Cert.Kernel16Ideal.Gen.frame m ρ,
  reference16_frame,
  fun m ρ _ => Cert.Kernel17.Gen.frame m ρ,
  fun m ρ _ => Cert.Kernel17Ideal.Gen.frame m ρ,
  reference17_frame,
  fun m ρ _ => Cert.Kernel18.Gen.frame m ρ,
  fun m ρ _ => Cert.Kernel18Ideal.Gen.frame m ρ,
  reference18_frame,
  fun m ρ _ => Cert.Kernel19.Gen.frame m ρ,
  fun m ρ _ => Cert.Kernel19Ideal.Gen.frame m ρ,
  reference19_frame,
  fun m ρ _ => Cert.Kernel20.Gen.frame m ρ,
  fun m ρ _ => Cert.Kernel20Ideal.Gen.frame m ρ,
  reference20_frame,
  fun m ρ _ => Cert.Kernel21.Gen.frame m ρ,
  fun m ρ _ => Cert.Kernel21Ideal.Gen.frame m ρ,
  reference21_frame,
  fun m ρ _ => Cert.Kernel22.Gen.frame m ρ,
  fun m ρ _ => Cert.Kernel22Ideal.Gen.frame m ρ,
  reference22_frame,
  fun m ρ _ => Cert.Kernel23.Gen.frame m ρ,
  fun m ρ _ => Cert.Kernel23Ideal.Gen.frame m ρ,
  reference23_frame,
  fun m ρ _ => Cert.Kernel24.Gen.frame m ρ,
  fun m ρ _ => Cert.Kernel24Ideal.Gen.frame m ρ,
  reference24_frame,
  fun m ρ _ => Cert.Kernel25.Gen.frame m ρ,
  fun m ρ _ => Cert.Kernel25Ideal.Gen.frame m ρ,
  reference25_frame,
  fun m ρ _ => Cert.Kernel26.Gen.frame m ρ,
  fun m ρ _ => Cert.Kernel26Ideal.Gen.frame m ρ,
  reference26_frame,
  fun m ρ _ => Cert.Kernel27.Gen.frame m ρ,
  fun m ρ _ => Cert.Kernel27Ideal.Gen.frame m ρ,
  reference27_frame,
  trivial,
  trivial,
  Cert.Proof.Up.algebraic,
  trivial,
  Cert.Proof.DwIn.algebraic,
  trivial,
  Cert.Proof.NormMix.algebraic,
  trivial,
  Cert.Proof.DwDown.algebraic,
  trivial,
  Cert.Proof.FfnDown.algebraic,
  trivial,
  Cert.Proof.ProjIn.algebraic,
  trivial,
  Cert.Proof.DwUp.algebraic,
  trivial,
  Cert.Proof.Merge.algebraic,
  trivial,
  Cert.Proof.MixOut.algebraic,
  trivial,
  Cert.Proof.DwO.algebraic,
  trivial,
  Cert.Proof.Branch.algebraic,
  trivial,
  Cert.Proof.BranchBwd.algebraic,
  trivial,
  Cert.Proof.BranchDw.algebraic,
  trivial,
  Cert.Proof.UpAct.algebraic,
  trivial,
  Cert.Proof.Adam16.algebraic,
  trivial,
  Cert.Proof.Adam17.algebraic,
  trivial,
  Cert.Proof.Adam18.algebraic,
  trivial,
  Cert.Proof.Adam19.algebraic,
  trivial,
  Cert.Proof.Adam20.algebraic,
  trivial,
  Cert.Proof.Adam21.algebraic,
  trivial,
  Cert.Proof.Adam22.algebraic,
  trivial,
  Cert.Proof.Adam23.algebraic,
  trivial,
  Cert.Proof.Adam24.algebraic,
  trivial,
  Cert.Proof.Adam25.algebraic,
  trivial,
  Cert.Proof.NormBwd.algebraic,
  trivial,
  Cert.Proof.Norm.algebraic⟩

end Cert.Proof

end
